-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S1024x200x64 : Shape := ⟨3, ![1024, 200, 64]⟩
abbrev S1024x200 : Shape := ⟨2, ![1024, 200]⟩
abbrev S1024x200x16 : Shape := ⟨3, ![1024, 200, 16]⟩
abbrev S100000x64 : Shape := ⟨2, ![100000, 64]⟩
abbrev S64x16 : Shape := ⟨2, ![64, 16]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : FVec F S1024x200x64 .f32) (main_arg1 : IVec S1024x200 32) (main_arg2 : FVec F S1024x200x16 .f32) (main_arg3 : FVec F S100000x64 .f32) (main_arg4 : FVec F S64x16 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg1 main_v0
  let main_c_0 : IVec S_ 1 := constantI S_ 1 1#1
  let main_v2 : IVec S_ 1 := (fun x v => Host.reduce IntOp.andi x v reducesTo_S1024x200_S_d0_1 h_S_) main_v1 main_c_0
  let main_c_1 : IVec S_ 32 := constantI S_ 32 100000#32
  let main_v3 : IVec S1024x200 32 := broadcastInDim S1024x200 ![] bcast_S_S1024x200 main_c_1
  let main_v4 : IVec S1024x200 1 := cmpi .slt main_arg1 main_v3
  let main_c_2 : IVec S_ 1 := constantI S_ 1 1#1
  let main_v5 : IVec S_ 1 := (fun x v => Host.reduce IntOp.andi x v reducesTo_S1024x200_S_d0_1 h_S_) main_v4 main_c_2
  let main_v6 : IVec S_ 1 := andi main_v2 main_v5
  main_v6
-- ==== Kernel.lean ====
abbrev S1024x200x64 : Shape := ⟨3, ![1024, 200, 64]⟩
abbrev S1024x200 : Shape := ⟨2, ![1024, 200]⟩
abbrev S1024x200x16 : Shape := ⟨3, ![1024, 200, 16]⟩
abbrev S100000x64 : Shape := ⟨2, ![100000, 64]⟩
abbrev S64x16 : Shape := ⟨2, ![64, 16]⟩
abbrev S200x64x1024 : Shape := ⟨3, ![200, 64, 1024]⟩
abbrev S200x16x1024 : Shape := ⟨3, ![200, 16, 1024]⟩
abbrev S200x1024 : Shape := ⟨2, ![200, 1024]⟩
abbrev S1x204800 : Shape := ⟨2, ![1, 204800]⟩
abbrev S64x100000 : Shape := ⟨2, ![64, 100000]⟩
abbrev S_ : Shape := ⟨0, ![]⟩
abbrev S64x100096 : Shape := ⟨2, ![64, 100096]⟩
abbrev S100096x128 : Shape := ⟨2, ![100096, 128]⟩
abbrev S64x4352 : Shape := ⟨2, ![64, 4352]⟩
abbrev S4352x128 : Shape := ⟨2, ![4352, 128]⟩
abbrev S64x64 : Shape := ⟨2, ![64, 64]⟩
abbrev S4352x64 : Shape := ⟨2, ![4352, 64]⟩
abbrev S1x53248 : Shape := ⟨2, ![1, 53248]⟩
abbrev S53248x128 : Shape := ⟨2, ![53248, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S52x1024x128 : Shape := ⟨3, ![52, 1024, 128]⟩
abbrev S1x45056 : Shape := ⟨2, ![1, 45056]⟩
abbrev S45056x128 : Shape := ⟨2, ![45056, 128]⟩
abbrev S44x1024x128 : Shape := ⟨3, ![44, 1024, 128]⟩
abbrev S4x64x1024 : Shape := ⟨3, ![4, 64, 1024]⟩
abbrev S4x1024x128 : Shape := ⟨3, ![4, 1024, 128]⟩
abbrev S4x16x1024 : Shape := ⟨3, ![4, 16, 1024]⟩
abbrev S1x1024x64 : Shape := ⟨3, ![1, 1024, 64]⟩
abbrev S1024x64 : Shape := ⟨2, ![1024, 64]⟩
abbrev S64x1024 : Shape := ⟨2, ![64, 1024]⟩
abbrev S1x16x1024 : Shape := ⟨3, ![1, 16, 1024]⟩
abbrev S16x1024 : Shape := ⟨2, ![16, 1024]⟩
abbrev S1x64x1024 : Shape := ⟨3, ![1, 64, 1024]⟩

abbrev nBuf : Table → Nat
  | .hbm => 31
  | .local .tc .vmem => 40
  | .local .scVector .vmem => 8
  | _ => 0

abbrev bufTy : (tb : Table) → Fin (nBuf tb) → BufTy
  | .hbm, ⟨0, _⟩ => ⟨S1024x200x64, .f32⟩
  | .hbm, ⟨1, _⟩ => ⟨S1024x200, .i32⟩
  | .hbm, ⟨2, _⟩ => ⟨S1024x200x16, .f32⟩
  | .hbm, ⟨3, _⟩ => ⟨S100000x64, .f32⟩
  | .hbm, ⟨4, _⟩ => ⟨S64x16, .f32⟩
  | .hbm, ⟨5, _⟩ => ⟨S200x64x1024, .f32⟩
  | .hbm, ⟨6, _⟩ => ⟨S200x16x1024, .f32⟩
  | .hbm, ⟨7, _⟩ => ⟨S200x1024, .i32⟩
  | .hbm, ⟨8, _⟩ => ⟨S1x204800, .i32⟩
  | .hbm, ⟨9, _⟩ => ⟨S64x100000, .f32⟩
  | .hbm, ⟨10, _⟩ => ⟨S_, .i32⟩
  | .hbm, ⟨11, _⟩ => ⟨S_, .f32⟩
  | .hbm, ⟨12, _⟩ => ⟨S64x100096, .f32⟩
  | .hbm, ⟨13, _⟩ => ⟨S100096x128, .f32⟩
  | .hbm, ⟨14, _⟩ => ⟨S1x53248, .i32⟩
  | .hbm, ⟨15, _⟩ => ⟨S53248x128, .f32⟩
  | .hbm, ⟨16, _⟩ => ⟨S52x1024x128, .f32⟩
  | .hbm, ⟨17, _⟩ => ⟨S1x53248, .i32⟩
  | .hbm, ⟨18, _⟩ => ⟨S53248x128, .f32⟩
  | .hbm, ⟨19, _⟩ => ⟨S52x1024x128, .f32⟩
  | .hbm, ⟨20, _⟩ => ⟨S1x53248, .i32⟩
  | .hbm, ⟨21, _⟩ => ⟨S53248x128, .f32⟩
  | .hbm, ⟨22, _⟩ => ⟨S52x1024x128, .f32⟩
  | .hbm, ⟨23, _⟩ => ⟨S1x45056, .i32⟩
  | .hbm, ⟨24, _⟩ => ⟨S45056x128, .f32⟩
  | .hbm, ⟨25, _⟩ => ⟨S44x1024x128, .f32⟩
  | .hbm, ⟨26, _⟩ => ⟨S200x64x1024, .f32⟩
  | .hbm, ⟨27, _⟩ => ⟨S200x64x1024, .f32⟩
  | .hbm, ⟨28, _⟩ => ⟨S200x64x1024, .f32⟩
  | .hbm, ⟨29, _⟩ => ⟨S200x64x1024, .f32⟩
  | .hbm, ⟨30, _⟩ => ⟨S1024x200x64, .f32⟩
  | .local .tc .vmem, ⟨0, _⟩ => ⟨S64x4352, .f32⟩
  | .local .tc .vmem, ⟨1, _⟩ => ⟨S64x4352, .f32⟩
  | .local .tc .vmem, ⟨2, _⟩ => ⟨S4352x128, .f32⟩
  | .local .tc .vmem, ⟨3, _⟩ => ⟨S4352x128, .f32⟩
  | .local .tc .vmem, ⟨4, _⟩ => ⟨S4x64x1024, .f32⟩
  | .local .tc .vmem, ⟨5, _⟩ => ⟨S4x64x1024, .f32⟩
  | .local .tc .vmem, ⟨6, _⟩ => ⟨S4x1024x128, .f32⟩
  | .local .tc .vmem, ⟨7, _⟩ => ⟨S4x1024x128, .f32⟩
  | .local .tc .vmem, ⟨8, _⟩ => ⟨S4x16x1024, .f32⟩
  | .local .tc .vmem, ⟨9, _⟩ => ⟨S4x16x1024, .f32⟩
  | .local .tc .vmem, ⟨10, _⟩ => ⟨S64x16, .f32⟩
  | .local .tc .vmem, ⟨11, _⟩ => ⟨S4x64x1024, .f32⟩
  | .local .tc .vmem, ⟨12, _⟩ => ⟨S4x64x1024, .f32⟩
  | .local .tc .vmem, ⟨13, _⟩ => ⟨S4x64x1024, .f32⟩
  | .local .tc .vmem, ⟨14, _⟩ => ⟨S4x64x1024, .f32⟩
  | .local .tc .vmem, ⟨15, _⟩ => ⟨S4x1024x128, .f32⟩
  | .local .tc .vmem, ⟨16, _⟩ => ⟨S4x1024x128, .f32⟩
  | .local .tc .vmem, ⟨17, _⟩ => ⟨S4x16x1024, .f32⟩
  | .local .tc .vmem, ⟨18, _⟩ => ⟨S4x16x1024, .f32⟩
  | .local .tc .vmem, ⟨19, _⟩ => ⟨S64x16, .f32⟩
  | .local .tc .vmem, ⟨20, _⟩ => ⟨S4x64x1024, .f32⟩
  | .local .tc .vmem, ⟨21, _⟩ => ⟨S4x64x1024, .f32⟩
  | .local .tc .vmem, ⟨22, _⟩ => ⟨S4x64x1024, .f32⟩
  | .local .tc .vmem, ⟨23, _⟩ => ⟨S4x64x1024, .f32⟩
  | .local .tc .vmem, ⟨24, _⟩ => ⟨S4x1024x128, .f32⟩
  | .local .tc .vmem, ⟨25, _⟩ => ⟨S4x1024x128, .f32⟩
  | .local .tc .vmem, ⟨26, _⟩ => ⟨S4x16x1024, .f32⟩
  | .local .tc .vmem, ⟨27, _⟩ => ⟨S4x16x1024, .f32⟩
  | .local .tc .vmem, ⟨28, _⟩ => ⟨S64x16, .f32⟩
  | .local .tc .vmem, ⟨29, _⟩ => ⟨S4x64x1024, .f32⟩
  | .local .tc .vmem, ⟨30, _⟩ => ⟨S4x64x1024, .f32⟩
  | .local .tc .vmem, ⟨31, _⟩ => ⟨S4x64x1024, .f32⟩
  | .local .tc .vmem, ⟨32, _⟩ => ⟨S4x64x1024, .f32⟩
  | .local .tc .vmem, ⟨33, _⟩ => ⟨S4x1024x128, .f32⟩
  | .local .tc .vmem, ⟨34, _⟩ => ⟨S4x1024x128, .f32⟩
  | .local .tc .vmem, ⟨35, _⟩ => ⟨S4x16x1024, .f32⟩
  | .local .tc .vmem, ⟨36, _⟩ => ⟨S4x16x1024, .f32⟩
  | .local .tc .vmem, ⟨37, _⟩ => ⟨S64x16, .f32⟩
  | .local .tc .vmem, ⟨38, _⟩ => ⟨S4x64x1024, .f32⟩
  | .local .tc .vmem, ⟨39, _⟩ => ⟨S4x64x1024, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | _, _ => ⟨S1024x200x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 60 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTables nBuf rfl bufTy 4 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v6_scv : Ref sig .scVector := ⟨.hbm, 13, rfl⟩
abbrev main_v7_scv : Ref sig .scVector := ⟨.hbm, 14, rfl⟩
abbrev main_v8_scv : Ref sig .scVector := ⟨.hbm, 15, rfl⟩
abbrev main_v10_scv : Ref sig .scVector := ⟨.hbm, 17, rfl⟩
abbrev main_v11_scv : Ref sig .scVector := ⟨.hbm, 18, rfl⟩
abbrev main_v13_scv : Ref sig .scVector := ⟨.hbm, 20, rfl⟩
abbrev main_v14_scv : Ref sig .scVector := ⟨.hbm, 21, rfl⟩
abbrev main_v16_scv : Ref sig .scVector := ⟨.hbm, 23, rfl⟩
abbrev main_v17_scv : Ref sig .scVector := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc5_stg0_0 : Ref sig .tc := ⟨.vmem, 4, rfl⟩
abbrev cc5_stg0_1 : Ref sig .tc := ⟨.vmem, 5, rfl⟩
abbrev cc5_stg1_0 : Ref sig .tc := ⟨.vmem, 6, rfl⟩
abbrev cc5_stg1_1 : Ref sig .tc := ⟨.vmem, 7, rfl⟩
abbrev cc5_stg2_0 : Ref sig .tc := ⟨.vmem, 8, rfl⟩
abbrev cc5_stg2_1 : Ref sig .tc := ⟨.vmem, 9, rfl⟩
abbrev cc5_stg3_0 : Ref sig .tc := ⟨.vmem, 10, rfl⟩
abbrev cc5_stg4_0 : Ref sig .tc := ⟨.vmem, 11, rfl⟩
abbrev cc5_stg4_1 : Ref sig .tc := ⟨.vmem, 12, rfl⟩
abbrev cc6_stg0_0 : Ref sig .tc := ⟨.vmem, 13, rfl⟩
abbrev cc6_stg0_1 : Ref sig .tc := ⟨.vmem, 14, rfl⟩
abbrev cc6_stg1_0 : Ref sig .tc := ⟨.vmem, 15, rfl⟩
abbrev cc6_stg1_1 : Ref sig .tc := ⟨.vmem, 16, rfl⟩
abbrev cc6_stg2_0 : Ref sig .tc := ⟨.vmem, 17, rfl⟩
abbrev cc6_stg2_1 : Ref sig .tc := ⟨.vmem, 18, rfl⟩
abbrev cc6_stg3_0 : Ref sig .tc := ⟨.vmem, 19, rfl⟩
abbrev cc6_stg4_0 : Ref sig .tc := ⟨.vmem, 20, rfl⟩
abbrev cc6_stg4_1 : Ref sig .tc := ⟨.vmem, 21, rfl⟩
abbrev cc7_stg0_0 : Ref sig .tc := ⟨.vmem, 22, rfl⟩
abbrev cc7_stg0_1 : Ref sig .tc := ⟨.vmem, 23, rfl⟩
abbrev cc7_stg1_0 : Ref sig .tc := ⟨.vmem, 24, rfl⟩
abbrev cc7_stg1_1 : Ref sig .tc := ⟨.vmem, 25, rfl⟩
abbrev cc7_stg2_0 : Ref sig .tc := ⟨.vmem, 26, rfl⟩
abbrev cc7_stg2_1 : Ref sig .tc := ⟨.vmem, 27, rfl⟩
abbrev cc7_stg3_0 : Ref sig .tc := ⟨.vmem, 28, rfl⟩
abbrev cc7_stg4_0 : Ref sig .tc := ⟨.vmem, 29, rfl⟩
abbrev cc7_stg4_1 : Ref sig .tc := ⟨.vmem, 30, rfl⟩
abbrev cc8_stg0_0 : Ref sig .tc := ⟨.vmem, 31, rfl⟩
abbrev cc8_stg0_1 : Ref sig .tc := ⟨.vmem, 32, rfl⟩
abbrev cc8_stg1_0 : Ref sig .tc := ⟨.vmem, 33, rfl⟩
abbrev cc8_stg1_1 : Ref sig .tc := ⟨.vmem, 34, rfl⟩
abbrev cc8_stg2_0 : Ref sig .tc := ⟨.vmem, 35, rfl⟩
abbrev cc8_stg2_1 : Ref sig .tc := ⟨.vmem, 36, rfl⟩
abbrev cc8_stg3_0 : Ref sig .tc := ⟨.vmem, 37, rfl⟩
abbrev cc8_stg4_0 : Ref sig .tc := ⟨.vmem, 38, rfl⟩
abbrev cc8_stg4_1 : Ref sig .tc := ⟨.vmem, 39, rfl⟩
abbrev cc1_scoped0 : Ref sig .scVector := ⟨.vmem, 0, rfl⟩
abbrev cc1_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc3_scoped0 : Ref sig .scVector := ⟨.vmem, 4, rfl⟩
abbrev cc3_scoped2 : Ref sig .scVector := ⟨.vmem, 5, rfl⟩
abbrev cc4_scoped0 : Ref sig .scVector := ⟨.vmem, 6, rfl⟩
abbrev cc4_scoped2 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc5_sem2_1 : DmaSem sig := 29
abbrev cc5_sem3_0 : DmaSem sig := 30
abbrev cc5_sem4_0 : DmaSem sig := 31
abbrev cc5_sem4_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc6_sem3_0 : DmaSem sig := 39
abbrev cc6_sem4_0 : DmaSem sig := 40
abbrev cc6_sem4_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc7_sem3_0 : DmaSem sig := 48
abbrev cc7_sem4_0 : DmaSem sig := 49
abbrev cc7_sem4_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56
abbrev cc8_sem3_0 : DmaSem sig := 57
abbrev cc8_sem4_0 : DmaSem sig := 58
abbrev cc8_sem4_1 : DmaSem sig := 59
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c13_i32_27_r0 : BitVec 32 := 13#32
  let v32_r0 : BitVec 32 := Scalar.addi c0_i32_26_r0 c13_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c12_i32_68_r0 : BitVec 32 := 12#32
  let v83_r0 : BitVec 1 := Scalar.cmpi .sge arg5_r0 c12_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c12_i32_55_r0 : BitVec 32 := 12#32
  let v65_r0 : BitVec 1 := Scalar.cmpi .eq arg5_r0 c12_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x53248.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x53248.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S53248x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S53248x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x53248.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x53248.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S53248x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S53248x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c12_i32_33_r0 : BitVec 32 := 12#32
  let v37_r0 : BitVec 32 := Scalar.select v36_r0 c12_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S53248x128.size a)
theorem k1_off19_inb : ∀ (i : grid1.Coords) (v33_4_r0 : BitVec 32) (k1_hw5 : k1_chk5 i v33_4_r0), ∀ a, (k1_off19 i v33_4_r0) a + S128x128.size a ≤ S53248x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨2, ![2, 16], ![false, false]⟩

def k2_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k2_off2 (i : grid2.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v7_r0 : BitVec 32 := Scalar.addi c0_i32_1_r0 v4
  let v22_r0 : BitVec 32 := Scalar.muli c128_i32_r0 v7_r0
  ![0, v22_r0.toNat]
def k2_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k2_t1_loop : Scf.Loop 32 :=
  let c0_i32_26_r0 : BitVec 32 := 0#32
  let c13_i32_27_r0 : BitVec 32 := 13#32
  let v32_r0 : BitVec 32 := Scalar.addi c0_i32_26_r0 c13_i32_27_r0
  let c1_i32_28_r0 : BitVec 32 := 1#32
  ⟨c0_i32_26_r0, v32_r0, c1_i32_28_r0⟩
def k2_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c12_i32_68_r0 : BitVec 32 := 12#32
  let v83_r0 : BitVec 1 := Scalar.cmpi .sge arg5_r0 c12_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k2_off5 (i : grid2.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v76_r0 : BitVec 32 := Scalar.addi v75_r0 v4
  let v145_r0 : BitVec 32 := Scalar.muli c128_i32_100_r0 v76_r0
  ![0, v145_r0.toNat]
def k2_off6 (arg6_r0 : BitVec 32) : Fin 1 → Nat :=
  let c2_i32_99_r0 : BitVec 32 := 2#32
  let v144_r0 : BitVec 32 := Scalar.remui arg6_r0 c2_i32_99_r0
  ![v144_r0.toNat]
def k2_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k2_off8 (i : grid2.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let v144_r0 : BitVec 32 := Scalar.muli c128_i32_99_r0 v66_r0
  ![0, v144_r0.toNat]
def k2_off9 (arg7_r0 : BitVec 32) : Fin 1 → Nat :=
  let c2_i32_100_r0 : BitVec 32 := 2#32
  let v145_r0 : BitVec 32 := Scalar.remui arg7_r0 c2_i32_100_r0
  ![v145_r0.toNat]
def k2_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k2_chk2 (arg8_r0 : BitVec 32) : Prop :=
  (∀ a, (k2_off10 arg8_r0) a + S1x128x128.size a ≤ S2x128x128.size a)
theorem k2_off10_inb : ∀ (arg8_r0 : BitVec 32) (k2_hw2 : k2_chk2 arg8_r0), ∀ a, (k2_off10 arg8_r0) a + S1x128x128.size a ≤ S2x128x128.size a := fun arg8_r0 k2_hw2 => k2_hw2

def k2_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k2_chk3 (arg7_r0 : BitVec 32) : Prop :=
  (∀ a, (k2_off11 arg7_r0) a + S1x1x128.size a ≤ S2x1x128.size a)
theorem k2_off11_inb : ∀ (arg7_r0 : BitVec 32) (k2_hw3 : k2_chk3 arg7_r0), ∀ a, (k2_off11 arg7_r0) a + S1x1x128.size a ≤ S2x1x128.size a := fun arg7_r0 k2_hw3 => k2_hw3

def k2_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c12_i32_55_r0 : BitVec 32 := 12#32
  let v65_r0 : BitVec 1 := Scalar.cmpi .eq arg5_r0 c12_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k2_off13 (i : grid2.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k2_off14 (arg8_r0 : BitVec 32) : Fin 1 → Nat :=
  let c2_i32_99_r0 : BitVec 32 := 2#32
  let v144_r0 : BitVec 32 := Scalar.remui arg8_r0 c2_i32_99_r0
  ![v144_r0.toNat]
def k2_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k2_off16 (i : grid2.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v71_r0 : BitVec 32 := Scalar.addi v70_r0 v4
  let v145_r0 : BitVec 32 := Scalar.muli c128_i32_100_r0 v71_r0
  let c0_i32_103_r0 : BitVec 32 := 0#32
  ![v145_r0.toNat, 0]
def k2_off17 (arg9_r0 : BitVec 32) : Fin 1 → Nat :=
  let c2_i32_99_r0 : BitVec 32 := 2#32
  let v144_r0 : BitVec 32 := Scalar.remui arg9_r0 c2_i32_99_r0
  ![v144_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S1x1x128.size a ≤ S2x1x128.size a) ∧
  (∀ (k2_h1 : k2_cond1 i k2_t1 arg10_r0 = 1#1), ∀ a, (k2_off5 i arg10_r0) a + S1x128.size a ≤ S1x53248.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S1x1x128.size a ≤ S2x1x128.size a) ∧
  (∀ (k2_h2 : k2_cond2 i k2_t1 arg10_r0 = 1#1), ∀ a, (k2_off8 i arg10_r0) a + S1x128.size a ≤ S1x53248.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x128x128.size a ≤ S2x128x128.size a) ∧
  (∀ (k2_h5 : k2_cond5 i k2_t1 arg10_r0 = 1#1), ∀ a, (k2_off13 i arg10_r0) a + S128x128.size a ≤ S53248x128.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x128x128.size a ≤ S2x128x128.size a) ∧
  (∀ (k2_h7 : k2_cond7 i k2_t1 arg10_r0 = 1#1), ∀ a, (k2_off16 i arg10_r0) a + S128x128.size a ≤ S53248x128.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S1x1x128.size a ≤ S2x1x128.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S1x128.size a ≤ S1x53248.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S1x1x128.size a ≤ S2x1x128.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S1x128.size a ≤ S1x53248.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x128x128.size a ≤ S2x128x128.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S128x128.size a ≤ S53248x128.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x128x128.size a ≤ S2x128x128.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S128x128.size a ≤ S53248x128.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k2_off19 (i : grid2.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c12_i32_33_r0 : BitVec 32 := 12#32
  let v37_r0 : BitVec 32 := Scalar.select v36_r0 c12_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v38_r0 : BitVec 32 := Scalar.addi v37_r0 v4
  let v55_r0 : BitVec 32 := Scalar.muli c128_i32_47_r0 v38_r0
  let c0_i32_50_r0 : BitVec 32 := 0#32
  ![v55_r0.toNat, 0]

def k2_chk5 (i : grid2.Coords) (v33_4_r0 : BitVec 32) : Prop :=
  (∀ a, (k2_off19 i v33_4_r0) a + S128x128.size a ≤ S53248x128.size a)
theorem k2_off19_inb : ∀ (i : grid2.Coords) (v33_4_r0 : BitVec 32) (k2_hw5 : k2_chk5 i v33_4_r0), ∀ a, (k2_off19 i v33_4_r0) a + S128x128.size a ≤ S53248x128.size a := fun i v33_4_r0 k2_hw5 => k2_hw5

def k2_off20 (v33_3_r0 : BitVec 32) : Fin 1 → Nat :=
  let c2_i32_46_r0 : BitVec 32 := 2#32
  let v54_r0 : BitVec 32 := Scalar.remui v33_3_r0 c2_i32_46_r0
  ![v54_r0.toNat]
def k2_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k2_chk4 (v33_3_r0 : BitVec 32) : Prop :=
  (∀ a, (k2_off18 v33_3_r0) a + S1x128x128.size a ≤ S2x128x128.size a) ∧
  (∀ a, (k2_off20 v33_3_r0) a + S1.size a ≤ S2.size a) ∧
  (∀ a, (k2_off21 v33_3_r0) a + S1x128x128.size a ≤ S2x128x128.size a)
theorem k2_off18_inb : ∀ (v33_3_r0 : BitVec 32) (k2_hw4 : k2_chk4 v33_3_r0), ∀ a, (k2_off18 v33_3_r0) a + S1x128x128.size a ≤ S2x128x128.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x128x128.size a ≤ S2x128x128.size a := fun v33_3_r0 k2_hw4 => k2_hw4.2.2

abbrev grid3 : Pipeline.Grid := ⟨2, ![2, 16], ![false, false]⟩

def k3_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k3_off2 (i : grid3.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v7_r0 : BitVec 32 := Scalar.addi c0_i32_1_r0 v4
  let v22_r0 : BitVec 32 := Scalar.muli c128_i32_r0 v7_r0
  ![0, v22_r0.toNat]
def k3_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k3_t1_loop : Scf.Loop 32 :=
  let c0_i32_26_r0 : BitVec 32 := 0#32
  let c13_i32_27_r0 : BitVec 32 := 13#32
  let v32_r0 : BitVec 32 := Scalar.addi c0_i32_26_r0 c13_i32_27_r0
  let c1_i32_28_r0 : BitVec 32 := 1#32
  ⟨c0_i32_26_r0, v32_r0, c1_i32_28_r0⟩
def k3_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k3_cond1 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c12_i32_68_r0 : BitVec 32 := 12#32
  let v83_r0 : BitVec 1 := Scalar.cmpi .sge arg5_r0 c12_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k3_off5 (i : grid3.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v76_r0 : BitVec 32 := Scalar.addi v75_r0 v4
  let v145_r0 : BitVec 32 := Scalar.muli c128_i32_100_r0 v76_r0
  ![0, v145_r0.toNat]
def k3_off6 (arg6_r0 : BitVec 32) : Fin 1 → Nat :=
  let c2_i32_99_r0 : BitVec 32 := 2#32
  let v144_r0 : BitVec 32 := Scalar.remui arg6_r0 c2_i32_99_r0
  ![v144_r0.toNat]
def k3_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k3_cond2 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k3_off8 (i : grid3.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let v144_r0 : BitVec 32 := Scalar.muli c128_i32_99_r0 v66_r0
  ![0, v144_r0.toNat]
def k3_off9 (arg7_r0 : BitVec 32) : Fin 1 → Nat :=
  let c2_i32_100_r0 : BitVec 32 := 2#32
  let v145_r0 : BitVec 32 := Scalar.remui arg7_r0 c2_i32_100_r0
  ![v145_r0.toNat]
def k3_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k3_chk2 (arg8_r0 : BitVec 32) : Prop :=
  (∀ a, (k3_off10 arg8_r0) a + S1x128x128.size a ≤ S2x128x128.size a)
theorem k3_off10_inb : ∀ (arg8_r0 : BitVec 32) (k3_hw2 : k3_chk2 arg8_r0), ∀ a, (k3_off10 arg8_r0) a + S1x128x128.size a ≤ S2x128x128.size a := fun arg8_r0 k3_hw2 => k3_hw2

def k3_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k3_chk3 (arg7_r0 : BitVec 32) : Prop :=
  (∀ a, (k3_off11 arg7_r0) a + S1x1x128.size a ≤ S2x1x128.size a)
theorem k3_off11_inb : ∀ (arg7_r0 : BitVec 32) (k3_hw3 : k3_chk3 arg7_r0), ∀ a, (k3_off11 arg7_r0) a + S1x1x128.size a ≤ S2x1x128.size a := fun arg7_r0 k3_hw3 => k3_hw3

def k3_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k3_cond5 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c12_i32_55_r0 : BitVec 32 := 12#32
  let v65_r0 : BitVec 1 := Scalar.cmpi .eq arg5_r0 c12_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k3_off13 (i : grid3.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k3_off14 (arg8_r0 : BitVec 32) : Fin 1 → Nat :=
  let c2_i32_99_r0 : BitVec 32 := 2#32
  let v144_r0 : BitVec 32 := Scalar.remui arg8_r0 c2_i32_99_r0
  ![v144_r0.toNat]
def k3_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k3_cond7 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k3_off16 (i : grid3.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v71_r0 : BitVec 32 := Scalar.addi v70_r0 v4
  let v145_r0 : BitVec 32 := Scalar.muli c128_i32_100_r0 v71_r0
  let c0_i32_103_r0 : BitVec 32 := 0#32
  ![v145_r0.toNat, 0]
def k3_off17 (arg9_r0 : BitVec 32) : Fin 1 → Nat :=
  let c2_i32_99_r0 : BitVec 32 := 2#32
  let v144_r0 : BitVec 32 := Scalar.remui arg9_r0 c2_i32_99_r0
  ![v144_r0.toNat]

def k3_chk1 (i : grid3.Coords) (k3_t1 : Fin k3_t1_loop.trips) (arg6_r0 : BitVec 32) (arg7_r0 : BitVec 32) (arg8_r0 : BitVec 32) (arg9_r0 : BitVec 32) (arg10_r0 : BitVec 32) : Prop :=
  (∀ (k3_h1 : k3_cond1 i k3_t1 arg10_r0 = 1#1), ∀ a, (k3_off4 arg6_r0) a + S1x1x128.size a ≤ S2x1x128.size a) ∧
  (∀ (k3_h1 : k3_cond1 i k3_t1 arg10_r0 = 1#1), ∀ a, (k3_off5 i arg10_r0) a + S1x128.size a ≤ S1x53248.size a) ∧
  (∀ (k3_h1 : k3_cond1 i k3_t1 arg10_r0 = 1#1), ∀ a, (k3_off6 arg6_r0) a + S1.size a ≤ S2.size a) ∧
  (∀ (k3_h2 : k3_cond2 i k3_t1 arg10_r0 = 1#1), ∀ a, (k3_off7 arg7_r0) a + S1x1x128.size a ≤ S2x1x128.size a) ∧
  (∀ (k3_h2 : k3_cond2 i k3_t1 arg10_r0 = 1#1), ∀ a, (k3_off8 i arg10_r0) a + S1x128.size a ≤ S1x53248.size a) ∧
  (∀ (k3_h2 : k3_cond2 i k3_t1 arg10_r0 = 1#1), ∀ a, (k3_off9 arg7_r0) a + S1.size a ≤ S2.size a) ∧
  (∀ (k3_h5 : k3_cond5 i k3_t1 arg10_r0 = 1#1), ∀ a, (k3_off12 arg8_r0) a + S1x128x128.size a ≤ S2x128x128.size a) ∧
  (∀ (k3_h5 : k3_cond5 i k3_t1 arg10_r0 = 1#1), ∀ a, (k3_off13 i arg10_r0) a + S128x128.size a ≤ S53248x128.size a) ∧
  (∀ (k3_h5 : k3_cond5 i k3_t1 arg10_r0 = 1#1), ∀ a, (k3_off14 arg8_r0) a + S1.size a ≤ S2.size a) ∧
  (∀ (k3_h7 : k3_cond7 i k3_t1 arg10_r0 = 1#1), ∀ a, (k3_off15 arg9_r0) a + S1x128x128.size a ≤ S2x128x128.size a) ∧
  (∀ (k3_h7 : k3_cond7 i k3_t1 arg10_r0 = 1#1), ∀ a, (k3_off16 i arg10_r0) a + S128x128.size a ≤ S53248x128.size a) ∧
  (∀ (k3_h7 : k3_cond7 i k3_t1 arg10_r0 = 1#1), ∀ a, (k3_off17 arg9_r0) a + S1.size a ≤ S2.size a)
theorem k3_off4_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off4 arg6_r0) a + S1x1x128.size a ≤ S2x1x128.size a := fun i k3_t1 arg6_r0 arg7_r0 arg8_r0 arg9_r0 arg10_r0 k3_hw1 k3_h1 => k3_hw1.1 k3_h1
theorem k3_off5_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off5 i arg10_r0) a + S1x128.size a ≤ S1x53248.size a := fun i k3_t1 arg6_r0 arg7_r0 arg8_r0 arg9_r0 arg10_r0 k3_hw1 k3_h1 => k3_hw1.2.1 k3_h1
theorem k3_off6_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off6 arg6_r0) a + S1.size a ≤ S2.size a := fun i k3_t1 arg6_r0 arg7_r0 arg8_r0 arg9_r0 arg10_r0 k3_hw1 k3_h1 => k3_hw1.2.2.1 k3_h1
theorem k3_off7_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off7 arg7_r0) a + S1x1x128.size a ≤ S2x1x128.size a := fun i k3_t1 arg6_r0 arg7_r0 arg8_r0 arg9_r0 arg10_r0 k3_hw1 k3_h2 => k3_hw1.2.2.2.1 k3_h2
theorem k3_off8_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off8 i arg10_r0) a + S1x128.size a ≤ S1x53248.size a := fun i k3_t1 arg6_r0 arg7_r0 arg8_r0 arg9_r0 arg10_r0 k3_hw1 k3_h2 => k3_hw1.2.2.2.2.1 k3_h2
theorem k3_off9_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off9 arg7_r0) a + S1.size a ≤ S2.size a := fun i k3_t1 arg6_r0 arg7_r0 arg8_r0 arg9_r0 arg10_r0 k3_hw1 k3_h2 => k3_hw1.2.2.2.2.2.1 k3_h2
theorem k3_off12_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off12 arg8_r0) a + S1x128x128.size a ≤ S2x128x128.size a := fun i k3_t1 arg6_r0 arg7_r0 arg8_r0 arg9_r0 arg10_r0 k3_hw1 k3_h5 => k3_hw1.2.2.2.2.2.2.1 k3_h5
theorem k3_off13_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off13 i arg10_r0) a + S128x128.size a ≤ S53248x128.size a := fun i k3_t1 arg6_r0 arg7_r0 arg8_r0 arg9_r0 arg10_r0 k3_hw1 k3_h5 => k3_hw1.2.2.2.2.2.2.2.1 k3_h5
theorem k3_off14_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off14 arg8_r0) a + S1.size a ≤ S2.size a := fun i k3_t1 arg6_r0 arg7_r0 arg8_r0 arg9_r0 arg10_r0 k3_hw1 k3_h5 => k3_hw1.2.2.2.2.2.2.2.2.1 k3_h5
theorem k3_off15_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off15 arg9_r0) a + S1x128x128.size a ≤ S2x128x128.size a := fun i k3_t1 arg6_r0 arg7_r0 arg8_r0 arg9_r0 arg10_r0 k3_hw1 k3_h7 => k3_hw1.2.2.2.2.2.2.2.2.2.1 k3_h7
theorem k3_off16_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off16 i arg10_r0) a + S128x128.size a ≤ S53248x128.size a := fun i k3_t1 arg6_r0 arg7_r0 arg8_r0 arg9_r0 arg10_r0 k3_hw1 k3_h7 => k3_hw1.2.2.2.2.2.2.2.2.2.2.1 k3_h7
theorem k3_off17_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off17 arg9_r0) a + S1.size a ≤ S2.size a := fun i k3_t1 arg6_r0 arg7_r0 arg8_r0 arg9_r0 arg10_r0 k3_hw1 k3_h7 => k3_hw1.2.2.2.2.2.2.2.2.2.2.2 k3_h7

def k3_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k3_off19 (i : grid3.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c12_i32_33_r0 : BitVec 32 := 12#32
  let v37_r0 : BitVec 32 := Scalar.select v36_r0 c12_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v38_r0 : BitVec 32 := Scalar.addi v37_r0 v4
  let v55_r0 : BitVec 32 := Scalar.muli c128_i32_47_r0 v38_r0
  let c0_i32_50_r0 : BitVec 32 := 0#32
  ![v55_r0.toNat, 0]

def k3_chk5 (i : grid3.Coords) (v33_4_r0 : BitVec 32) : Prop :=
  (∀ a, (k3_off19 i v33_4_r0) a + S128x128.size a ≤ S53248x128.size a)
theorem k3_off19_inb : ∀ (i : grid3.Coords) (v33_4_r0 : BitVec 32) (k3_hw5 : k3_chk5 i v33_4_r0), ∀ a, (k3_off19 i v33_4_r0) a + S128x128.size a ≤ S53248x128.size a := fun i v33_4_r0 k3_hw5 => k3_hw5

def k3_off20 (v33_3_r0 : BitVec 32) : Fin 1 → Nat :=
  let c2_i32_46_r0 : BitVec 32 := 2#32
  let v54_r0 : BitVec 32 := Scalar.remui v33_3_r0 c2_i32_46_r0
  ![v54_r0.toNat]
def k3_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k3_chk4 (v33_3_r0 : BitVec 32) : Prop :=
  (∀ a, (k3_off18 v33_3_r0) a + S1x128x128.size a ≤ S2x128x128.size a) ∧
  (∀ a, (k3_off20 v33_3_r0) a + S1.size a ≤ S2.size a) ∧
  (∀ a, (k3_off21 v33_3_r0) a + S1x128x128.size a ≤ S2x128x128.size a)
theorem k3_off18_inb : ∀ (v33_3_r0 : BitVec 32) (k3_hw4 : k3_chk4 v33_3_r0), ∀ a, (k3_off18 v33_3_r0) a + S1x128x128.size a ≤ S2x128x128.size a := fun v33_3_r0 k3_hw4 => k3_hw4.1
theorem k3_off20_inb : ∀ (v33_3_r0 : BitVec 32) (k3_hw4 : k3_chk4 v33_3_r0), ∀ a, (k3_off20 v33_3_r0) a + S1.size a ≤ S2.size a := fun v33_3_r0 k3_hw4 => k3_hw4.2.1
theorem k3_off21_inb : ∀ (v33_3_r0 : BitVec 32) (k3_hw4 : k3_chk4 v33_3_r0), ∀ a, (k3_off21 v33_3_r0) a + S1x128x128.size a ≤ S2x128x128.size a := fun v33_3_r0 k3_hw4 => k3_hw4.2.2

abbrev grid4 : Pipeline.Grid := ⟨2, ![2, 16], ![false, false]⟩

def k4_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k4_off2 (i : grid4.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v7_r0 : BitVec 32 := Scalar.addi c0_i32_1_r0 v4
  let v22_r0 : BitVec 32 := Scalar.muli c128_i32_r0 v7_r0
  ![0, v22_r0.toNat]
def k4_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k4_t1_loop : Scf.Loop 32 :=
  let c0_i32_26_r0 : BitVec 32 := 0#32
  let c11_i32_27_r0 : BitVec 32 := 11#32
  let v32_r0 : BitVec 32 := Scalar.addi c0_i32_26_r0 c11_i32_27_r0
  let c1_i32_28_r0 : BitVec 32 := 1#32
  ⟨c0_i32_26_r0, v32_r0, c1_i32_28_r0⟩
def k4_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k4_cond1 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c11_i32_62_r0 : BitVec 32 := 11#32
  let v74_r0 : BitVec 1 := Scalar.cmpi .eq v73_r0 c11_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k4_t1
  let c10_i32_68_r0 : BitVec 32 := 10#32
  let v83_r0 : BitVec 1 := Scalar.cmpi .sge arg5_r0 c10_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k4_off5 (i : grid4.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c11_i32_62_r0 : BitVec 32 := 11#32
  let v74_r0 : BitVec 1 := Scalar.cmpi .eq v73_r0 c11_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v76_r0 : BitVec 32 := Scalar.addi v75_r0 v4
  let v145_r0 : BitVec 32 := Scalar.muli c128_i32_100_r0 v76_r0
  ![0, v145_r0.toNat]
def k4_off6 (arg6_r0 : BitVec 32) : Fin 1 → Nat :=
  let c2_i32_99_r0 : BitVec 32 := 2#32
  let v144_r0 : BitVec 32 := Scalar.remui arg6_r0 c2_i32_99_r0
  ![v144_r0.toNat]
def k4_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k4_cond2 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c10_i32_59_r0 : BitVec 32 := 10#32
  let v70_r0 : BitVec 32 := Scalar.select v69_r0 c10_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k4_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k4_off8 (i : grid4.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v66_r0 : BitVec 32 := Scalar.addi arg10_r0 v4
  let v144_r0 : BitVec 32 := Scalar.muli c128_i32_99_r0 v66_r0
  ![0, v144_r0.toNat]
def k4_off9 (arg7_r0 : BitVec 32) : Fin 1 → Nat :=
  let c2_i32_100_r0 : BitVec 32 := 2#32
  let v145_r0 : BitVec 32 := Scalar.remui arg7_r0 c2_i32_100_r0
  ![v145_r0.toNat]
def k4_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k4_chk2 (arg8_r0 : BitVec 32) : Prop :=
  (∀ a, (k4_off10 arg8_r0) a + S1x128x128.size a ≤ S2x128x128.size a)
theorem k4_off10_inb : ∀ (arg8_r0 : BitVec 32) (k4_hw2 : k4_chk2 arg8_r0), ∀ a, (k4_off10 arg8_r0) a + S1x128x128.size a ≤ S2x128x128.size a := fun arg8_r0 k4_hw2 => k4_hw2

def k4_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k4_chk3 (arg7_r0 : BitVec 32) : Prop :=
  (∀ a, (k4_off11 arg7_r0) a + S1x1x128.size a ≤ S2x1x128.size a)
theorem k4_off11_inb : ∀ (arg7_r0 : BitVec 32) (k4_hw3 : k4_chk3 arg7_r0), ∀ a, (k4_off11 arg7_r0) a + S1x1x128.size a ≤ S2x1x128.size a := fun arg7_r0 k4_hw3 => k4_hw3

def k4_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k4_cond5 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c11_i32_62_r0 : BitVec 32 := 11#32
  let v74_r0 : BitVec 1 := Scalar.cmpi .eq v73_r0 c11_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k4_t1
  let c10_i32_55_r0 : BitVec 32 := 10#32
  let v65_r0 : BitVec 1 := Scalar.cmpi .eq arg5_r0 c10_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k4_off13 (i : grid4.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k4_off14 (arg8_r0 : BitVec 32) : Fin 1 → Nat :=
  let c2_i32_99_r0 : BitVec 32 := 2#32
  let v144_r0 : BitVec 32 := Scalar.remui arg8_r0 c2_i32_99_r0
  ![v144_r0.toNat]
def k4_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k4_cond7 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c10_i32_59_r0 : BitVec 32 := 10#32
  let v70_r0 : BitVec 32 := Scalar.select v69_r0 c10_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k4_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k4_off16 (i : grid4.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c10_i32_59_r0 : BitVec 32 := 10#32
  let v70_r0 : BitVec 32 := Scalar.select v69_r0 c10_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v71_r0 : BitVec 32 := Scalar.addi v70_r0 v4
  let v145_r0 : BitVec 32 := Scalar.muli c128_i32_100_r0 v71_r0
  let c0_i32_103_r0 : BitVec 32 := 0#32
  ![v145_r0.toNat, 0]
def k4_off17 (arg9_r0 : BitVec 32) : Fin 1 → Nat :=
  let c2_i32_99_r0 : BitVec 32 := 2#32
  let v144_r0 : BitVec 32 := Scalar.remui arg9_r0 c2_i32_99_r0
  ![v144_r0.toNat]

def k4_chk1 (i : grid4.Coords) (k4_t1 : Fin k4_t1_loop.trips) (arg6_r0 : BitVec 32) (arg7_r0 : BitVec 32) (arg8_r0 : BitVec 32) (arg9_r0 : BitVec 32) (arg10_r0 : BitVec 32) : Prop :=
  (∀ (k4_h1 : k4_cond1 i k4_t1 arg10_r0 = 1#1), ∀ a, (k4_off4 arg6_r0) a + S1x1x128.size a ≤ S2x1x128.size a) ∧
  (∀ (k4_h1 : k4_cond1 i k4_t1 arg10_r0 = 1#1), ∀ a, (k4_off5 i arg10_r0) a + S1x128.size a ≤ S1x45056.size a) ∧
  (∀ (k4_h1 : k4_cond1 i k4_t1 arg10_r0 = 1#1), ∀ a, (k4_off6 arg6_r0) a + S1.size a ≤ S2.size a) ∧
  (∀ (k4_h2 : k4_cond2 i k4_t1 arg10_r0 = 1#1), ∀ a, (k4_off7 arg7_r0) a + S1x1x128.size a ≤ S2x1x128.size a) ∧
  (∀ (k4_h2 : k4_cond2 i k4_t1 arg10_r0 = 1#1), ∀ a, (k4_off8 i arg10_r0) a + S1x128.size a ≤ S1x45056.size a) ∧
  (∀ (k4_h2 : k4_cond2 i k4_t1 arg10_r0 = 1#1), ∀ a, (k4_off9 arg7_r0) a + S1.size a ≤ S2.size a) ∧
  (∀ (k4_h5 : k4_cond5 i k4_t1 arg10_r0 = 1#1), ∀ a, (k4_off12 arg8_r0) a + S1x128x128.size a ≤ S2x128x128.size a) ∧
  (∀ (k4_h5 : k4_cond5 i k4_t1 arg10_r0 = 1#1), ∀ a, (k4_off13 i arg10_r0) a + S128x128.size a ≤ S45056x128.size a) ∧
  (∀ (k4_h5 : k4_cond5 i k4_t1 arg10_r0 = 1#1), ∀ a, (k4_off14 arg8_r0) a + S1.size a ≤ S2.size a) ∧
  (∀ (k4_h7 : k4_cond7 i k4_t1 arg10_r0 = 1#1), ∀ a, (k4_off15 arg9_r0) a + S1x128x128.size a ≤ S2x128x128.size a) ∧
  (∀ (k4_h7 : k4_cond7 i k4_t1 arg10_r0 = 1#1), ∀ a, (k4_off16 i arg10_r0) a + S128x128.size a ≤ S45056x128.size a) ∧
  (∀ (k4_h7 : k4_cond7 i k4_t1 arg10_r0 = 1#1), ∀ a, (k4_off17 arg9_r0) a + S1.size a ≤ S2.size a)
theorem k4_off4_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off4 arg6_r0) a + S1x1x128.size a ≤ S2x1x128.size a := fun i k4_t1 arg6_r0 arg7_r0 arg8_r0 arg9_r0 arg10_r0 k4_hw1 k4_h1 => k4_hw1.1 k4_h1
theorem k4_off5_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off5 i arg10_r0) a + S1x128.size a ≤ S1x45056.size a := fun i k4_t1 arg6_r0 arg7_r0 arg8_r0 arg9_r0 arg10_r0 k4_hw1 k4_h1 => k4_hw1.2.1 k4_h1
theorem k4_off6_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off6 arg6_r0) a + S1.size a ≤ S2.size a := fun i k4_t1 arg6_r0 arg7_r0 arg8_r0 arg9_r0 arg10_r0 k4_hw1 k4_h1 => k4_hw1.2.2.1 k4_h1
theorem k4_off7_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off7 arg7_r0) a + S1x1x128.size a ≤ S2x1x128.size a := fun i k4_t1 arg6_r0 arg7_r0 arg8_r0 arg9_r0 arg10_r0 k4_hw1 k4_h2 => k4_hw1.2.2.2.1 k4_h2
theorem k4_off8_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off8 i arg10_r0) a + S1x128.size a ≤ S1x45056.size a := fun i k4_t1 arg6_r0 arg7_r0 arg8_r0 arg9_r0 arg10_r0 k4_hw1 k4_h2 => k4_hw1.2.2.2.2.1 k4_h2
theorem k4_off9_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off9 arg7_r0) a + S1.size a ≤ S2.size a := fun i k4_t1 arg6_r0 arg7_r0 arg8_r0 arg9_r0 arg10_r0 k4_hw1 k4_h2 => k4_hw1.2.2.2.2.2.1 k4_h2
theorem k4_off12_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off12 arg8_r0) a + S1x128x128.size a ≤ S2x128x128.size a := fun i k4_t1 arg6_r0 arg7_r0 arg8_r0 arg9_r0 arg10_r0 k4_hw1 k4_h5 => k4_hw1.2.2.2.2.2.2.1 k4_h5
theorem k4_off13_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off13 i arg10_r0) a + S128x128.size a ≤ S45056x128.size a := fun i k4_t1 arg6_r0 arg7_r0 arg8_r0 arg9_r0 arg10_r0 k4_hw1 k4_h5 => k4_hw1.2.2.2.2.2.2.2.1 k4_h5
theorem k4_off14_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off14 arg8_r0) a + S1.size a ≤ S2.size a := fun i k4_t1 arg6_r0 arg7_r0 arg8_r0 arg9_r0 arg10_r0 k4_hw1 k4_h5 => k4_hw1.2.2.2.2.2.2.2.2.1 k4_h5
theorem k4_off15_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off15 arg9_r0) a + S1x128x128.size a ≤ S2x128x128.size a := fun i k4_t1 arg6_r0 arg7_r0 arg8_r0 arg9_r0 arg10_r0 k4_hw1 k4_h7 => k4_hw1.2.2.2.2.2.2.2.2.2.1 k4_h7
theorem k4_off16_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off16 i arg10_r0) a + S128x128.size a ≤ S45056x128.size a := fun i k4_t1 arg6_r0 arg7_r0 arg8_r0 arg9_r0 arg10_r0 k4_hw1 k4_h7 => k4_hw1.2.2.2.2.2.2.2.2.2.2.1 k4_h7
theorem k4_off17_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off17 arg9_r0) a + S1.size a ≤ S2.size a := fun i k4_t1 arg6_r0 arg7_r0 arg8_r0 arg9_r0 arg10_r0 k4_hw1 k4_h7 => k4_hw1.2.2.2.2.2.2.2.2.2.2.2 k4_h7

def k4_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k4_off19 (i : grid4.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c10_i32_33_r0 : BitVec 32 := 10#32
  let v37_r0 : BitVec 32 := Scalar.select v36_r0 c10_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c11_i32 : BitVec 32 := 11#32
  let v4 : BitVec 32 := Scalar.muli v3 c11_i32
  let v38_r0 : BitVec 32 := Scalar.addi v37_r0 v4
  let v55_r0 : BitVec 32 := Scalar.muli c128_i32_47_r0 v38_r0
  let c0_i32_50_r0 : BitVec 32 := 0#32
  ![v55_r0.toNat, 0]

def k4_chk5 (i : grid4.Coords) (v33_4_r0 : BitVec 32) : Prop :=
  (∀ a, (k4_off19 i v33_4_r0) a + S128x128.size a ≤ S45056x128.size a)
theorem k4_off19_inb : ∀ (i : grid4.Coords) (v33_4_r0 : BitVec 32) (k4_hw5 : k4_chk5 i v33_4_r0), ∀ a, (k4_off19 i v33_4_r0) a + S128x128.size a ≤ S45056x128.size a := fun i v33_4_r0 k4_hw5 => k4_hw5

def k4_off20 (v33_3_r0 : BitVec 32) : Fin 1 → Nat :=
  let c2_i32_46_r0 : BitVec 32 := 2#32
  let v54_r0 : BitVec 32 := Scalar.remui v33_3_r0 c2_i32_46_r0
  ![v54_r0.toNat]
def k4_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k4_chk4 (v33_3_r0 : BitVec 32) : Prop :=
  (∀ a, (k4_off18 v33_3_r0) a + S1x128x128.size a ≤ S2x128x128.size a) ∧
  (∀ a, (k4_off20 v33_3_r0) a + S1.size a ≤ S2.size a) ∧
  (∀ a, (k4_off21 v33_3_r0) a + S1x128x128.size a ≤ S2x128x128.size a)
theorem k4_off18_inb : ∀ (v33_3_r0 : BitVec 32) (k4_hw4 : k4_chk4 v33_3_r0), ∀ a, (k4_off18 v33_3_r0) a + S1x128x128.size a ≤ S2x128x128.size a := fun v33_3_r0 k4_hw4 => k4_hw4.1
theorem k4_off20_inb : ∀ (v33_3_r0 : BitVec 32) (k4_hw4 : k4_chk4 v33_3_r0), ∀ a, (k4_off20 v33_3_r0) a + S1.size a ≤ S2.size a := fun v33_3_r0 k4_hw4 => k4_hw4.2.1
theorem k4_off21_inb : ∀ (v33_3_r0 : BitVec 32) (k4_hw4 : k4_chk4 v33_3_r0), ∀ a, (k4_off21 v33_3_r0) a + S1x128x128.size a ≤ S2x128x128.size a := fun v33_3_r0 k4_hw4 => k4_hw4.2.2

abbrev grid5 : Pipeline.Grid := ⟨1, ![13], ![false]⟩

def cc5_transform_0 (i : grid5.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage5_0 : Fin 2 → Memref sig .tc .vmem S4x64x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4x1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4x16x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4x64x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![13], ![false]⟩

def cc6_transform_1 (i : grid6.Coords) : Fin 3 → Nat :=
  let arg0 : BitVec 32 := BitVec.ofNat 32 (i 0).val
  let c13_i32 : BitVec 32 := 13#32
  let v0 : BitVec 32 := Scalar.addi c13_i32 arg0
  let c0_i32 : BitVec 32 := 0#32
  let c0_i32_0 : BitVec 32 := 0#32
  let c0_i32_1 : BitVec 32 := 0#32
  ![v0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c13_i32 : BitVec 32 := 13#32
  let v0 : BitVec 32 := Scalar.addi c13_i32 arg0
  let c0_i32 : BitVec 32 := 0#32
  let c0_i32_0 : BitVec 32 := 0#32
  let c0_i32_1 : BitVec 32 := 0#32
  ![v0.toNat, c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 3 → Nat :=
  let arg0 : BitVec 32 := BitVec.ofNat 32 (i 0).val
  let c13_i32 : BitVec 32 := 13#32
  let v0 : BitVec 32 := Scalar.addi c13_i32 arg0
  let c0_i32 : BitVec 32 := 0#32
  let c0_i32_0 : BitVec 32 := 0#32
  let c0_i32_1 : BitVec 32 := 0#32
  ![v0.toNat, c0_i32.toNat, c0_i32_0.toNat]

abbrev stage6_0 : Fin 2 → Memref sig .tc .vmem S4x64x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4x1024x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4x16x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4x64x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![13], ![false]⟩

def cc7_transform_1 (i : grid7.Coords) : Fin 3 → Nat :=
  let arg0 : BitVec 32 := BitVec.ofNat 32 (i 0).val
  let c26_i32 : BitVec 32 := 26#32
  let v0 : BitVec 32 := Scalar.addi c26_i32 arg0
  let c0_i32 : BitVec 32 := 0#32
  let c0_i32_0 : BitVec 32 := 0#32
  let c0_i32_1 : BitVec 32 := 0#32
  ![v0.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let c26_i32 : BitVec 32 := 26#32
  let v0 : BitVec 32 := Scalar.addi c26_i32 arg0
  let c0_i32 : BitVec 32 := 0#32
  let c0_i32_0 : BitVec 32 := 0#32
  let c0_i32_1 : BitVec 32 := 0#32
  ![v0.toNat, c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 3 → Nat :=
  let arg0 : BitVec 32 := BitVec.ofNat 32 (i 0).val
  let c26_i32 : BitVec 32 := 26#32
  let v0 : BitVec 32 := Scalar.addi c26_i32 arg0
  let c0_i32 : BitVec 32 := 0#32
  let c0_i32_0 : BitVec 32 := 0#32
  let c0_i32_1 : BitVec 32 := 0#32
  ![v0.toNat, c0_i32.toNat, c0_i32_0.toNat]

abbrev stage7_0 : Fin 2 → Memref sig .tc .vmem S4x64x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4x1024x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4x16x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S4x64x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![11], ![false]⟩

def cc8_transform_1 (i : grid8.Coords) : Fin 3 → Nat :=
  let arg0 : BitVec 32 := BitVec.ofNat 32 (i 0).val
  let c39_i32 : BitVec 32 := 39#32
  let v0 : BitVec 32 := Scalar.addi c39_i32 arg0
  let c0_i32 : BitVec 32 := 0#32
  let c0_i32_0 : BitVec 32 := 0#32
  let c0_i32_1 : BitVec 32 := 0#32
  ![v0.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 3 → Nat :=
  let arg0 : BitVec 32 := BitVec.ofNat 32 (i 0).val
  let c39_i32 : BitVec 32 := 39#32
  let v0 : BitVec 32 := Scalar.addi c39_i32 arg0
  let c0_i32 : BitVec 32 := 0#32
  let c0_i32_0 : BitVec 32 := 0#32
  let c0_i32_1 : BitVec 32 := 0#32
  ![v0.toNat, c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 3 → Nat :=
  let arg0 : BitVec 32 := BitVec.ofNat 32 (i 0).val
  let c39_i32 : BitVec 32 := 39#32
  let v0 : BitVec 32 := Scalar.addi c39_i32 arg0
  let c0_i32 : BitVec 32 := 0#32
  let c0_i32_0 : BitVec 32 := 0#32
  let c0_i32_1 : BitVec 32 := 0#32
  ![v0.toNat, c0_i32.toNat, c0_i32_0.toNat]

abbrev stage8_0 : Fin 2 → Memref sig .tc .vmem S4x64x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4x1024x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4x16x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S64x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S4x64x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S1024x200x64 : Shape := ⟨3, ![1024, 200, 64]⟩
abbrev S1024x200 : Shape := ⟨2, ![1024, 200]⟩
abbrev S1024x200x16 : Shape := ⟨3, ![1024, 200, 16]⟩
abbrev S100000x64 : Shape := ⟨2, ![100000, 64]⟩
abbrev S64x16 : Shape := ⟨2, ![64, 16]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S1024x200x64, .f32⟩
  | .hbm, ⟨1, _⟩ => ⟨S1024x200, .i32⟩
  | .hbm, ⟨2, _⟩ => ⟨S1024x200x16, .f32⟩
  | .hbm, ⟨3, _⟩ => ⟨S100000x64, .f32⟩
  | .hbm, ⟨4, _⟩ => ⟨S64x16, .f32⟩
  | .hbm, ⟨5, _⟩ => ⟨S_, .i32⟩
  | .hbm, ⟨6, _⟩ => ⟨S1024x200, .i32⟩
  | .hbm, ⟨7, _⟩ => ⟨S1024x200, .i1⟩
  | .hbm, ⟨8, _⟩ => ⟨S_, .i32⟩
  | .hbm, ⟨9, _⟩ => ⟨S1024x200, .i32⟩
  | .hbm, ⟨10, _⟩ => ⟨S1024x200, .i32⟩
  | .hbm, ⟨11, _⟩ => ⟨S1024x200, .i32⟩
  | .hbm, ⟨12, _⟩ => ⟨S1024x200x1, .i32⟩
  | .hbm, ⟨13, _⟩ => ⟨S1, .i32⟩
  | .hbm, ⟨14, _⟩ => ⟨S_, .i32⟩
  | .hbm, ⟨15, _⟩ => ⟨S1024x200x1, .i32⟩
  | .hbm, ⟨16, _⟩ => ⟨S1024x200x1, .i1⟩
  | .hbm, ⟨17, _⟩ => ⟨S1x1x1, .i32⟩
  | .hbm, ⟨18, _⟩ => ⟨S1024x200x1, .i32⟩
  | .hbm, ⟨19, _⟩ => ⟨S1024x200x1, .i1⟩
  | .hbm, ⟨20, _⟩ => ⟨S1024x200x1, .i1⟩
  | .hbm, ⟨21, _⟩ => ⟨S_, .i1⟩
  | .hbm, ⟨22, _⟩ => ⟨S1024x200, .i1⟩
  | .hbm, ⟨23, _⟩ => ⟨S1024x200x64, .f32⟩
  | .hbm, ⟨24, _⟩ => ⟨S1024x200x64, .i1⟩
  | .hbm, ⟨25, _⟩ => ⟨S_, .f32⟩
  | .hbm, ⟨26, _⟩ => ⟨S1024x200x64, .f32⟩
  | .hbm, ⟨27, _⟩ => ⟨S1024x200x64, .f32⟩
  | .hbm, ⟨28, _⟩ => ⟨S1024x200x64, .f32⟩
  | .hbm, ⟨29, _⟩ => ⟨S1024x200x64, .f32⟩
  | .hbm, ⟨30, _⟩ => ⟨S1024x200x64, .f32⟩
  | _, _ => ⟨S1024x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩

abbrev nD : Nat := 1
abbrev τ : Topo := Topo.v7x

variable {F : FTy → Type} [FloatOps F]
-- ==== Proof.Setup.lean ====
/- The names every module of this proof shares: the launch as the launch theorem sees it, the resource algebra, the
   thread of a vector subcore. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program under the launch: the TensorCore pipelines' and the kernels'. -/
abbrev ΛP : Labels := Pipeline.Sig Λ₀ (Fin 5) fun p => (pcfgs (F := F) p).Adm
/-- The four SparseCore calls, as the launch theorem takes them. -/
abbrev K : SparseCore.Cfg τ sig (ΛP (F := F)) 4 := sc (F := F)
/-- The bodies under the launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores and buffers are as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The TensorCore pipelines' rounds. -/
abbrev UP : Type := URounds (GSem nD τ sig) Unit
/-- The handshakes' rounds, the pipelines' rounds, the copies' counters. -/
abbrev UU : Type := UH × (UP × Counters)

/-- The handshakes' rounds in the machine's algebra. -/
abbrev EH : Emb UH (MT nD τ sig (HIx 4) (Elt F) ℕ UU ℕ) := embL
/-- The pipelines' rounds in the machine's algebra. -/
def EP : Emb UP (MT nD τ sig (HIx 4) (Elt F) ℕ UU ℕ) :=
  (Emb.inl : Emb UP (UP × Counters)).trans embR
instance EP_lands : (EP : Emb UP (MT nD τ sig (HIx 4) (Elt F) ℕ UU ℕ)).LandsIn
    (upEmb : UEmb _ (MT nD τ sig (HIx 4) (Elt F) ℕ UU ℕ)) := by
  unfold EP; infer_instance

end Cert.Proof
-- ==== Proof.Bodies.lean ====
/- The two TensorCore bodies run once: the table's transpose and the four-row sum, each from its staging buffers at
   any contents to the result's buffer at what the stores leave. -/
module

public import proofs.«01_k».proof.Proof.Setup
public import Idealize.ShloMosaic.Lib.Pipeline.FrameBody
public import Idealize.ShloMosaic.Lib.Pipeline.Value

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F] [∀ e, Nonempty (Elt F e)]

local notation "𝕄" => MT nD τ sig (HIx 4) (Elt F) ℕ UU ℕ

/-- A memref's buffer on a TensorCore, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Row `0`, `1`, `2` or `3` of a staged block of four, of each shape. -/
abbrev tokRow (r : Fin 4) : Rect S4x64x1024 := Rect.unit (s := S4x64x1024) ![r.val, 0, 0] S1x64x1024.size (by
  revert r; decide)
abbrev peRow (r : Fin 4) : Rect S4x1024x128 := Rect.unit (s := S4x1024x128) ![r.val, 0, 0] S1x1024x64.size (by
  revert r; decide)
abbrev topRow (r : Fin 4) : Rect S4x16x1024 := Rect.unit (s := S4x16x1024) ![r.val, 0, 0] S1x16x1024.size (by
  revert r; decide)

/-- The projection's weights, whole. -/
abbrev wAll : Rect S64x16 := Rect.unit (s := S64x16) ![0, 0] S64x16.size inb_S64x16_S64x16_0_0

/-- Every index of a block of four lies in its row. -/
theorem tokRow_cover (y : S4x64x1024.Idx) : y ∈ (tokRow (y 0)).set := by
  refine Rect.mem_set_unit.mpr fun a => ?_
  fin_cases a
  · exact ⟨le_rfl, Nat.lt_succ_self _⟩
  · exact ⟨Nat.zero_le _, by have := (y 1).isLt; simpa using this⟩
  · exact ⟨Nat.zero_le _, by have := (y 2).isLt; simpa using this⟩

/-- What one row's store holds: the body's own sum, of that row's loads. -/
def rowSum (tok : Vec F S4x64x1024 .f32) (pe : Vec F S4x1024x128 .f32) (top : Vec F S4x16x1024 .f32) (w : Vec F S64x16 .f32)
    (r : Fin 4) : FVec F S1x64x1024 .f32 :=
  k5_pay2 (View.ld (Val := Elt F) (e' := .f32) pe (peRow r)) (View.ld (Val := Elt F) (e' := .f32) w wAll) (View.ld (Val := Elt F) (e' := .f32) top (topRow r)) (View.ld (Val := Elt F) (e' := .f32) tok (tokRow r))

/-- What the four stores leave. -/
def comb (tok : Vec F S4x64x1024 .f32) (pe : Vec F S4x1024x128 .f32) (top : Vec F S4x16x1024 .f32) (w : Vec F S64x16 .f32) :
    Vec F S4x64x1024 .f32 :=
  View.canon (Val := Elt F) (s := S4x64x1024) (e := .f32) [⟨tokRow 3, rowSum tok pe top w 3⟩, ⟨tokRow 2, rowSum tok pe top w 2⟩, ⟨tokRow 1, rowSum tok pe top w 1⟩, ⟨tokRow 0, rowSum tok pe top w 0⟩]

/-- The table's body: the result's buffer left at the transposed, padded block. -/
theorem table_run (c : Dev nD) (i : grid0.Coords) (M0 : Memref sig .tc .vmem S64x4352 .f32) (h0 : M0.IsWhole)
    (M1 : Memref sig .tc .vmem S4352x128 .f32) (h1 : M1.IsWhole) (f0 : Bf (F := F) c M0) (f1 : Bf (F := F) c M1) (Q : PUnit → sProp 𝕄) :
    iprop(pt c M0 f0 ∗ pt c M1 f1
      ∗ (iprop(pt c M0 f0 ∗ (∃ f, ⌜M1.view.read (Elt F) f = k0_pay1 (M0.view.read (Elt F) f0)⌝ ∗ pt c M1 f)) -∗ Q ⟨⟩))
    ⊢ wp frame (wpE (defs₀ (F := F)) 𝒱₀ c none) Set.univ (cc0_body i M0 h0 M1 h1) Q := by
  rw [cc0_body_eq_skeleton]
  iintro ⟨H0, H1, Hk⟩
  sl_exec!
  sl_step
  iapply Hk
  isplitl [H0]; · iexact H0
  iexists _
  isplitr; swap; (· iexact H1)
  ipureintro
  have hz : (![0, 0] : Fin 2 → ℕ) = fun _ => 0 := by funext a; fin_cases a <;> rfl
  refine (View.read_writes_eq_canon _ _ _ fun y => ⟨_, List.mem_cons_self, View.mem_set_unit_zero hz inb_S4352x128_S4352x128_0_0 y⟩).trans ?_
  refine (View.canon_unit_zero hz _ _).trans ?_
  exact congrArg k0_pay1 (View.ld_unit_zero (e := .f32) hz inb_S64x4352_S64x4352_0_0 (M0.view.read (Elt F) f0))

set_option maxRecDepth 16384 in
/-- The sum's body: the result's buffer left at the four rows' sums. -/
theorem sum_run (c : Dev nD) (i : grid5.Coords) (M0 : Memref sig .tc .vmem S4x64x1024 .f32) (h0 : M0.IsWhole)
    (M1 : Memref sig .tc .vmem S4x1024x128 .f32) (h1 : M1.IsWhole) (M2 : Memref sig .tc .vmem S4x16x1024 .f32) (h2 : M2.IsWhole)
    (M3 : Memref sig .tc .vmem S64x16 .f32) (h3 : M3.IsWhole) (M4 : Memref sig .tc .vmem S4x64x1024 .f32) (h4 : M4.IsWhole)
    (f0 : Bf (F := F) c M0) (f1 : Bf (F := F) c M1) (f2 : Bf (F := F) c M2) (f3 : Bf (F := F) c M3) (f4 : Bf (F := F) c M4) (Q : PUnit → sProp 𝕄) :
    iprop(pt c M0 f0 ∗ pt c M1 f1 ∗ pt c M2 f2 ∗ pt c M3 f3 ∗ pt c M4 f4
      ∗ (iprop(pt c M0 f0 ∗ pt c M1 f1 ∗ pt c M2 f2 ∗ pt c M3 f3
          ∗ (∃ f, ⌜M4.view.read (Elt F) f = comb (M0.view.read (Elt F) f0) (M1.view.read (Elt F) f1) (M2.view.read (Elt F) f2) (M3.view.read (Elt F) f3)⌝
            ∗ pt c M4 f)) -∗ Q ⟨⟩))
    ⊢ wp frame (wpE (defs₀ (F := F)) 𝒱₀ c none) Set.univ (cc5_body i M0 h0 M1 h1 M2 h2 M3 h3 M4 h4) Q := by
  rw [cc5_body_eq_skeleton]
  iintro ⟨H0, H1, H2, H3, H4, Hk⟩
  unfold cc5_body_skel
  rw [k5_part1_eq_skeleton, k5_part2_eq_skeleton]
  unfold k5_part1_skel k5_part2_skel
  sl_exec!
  sl_step
  iapply Hk
  isplitl [H0]; · iexact H0
  isplitl [H1]; · iexact H1
  isplitl [H2]; · iexact H2
  isplitl [H3]; · iexact H3
  iexists _
  isplitr; swap; (· iexact H4)
  ipureintro
  refine (View.read_writes_eq_canon _ _ _ fun y => ?_).trans rfl
  have hy := tokRow_cover y
  generalize y 0 = r at hy
  fin_cases r
  · exact ⟨_, List.mem_cons_of_mem _ (List.mem_cons_of_mem _ (List.mem_cons_of_mem _ List.mem_cons_self)), hy⟩
  · exact ⟨_, List.mem_cons_of_mem _ (List.mem_cons_of_mem _ List.mem_cons_self), hy⟩
  · exact ⟨_, List.mem_cons_of_mem _ List.mem_cons_self, hy⟩
  · exact ⟨_, List.mem_cons_self, hy⟩

set_option maxRecDepth 65536 in
/-- The later calls' bodies are the first's: the buffer they continue is not read. -/
theorem cc6_is (i : grid6.Coords) (A : Memref sig .tc .hbm S200x64x1024 .f32) (hA : A.IsWhole) (M0 : Memref sig .tc .vmem S4x64x1024 .f32) (h0 : M0.IsWhole)
    (M1 : Memref sig .tc .vmem S4x1024x128 .f32) (h1 : M1.IsWhole) (M2 : Memref sig .tc .vmem S4x16x1024 .f32) (h2 : M2.IsWhole)
    (M3 : Memref sig .tc .vmem S64x16 .f32) (h3 : M3.IsWhole) (M4 : Memref sig .tc .vmem S4x64x1024 .f32) (h4 : M4.IsWhole) (i' : grid5.Coords) :
    cc6_body (F := F) i A hA M0 h0 M1 h1 M2 h2 M3 h3 M4 h4 = cc5_body i' M0 h0 M1 h1 M2 h2 M3 h3 M4 h4 := rfl

set_option maxRecDepth 65536 in
theorem cc7_is (i : grid7.Coords) (A : Memref sig .tc .hbm S200x64x1024 .f32) (hA : A.IsWhole) (M0 : Memref sig .tc .vmem S4x64x1024 .f32) (h0 : M0.IsWhole)
    (M1 : Memref sig .tc .vmem S4x1024x128 .f32) (h1 : M1.IsWhole) (M2 : Memref sig .tc .vmem S4x16x1024 .f32) (h2 : M2.IsWhole)
    (M3 : Memref sig .tc .vmem S64x16 .f32) (h3 : M3.IsWhole) (M4 : Memref sig .tc .vmem S4x64x1024 .f32) (h4 : M4.IsWhole) (i' : grid5.Coords) :
    cc7_body (F := F) i A hA M0 h0 M1 h1 M2 h2 M3 h3 M4 h4 = cc5_body i' M0 h0 M1 h1 M2 h2 M3 h3 M4 h4 := rfl

set_option maxRecDepth 65536 in
theorem cc8_is (i : grid8.Coords) (A : Memref sig .tc .hbm S200x64x1024 .f32) (hA : A.IsWhole) (M0 : Memref sig .tc .vmem S4x64x1024 .f32) (h0 : M0.IsWhole)
    (M1 : Memref sig .tc .vmem S4x1024x128 .f32) (h1 : M1.IsWhole) (M2 : Memref sig .tc .vmem S4x16x1024 .f32) (h2 : M2.IsWhole)
    (M3 : Memref sig .tc .vmem S64x16 .f32) (h3 : M3.IsWhole) (M4 : Memref sig .tc .vmem S4x64x1024 .f32) (h4 : M4.IsWhole) (i' : grid5.Coords) :
    cc8_body (F := F) i A hA M0 h0 M1 h1 M2 h2 M3 h3 M4 h4 = cc5_body i' M0 h0 M1 h1 M2 h2 M3 h3 M4 h4 := rfl

end Cert.Proof
-- ==== Proof.Region.lean ====
/- A TensorCore call between the SparseCore's: entered and left with every unscoped buffer at a valuation, what the
   core owes the sequencers carried through with the bound on its recorded waits. -/
module

public import proofs.«01_k».proof.Proof.Setup
public import Idealize.ShloMosaic.Lib.Pipeline.RegionArraysS

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.Pipeline (Dat)

variable {F : FTy → Type} [FloatOps F] [∀ e, Nonempty (Elt F e)]

local notation "𝕄" => MT nD τ sig (HIx 4) (Elt F) ℕ UU ℕ

/-- The prefetched tables' admissible contents: there are none. -/
abbrev adm : (p : Fin 5) → (pcfgs (F := F) p).Adm := fun p => (cfgs p).toPCfg_adm

/-- Proof data for the five calls. -/
abbrev Dats : Type := (p : Fin 5) → (c : Dev nD) → Dat τ (Elt F) (HIx 4) ℕ UU ℕ (Pipeline.pin (pcfgs (F := F)) adm p) c

/-- The TensorCore's unscoped buffers. -/
def openRefs : Finset (DevRef τ sig) := (StableHlo.tcRefs τ sig).filter fun b => ¬ b.isScoped

omit [FloatOps F] [∀ e, Nonempty (Elt F e)] in
theorem unscoped_open (c : Dev nD) (W : Valuation τ sig (Elt F)) :
    (unscopedBufs c (fun b => W b) : sProp 𝕄) = StableHlo.held (c : Thread nD τ) openRefs W := by
  unfold unscopedBufs StableHlo.held openRefs StableHlo.tcRefs
  rw [Finset.filter_map, bigSep_map]
  rfl

omit [FloatOps F] [∀ e, Nonempty (Elt F e)] in
/-- A host operation touches unscoped buffers only. -/
theorem op_open (op : HloOp τ sig (Elt F)) (h : op.bufs ⊆ StableHlo.tcRefs τ sig) : op.bufs ⊆ openRefs := fun b hb =>
  Finset.mem_filter.mpr ⟨h hb, fun hs => absurd ((op.no_scoped b hb).symm.trans hs) Bool.false_ne_true⟩

omit [FloatOps F] [∀ e, Nonempty (Elt F e)] in
/-- A call's arrays are unscoped. -/
theorem arrs_open {g W : ℕ} (win : Fin W → Pipeline.WinSpec sig g) (h : ∀ w, (Pipeline.arrRef win w).isScoped = false) :
    Pipeline.arrRefs (τ := τ) win ⊆ openRefs := fun b hb => by
  obtain ⟨r, hr, rfl⟩ := Finset.mem_map.mp hb
  obtain ⟨w, -, rfl⟩ := Finset.mem_image.mp hr
  exact Finset.mem_filter.mpr ⟨StableHlo.devRef_mem_tcRefs _, fun hs => absurd ((h w).symm.trans hs) Bool.false_ne_true⟩

/-- The waits a core may have recorded before SparseCore call `n`. -/
abbrev early (c : Dev nD) (n : ℕ) : Set (SemLoc sig × HIx 4) :=
  {x | (K (F := F)).lev (SparseCore.T c, x.1) x.2 ≤ 8 * n}

/-- What the core owes before SparseCore call `n`, its recorded waits bounded. -/
abbrev debt (c : Dev nD) (n : ℕ) : sProp 𝕄 :=
  iprop(∃ W, ⌜(K (F := F)).WBelow (SparseCore.T c) W (8 * n)⌝ ∗ owes (SparseCore.T c) ((K (F := F)).Otc c n) W)

omit [FloatOps F] [∀ e, Nonempty (Elt F e)] in
theorem Otc_none (c : Dev nD) (n : ℕ) (g : GSem nD τ sig) : (K (F := F)).Otc (N := 4) c n g none = 0 := by
  by_contra h
  have := (K (F := F)).lev_of_Otc_pos (Nat.pos_of_ne_zero h)
  exact absurd this (by rw [SparseCore.Cfg.lev_none]; omega)

/-- The levels' support and the levels. -/
abbrev LS : GSem nD τ sig → Finset (HIx 4) := (K (F := F)).L
abbrev LV : GSem nD τ sig → HIx 4 → ℕ := (K (F := F)).lev

variable (pd : Dats (F := F)) (p : Fin 5) (n : ℕ) (V : Dev nD → Valuation τ sig (Elt F))

omit [∀ e, Nonempty (Elt F e)] in
/-- A call's staging waits sit below everything the core owes. -/
theorem level_cut : Pipeline.LevelCut (pcfgs (F := F)) adm (none : HIx 4) (LS (F := F)) (LV (F := F)) p
    (fun c => (K (F := F)).Otc (N := 4) c n) (fun _ => 0) where
  hι _ _ _ := Finset.mem_univ _
  hιb _ _ _ := le_rfl
  hD c g i h := ⟨Finset.mem_univ _, by
    exact lt_of_lt_of_le (Nat.succ_pos _) ((K (F := F)).lev_of_Otc_pos h)⟩

/-- What the proof data must say for a call before SparseCore call `n` entered at `V`. -/
structure Fits : Prop where
  body : ∀ c, Pipeline.BodyObligationLoose (pd p c) (defs₀ (F := F)) 𝒱₀ (none : HIx 4) Set.univ
  owed : ∀ c t, (pd p c).owed t = (K (F := F)).Otc (N := 4) c n
  recs : ∀ c t, (pd p c).recorded t = early (F := F) c n
  share : ∀ c w, (pd p c).share w = fullShare
  inv : ∀ c t, (pd p c).Φ t = Pipeline.scopedRest (Pipeline.pin (pcfgs (F := F)) adm p).spec c
  entry : ∀ c w, (pd p c).arrAt w 0 = V c (Proc.devRef .tc (Pipeline.arrRef (Pipeline.pin (pcfgs (F := F)) adm p).spec w))

variable {pd p n V}

set_option backward.isDefEq.respectTransparency.types false in
/-- The call as a segment: every unscoped buffer at `V`, then at what the call makes of it. -/
def segment (fit : Fits (F := F) pd p n V) (kit : Pipeline.PLaunchFacts (nD := nD) (τ := τ) (pcfgs (F := F)) p)
    (hS : Pipeline.arrRefs (τ := τ) (pcfgs (F := F) p).spec ⊆ openRefs) :
    Pipeline.RegionSeg (pcfgs (F := F)) adm pd (none : HIx 4) (defs₀ (F := F)) 𝒱₀ (LS (F := F)) (LV (F := F)) p where
  win := kit.to₀.win
  block_pos := kit.to₀.block_pos
  stage_whole := kit.to₀.stage_whole
  K := PEmpty
  osem k := k.elim
  ho := Pipeline.OwnSemFacts.none _
  hbody := fit.body
  hwaits c := Pipeline.cellsWaits_of_cut (Pipeline.pin (pcfgs (F := F)) adm) pd (none : HIx 4) p c 0 ((K (F := F)).Otc (N := 4) c n) (fit.owed c)
    ((level_cut p n).hι c) ((level_cut p n).hιb c) ((level_cut p n).hD c)
  pre c := iprop(StableHlo.held (c : Thread nD τ) openRefs (V c) ∗ debt c n)
  post c := iprop(StableHlo.held (c : Thread nD τ) openRefs (Pipeline.afterRegion (pd p c) (V c)) ∗ debt c n)
  X _ := iprop(emp)
  Y _ := iprop(emp)
  Z c := StableHlo.held (c : Thread nD τ) (openRefs \ Pipeline.arrRefs (τ := τ) (pcfgs (F := F) p).spec) (V c)
  hentry c := by
    rw [Pipeline.prefHeld_of_none _ rfl, StableHlo.held_sub_split (c : Thread nD τ) hS (V c),
      ← Pipeline.arrays_held (pcfgs (F := F)) adm pd p kit c (fit.share c) ((pd p c).arrAt · 0) (V c) (fit.entry c)]
    iintro ⟨⟨⟨Ha, Hz⟩, ⟨%W, %hW, HO⟩⟩, -, -⟩
    imodintro
    isplitl [Ha]; · iexact Ha
    isplitr; · iempintro
    isplitl [HO]
    · unfold Dat.owesAt Pipeline.owesWithin Dat.bound
      rw [fit.owed c 0, fit.recs c 0]
      iexists W; isplitr; · ipureintro; exact fun x hx => Or.inl (hW x hx)
      iexact HO
    isplitr; · iempintro
    iexact Hz
  hin c := by
    rw [fit.inv c 0]
    iintro ⟨-, -, Hr⟩; iexact Hr
  hout c := by
    rw [fit.inv c _, Pipeline.ownSems0_none]
    iintro Hr
    isplitr; · iempintro
    isplitr; · iempintro
    iexact Hr
  hexit c := by
    rw [StableHlo.held_sub_split (c : Thread nD τ) hS (Pipeline.afterRegion (pd p c) (V c)),
      StableHlo.held_congr (c : Thread nD τ) (Pipeline.afterRegion_off (pd p c) (V c) openRefs),
      ← Pipeline.arrays_held (pcfgs (F := F)) adm pd p kit c (fit.share c) ((pd p c).arrAt · (Pipeline.pin (pcfgs (F := F)) adm p).N) _
        (fun w => (Pipeline.afterRegion_arr (pd p c) (V c) kit.win.arr_inj w).symm)]
    iintro ⟨Ha, HO, -, Hz⟩
    imodintro
    isplitl [Ha Hz]
    · isplitl [Ha]; · iexact Ha
      iexact Hz
    unfold Dat.owesAt Pipeline.owesWithin Dat.bound
    rw [fit.owed c (Fin.last _), fit.recs c (Fin.last _)]
    icases HO with ⟨%W, %hW, HO⟩
    iexists W
    isplitr
    · ipureintro
      intro x hx
      rcases hW hx with h | ⟨w, s, rfl⟩
      · exact h
      · exact Nat.zero_le _
    iexact HO

set_option backward.isDefEq.respectTransparency.types false in
/-- The call run inside the launch's program: what the core owes the sequencers, the boundary and the level facts in
    hand, the pipeline's ghost state used up. -/
theorem region (fit : Fits (F := F) pd p n V) (kit : Pipeline.PLaunchFacts (nD := nD) (τ := τ) (pcfgs (F := F)) p)
    (hS : Pipeline.arrRefs (τ := τ) (pcfgs (F := F) p).spec ⊆ openRefs) (c : Dev nD) (Q : PUnit → sProp 𝕄) :
    iprop((iprop(boundary (SparseCore.T c) ∗ StableHlo.held (SparseCore.T c) openRefs (Pipeline.afterRegion (pd p c) (V c)) ∗ debt c n) -∗ Q ⟨⟩)
        ∗ boundary (SparseCore.T c) ∗ (StableHlo.held (SparseCore.T c) openRefs (V c) ∗ debt c n) ∗ levAts (LS (F := F)) (LV (F := F))
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (SparseCore.T c) none) Set.univ
          (Prog.lift (.customCall (SparseCore.inner (Pipeline.entry p)) ())) Q := by
  have H := Pipeline.RegionSeg.wp (pcfgs (F := F)) adm pd (none : HIx 4) (kit.cellOf_inj adm) EP (defs₀ (F := F)) 𝒱₀
    (LS (F := F)) (LV (F := F)) (segment fit kit hS) c none (fun _ h => nomatch h) (fun _ => .ret ⟨⟩) Q
  have H' := (K (F := F)).wp_liftProg (D (F := F)) 𝒱 (SparseCore.T c) Set.univ none
    (Prog.op (.customCall (Pipeline.entry p) ()) fun _ => .ret ⟨⟩ : Prog (TpuEff nD τ sig (Elt F) (ΛP (F := F)) .tc) PUnit) Q
  iintro ⟨Hk, Hr⟩
  iapply H'
  iapply H
  isplitl [Hk]
  · iintro H
    rw [wp_ret]
    imodintro
    iapply Hk; iexact H
  iexact Hr

end Cert.Proof
-- ==== Proof.Sums.lean ====
/- The five TensorCore calls' proof data: what each staging buffer holds, and that each body leaves it so. -/
module

public import proofs.«01_k».proof.Proof.Bodies
public import proofs.«01_k».proof.Proof.Region
public import proofs.«01_k».proof.Proof.Gen.KernelIdeal.Points

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.Pipeline (Dat)

variable {F : FTy → Type} [FloatOps F] [∀ e, Nonempty (Elt F e)]

local notation "𝕄" => MT nD τ sig (HIx 4) (Elt F) ℕ UU ℕ

/-- Window `w`'s block at point `t` of a call's arrays at the valuation `V`. -/
abbrev blkOf (cfg : Pipeline.Cfg sig Λ₀) (V : Valuation τ sig (Elt F)) (w : Fin cfg.W) (t : Fin cfg.N) :
    ((cfg.win w).xblock (cfg.grid.coords t)).Idx → Elt F (cfg.win w).elt :=
  ((cfg.win w).blk t).view.read (Elt F) (V (Proc.devRef .tc (Pipeline.arrRef (fun w => (cfg.win w).toWinSpec) w)))

/-- The table's call: the input block in place, the result's at the body's transpose of it. -/
def dat0 (V : Valuation τ sig (Elt F)) (c : Dev nD) : Dat τ (Elt F) (HIx 4) ℕ UU ℕ cfg0 c where
  A w := V (Proc.devRef .tc (Pipeline.arrRef spec0 w))
  after w t := match w with
    | ⟨0, _⟩ => blkOf cfg0 V 0 t
    | ⟨1, _⟩ => k0_pay1 (blkOf cfg0 V 0 t)
  Φ _ := Pipeline.scopedRest spec0 c
  q _ := fullShare
  owed _ := (K (F := F)).Otc (N := 4) c 0
  recorded _ := early (F := F) c 0

/-- A sum's call: the input blocks in place, the result's at the four rows' sums. -/
def dat5 (V : Valuation τ sig (Elt F)) (c : Dev nD) : Dat τ (Elt F) (HIx 4) ℕ UU ℕ cfg5 c where
  A w := V (Proc.devRef .tc (Pipeline.arrRef spec5 w))
  after w t := match w with
    | ⟨0, _⟩ => blkOf cfg5 V 0 t
    | ⟨1, _⟩ => blkOf cfg5 V 1 t
    | ⟨2, _⟩ => blkOf cfg5 V 2 t
    | ⟨3, _⟩ => blkOf cfg5 V 3 t
    | ⟨4, _⟩ => comb (blkOf cfg5 V 0 t) (blkOf cfg5 V 1 t) (blkOf cfg5 V 2 t) (blkOf cfg5 V 3 t)
  Φ _ := Pipeline.scopedRest spec5 c
  q _ := fullShare
  owed _ := (K (F := F)).Otc (N := 4) c 4
  recorded _ := early (F := F) c 4

def dat6 (V : Valuation τ sig (Elt F)) (c : Dev nD) : Dat τ (Elt F) (HIx 4) ℕ UU ℕ cfg6 c where
  A w := V (Proc.devRef .tc (Pipeline.arrRef spec6 w))
  after w t := match w with
    | ⟨0, _⟩ => blkOf cfg6 V 0 t
    | ⟨1, _⟩ => blkOf cfg6 V 1 t
    | ⟨2, _⟩ => blkOf cfg6 V 2 t
    | ⟨3, _⟩ => blkOf cfg6 V 3 t
    | ⟨4, _⟩ => comb (blkOf cfg6 V 0 t) (blkOf cfg6 V 1 t) (blkOf cfg6 V 2 t) (blkOf cfg6 V 3 t)
  Φ _ := Pipeline.scopedRest spec6 c
  q _ := fullShare
  owed _ := (K (F := F)).Otc (N := 4) c 4
  recorded _ := early (F := F) c 4

def dat7 (V : Valuation τ sig (Elt F)) (c : Dev nD) : Dat τ (Elt F) (HIx 4) ℕ UU ℕ cfg7 c where
  A w := V (Proc.devRef .tc (Pipeline.arrRef spec7 w))
  after w t := match w with
    | ⟨0, _⟩ => blkOf cfg7 V 0 t
    | ⟨1, _⟩ => blkOf cfg7 V 1 t
    | ⟨2, _⟩ => blkOf cfg7 V 2 t
    | ⟨3, _⟩ => blkOf cfg7 V 3 t
    | ⟨4, _⟩ => comb (blkOf cfg7 V 0 t) (blkOf cfg7 V 1 t) (blkOf cfg7 V 2 t) (blkOf cfg7 V 3 t)
  Φ _ := Pipeline.scopedRest spec7 c
  q _ := fullShare
  owed _ := (K (F := F)).Otc (N := 4) c 4
  recorded _ := early (F := F) c 4

def dat8 (V : Valuation τ sig (Elt F)) (c : Dev nD) : Dat τ (Elt F) (HIx 4) ℕ UU ℕ cfg8 c where
  A w := V (Proc.devRef .tc (Pipeline.arrRef spec8 w))
  after w t := match w with
    | ⟨0, _⟩ => blkOf cfg8 V 0 t
    | ⟨1, _⟩ => blkOf cfg8 V 1 t
    | ⟨2, _⟩ => blkOf cfg8 V 2 t
    | ⟨3, _⟩ => blkOf cfg8 V 3 t
    | ⟨4, _⟩ => comb (blkOf cfg8 V 0 t) (blkOf cfg8 V 1 t) (blkOf cfg8 V 2 t) (blkOf cfg8 V 3 t)
  Φ _ := Pipeline.scopedRest spec8 c
  q _ := fullShare
  owed _ := (K (F := F)).Otc (N := 4) c 4
  recorded _ := early (F := F) c 4

/-- The five calls' data at one entry valuation. -/
def dats (V : Dev nD → Valuation τ sig (Elt F)) : Dats (F := F) := fun p c =>
  match p with
  | ⟨0, _⟩ => dat0 (V c) c
  | ⟨1, _⟩ => dat5 (V c) c
  | ⟨2, _⟩ => dat6 (V c) c
  | ⟨3, _⟩ => dat7 (V c) c
  | ⟨4, _⟩ => dat8 (V c) c

/-- A whole memref's ownership, as its buffer's. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt; rw [h.set_eq_univ]

/-- The table's body between what its call holds before and after a point. -/
theorem table_obl (c : Dev nD) (i : grid0.Coords) (M0 : Memref sig .tc .vmem S64x4352 .f32) (h0 : M0.IsWhole)
    (M1 : Memref sig .tc .vmem S4352x128 .f32) (h1 : M1.IsWhole) (Φ O : sProp 𝕄) {D0 D1 : Type}
    (b0 : D0 → S64x4352.Idx → Elt F .f32) (b1 : D1 → S4352x128.Idx → Elt F .f32) (X0 : S64x4352.Idx → Elt F .f32) (e0 : ∀ d, b0 d = X0) :
    iprop(Φ ∗ O ∗ (∃ d, owns (c : Thread nD τ) M0 fullShare (b0 d)) ∗ (∃ d, owns (c : Thread nD τ) M1 fullShare (b1 d)))
    ⊢ wp frame (wpE (defs₀ (F := F)) 𝒱₀ c none) Set.univ (cc0_body i M0 h0 M1 h1) fun _ =>
        iprop(Φ ∗ O ∗ owns (c : Thread nD τ) M0 fullShare X0 ∗ owns (c : Thread nD τ) M1 fullShare (k0_pay1 X0)) := by
  simp only [owns_pt c _ h0, owns_pt c _ h1, e0]
  iintro ⟨HΦ, HO, ⟨%d0, %f0, %hf0, H0⟩, ⟨%d1, %f1, %hf1, H1⟩⟩
  iapply (table_run c i M0 h0 M1 h1 f0 f1)
  isplitl [H0]; · iexact H0
  isplitl [H1]; · iexact H1
  iintro ⟨H0, ⟨%f, %hf, H1⟩⟩
  isplitl [HΦ]; · iexact HΦ
  isplitl [HO]; · iexact HO
  isplitl [H0]
  · iexists f0; isplitr; · ipureintro; exact hf0
    iexact H0
  iexists f; isplitr; swap; · iexact H1
  ipureintro
  exact hf.trans (congrArg k0_pay1 hf0)

/-- A sum's body between what its call holds before and after a point. -/
theorem sum_obl (c : Dev nD) (i : grid5.Coords) (M0 : Memref sig .tc .vmem S4x64x1024 .f32) (h0 : M0.IsWhole)
    (M1 : Memref sig .tc .vmem S4x1024x128 .f32) (h1 : M1.IsWhole) (M2 : Memref sig .tc .vmem S4x16x1024 .f32) (h2 : M2.IsWhole)
    (M3 : Memref sig .tc .vmem S64x16 .f32) (h3 : M3.IsWhole) (M4 : Memref sig .tc .vmem S4x64x1024 .f32) (h4 : M4.IsWhole)
    (Φ O : sProp 𝕄) {D0 D1 D2 D3 D4 : Type}
    (b0 : D0 → S4x64x1024.Idx → Elt F .f32) (b1 : D1 → S4x1024x128.Idx → Elt F .f32) (b2 : D2 → S4x16x1024.Idx → Elt F .f32)
    (b3 : D3 → S64x16.Idx → Elt F .f32) (b4 : D4 → S4x64x1024.Idx → Elt F .f32)
    (X0 : S4x64x1024.Idx → Elt F .f32) (X1 : S4x1024x128.Idx → Elt F .f32) (X2 : S4x16x1024.Idx → Elt F .f32) (X3 : S64x16.Idx → Elt F .f32)
    (e0 : ∀ d, b0 d = X0) (e1 : ∀ d, b1 d = X1) (e2 : ∀ d, b2 d = X2) (e3 : ∀ d, b3 d = X3) :
    iprop(Φ ∗ O ∗ (∃ d, owns (c : Thread nD τ) M0 fullShare (b0 d)) ∗ (∃ d, owns (c : Thread nD τ) M1 fullShare (b1 d))
      ∗ (∃ d, owns (c : Thread nD τ) M2 fullShare (b2 d)) ∗ (∃ d, owns (c : Thread nD τ) M3 fullShare (b3 d))
      ∗ (∃ d, owns (c : Thread nD τ) M4 fullShare (b4 d)))
    ⊢ wp frame (wpE (defs₀ (F := F)) 𝒱₀ c none) Set.univ (cc5_body i M0 h0 M1 h1 M2 h2 M3 h3 M4 h4) fun _ =>
        iprop(Φ ∗ O ∗ owns (c : Thread nD τ) M0 fullShare X0 ∗ owns (c : Thread nD τ) M1 fullShare X1
          ∗ owns (c : Thread nD τ) M2 fullShare X2 ∗ owns (c : Thread nD τ) M3 fullShare X3
          ∗ owns (c : Thread nD τ) M4 fullShare (comb X0 X1 X2 X3)) := by
  simp only [owns_pt c _ h0, owns_pt c _ h1, owns_pt c _ h2, owns_pt c _ h3, owns_pt c _ h4, e0, e1, e2, e3]
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩⟩
  iapply (sum_run c i M0 h0 M1 h1 M2 h2 M3 h3 M4 h4 f0 f1 f2 f3 f4)
  isplitl [H0]; · iexact H0
  isplitl [H1]; · iexact H1
  isplitl [H2]; · iexact H2
  isplitl [H3]; · iexact H3
  isplitl [H4]; · iexact H4
  iintro ⟨H0, H1, H2, H3, ⟨%f, %hf, H4⟩⟩
  isplitl [HΦ]; · iexact HΦ
  isplitl [HO]; · iexact HO
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists f; isplitr; swap; · iexact H4
  ipureintro
  rw [hf, hf0, hf1, hf2, hf3]

/-- The table's call: its body at a point. -/
theorem body0 (V : Valuation τ sig (Elt F)) (c : Dev nD) :
    Pipeline.BodyObligationLoose (dat0 V c) (defs₀ (F := F)) 𝒱₀ (none : HIx 4) Set.univ := fun t => by
  rw [bigSep_W0, bigSep_W0]
  exact table_obl c (grid0.coords t) (win0_0.stage (cfg0.slots t 0)) (hstage0_0 ((cfg0.slots t 0).cast nbuf0_0))
    (win0_1.stage (cfg0.slots t 1)) (hstage0_1 ((cfg0.slots t 1).cast nbuf0_1)) _ _ _ _ (blkOf cfg0 V 0 t)
    (fun d => (dat0 V c).before_in_eq_fetched 0 rfl (fun _ => rfl) (fun _ _ _ => rfl) (fun t => by dsimp only [dat0]; rfl) t d)

/-- The first sum's call: its input windows hold their blocks when the body runs. -/
theorem before5 (V : Valuation τ sig (Elt F)) (c : Dev nD) (t : Fin cfg5.N) :
    (∀ d, (dat5 V c).before 0 t d = blkOf cfg5 V 0 t) ∧ (∀ d, (dat5 V c).before 1 t d = blkOf cfg5 V 1 t)
      ∧ (∀ d, (dat5 V c).before 2 t d = blkOf cfg5 V 2 t) ∧ (∀ d, (dat5 V c).before 3 t d = blkOf cfg5 V 3 t) :=
  ⟨fun d => (dat5 V c).before_in_eq_fetched 0 rfl (fun _ => rfl) (fun _ _ _ => rfl) (fun t => by dsimp only [dat5]; rfl) t d,
    fun d => (dat5 V c).before_in_eq_fetched 1 rfl (fun _ => rfl) (fun _ _ _ => rfl) (fun t => by dsimp only [dat5]; rfl) t d,
    fun d => (dat5 V c).before_in_eq_fetched 2 rfl (fun _ => rfl) (fun _ _ _ => rfl) (fun t => by dsimp only [dat5]; rfl) t d,
    fun d => (dat5 V c).before_in_eq_fetched 3 rfl (fun _ => rfl) (fun _ _ _ => rfl) (fun t => by dsimp only [dat5]; rfl) t d⟩

/-- The first sum's call: its body at a point. -/
theorem body5 (V : Valuation τ sig (Elt F)) (c : Dev nD) :
    Pipeline.BodyObligationLoose (dat5 V c) (defs₀ (F := F)) 𝒱₀ (none : HIx 4) Set.univ := fun t => by
  obtain ⟨e0, e1, e2, e3⟩ := before5 V c t
  have R := sum_obl c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4))
    ((dat5 V c).Φ t.castSucc) ((dat5 V c).owesAt none t.castSucc) ((dat5 V c).before 0 t) ((dat5 V c).before 1 t) ((dat5 V c).before 2 t)
    ((dat5 V c).before 3 t) ((dat5 V c).before 4 t) _ _ _ _ e0 e1 e2 e3
  rw [show comb (blkOf cfg5 V 0 t) (blkOf cfg5 V 1 t) (blkOf cfg5 V 2 t) (blkOf cfg5 V 3 t) = (dat5 V c).after 4 t by dsimp only [dat5],
    show blkOf cfg5 V 0 t = (dat5 V c).after 0 t by dsimp only [dat5], show blkOf cfg5 V 1 t = (dat5 V c).after 1 t by dsimp only [dat5],
    show blkOf cfg5 V 2 t = (dat5 V c).after 2 t by dsimp only [dat5], show blkOf cfg5 V 3 t = (dat5 V c).after 3 t by dsimp only [dat5]] at R
  rw [bigSep_W5, bigSep_W5, show (dat5 V c).Φ t.succ = (dat5 V c).Φ t.castSucc by dsimp only [dat5],
    show (dat5 V c).owesAt (none : HIx 4) t.succ = (dat5 V c).owesAt none t.castSucc by dsimp only [Dat.owesAt, Dat.bound, dat5]]
  dsimp only [cfg5]
  exact R

/-- The second sum's call: its input windows hold their blocks when the body runs. -/
theorem before6 (V : Valuation τ sig (Elt F)) (c : Dev nD) (t : Fin cfg6.N) :
    (∀ d, (dat6 V c).before 0 t d = blkOf cfg6 V 0 t) ∧ (∀ d, (dat6 V c).before 1 t d = blkOf cfg6 V 1 t)
      ∧ (∀ d, (dat6 V c).before 2 t d = blkOf cfg6 V 2 t) ∧ (∀ d, (dat6 V c).before 3 t d = blkOf cfg6 V 3 t) :=
  ⟨fun d => (dat6 V c).before_in_eq_fetched 0 rfl (fun _ => rfl) (fun _ _ _ => rfl) (fun t => by dsimp only [dat6]; rfl) t d,
    fun d => (dat6 V c).before_in_eq_fetched 1 rfl (fun _ => rfl) (fun _ _ _ => rfl) (fun t => by dsimp only [dat6]; rfl) t d,
    fun d => (dat6 V c).before_in_eq_fetched 2 rfl (fun _ => rfl) (fun _ _ _ => rfl) (fun t => by dsimp only [dat6]; rfl) t d,
    fun d => (dat6 V c).before_in_eq_fetched 3 rfl (fun _ => rfl) (fun _ _ _ => rfl) (fun t => by dsimp only [dat6]; rfl) t d⟩

/-- The second sum's call: its body at a point. -/
theorem body6 (V : Valuation τ sig (Elt F)) (c : Dev nD) :
    Pipeline.BodyObligationLoose (dat6 V c) (defs₀ (F := F)) 𝒱₀ (none : HIx 4) Set.univ := fun t => by
  obtain ⟨e0, e1, e2, e3⟩ := before6 V c t
  have R := sum_obl c (grid5.coords ⟨0, by decide⟩) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (win6_4.stage (cfg6.slots t 4)) (hstage6_4 ((cfg6.slots t 4).cast nbuf6_4))
    ((dat6 V c).Φ t.castSucc) ((dat6 V c).owesAt none t.castSucc) ((dat6 V c).before 0 t) ((dat6 V c).before 1 t) ((dat6 V c).before 2 t)
    ((dat6 V c).before 3 t) ((dat6 V c).before 4 t) _ _ _ _ e0 e1 e2 e3
  rw [← cc6_is (F := F) (grid6.coords t) (Memref.whole main_v19) (Memref.isWhole_whole _)] at R
  rw [show comb (blkOf cfg6 V 0 t) (blkOf cfg6 V 1 t) (blkOf cfg6 V 2 t) (blkOf cfg6 V 3 t) = (dat6 V c).after 4 t by dsimp only [dat6],
    show blkOf cfg6 V 0 t = (dat6 V c).after 0 t by dsimp only [dat6], show blkOf cfg6 V 1 t = (dat6 V c).after 1 t by dsimp only [dat6],
    show blkOf cfg6 V 2 t = (dat6 V c).after 2 t by dsimp only [dat6], show blkOf cfg6 V 3 t = (dat6 V c).after 3 t by dsimp only [dat6]] at R
  rw [bigSep_W6, bigSep_W6, show (dat6 V c).Φ t.succ = (dat6 V c).Φ t.castSucc by dsimp only [dat6],
    show (dat6 V c).owesAt (none : HIx 4) t.succ = (dat6 V c).owesAt none t.castSucc by dsimp only [Dat.owesAt, Dat.bound, dat6]]
  dsimp only [cfg6]
  exact R

/-- The third sum's call: its input windows hold their blocks when the body runs. -/
theorem before7 (V : Valuation τ sig (Elt F)) (c : Dev nD) (t : Fin cfg7.N) :
    (∀ d, (dat7 V c).before 0 t d = blkOf cfg7 V 0 t) ∧ (∀ d, (dat7 V c).before 1 t d = blkOf cfg7 V 1 t)
      ∧ (∀ d, (dat7 V c).before 2 t d = blkOf cfg7 V 2 t) ∧ (∀ d, (dat7 V c).before 3 t d = blkOf cfg7 V 3 t) :=
  ⟨fun d => (dat7 V c).before_in_eq_fetched 0 rfl (fun _ => rfl) (fun _ _ _ => rfl) (fun t => by dsimp only [dat7]; rfl) t d,
    fun d => (dat7 V c).before_in_eq_fetched 1 rfl (fun _ => rfl) (fun _ _ _ => rfl) (fun t => by dsimp only [dat7]; rfl) t d,
    fun d => (dat7 V c).before_in_eq_fetched 2 rfl (fun _ => rfl) (fun _ _ _ => rfl) (fun t => by dsimp only [dat7]; rfl) t d,
    fun d => (dat7 V c).before_in_eq_fetched 3 rfl (fun _ => rfl) (fun _ _ _ => rfl) (fun t => by dsimp only [dat7]; rfl) t d⟩

/-- The third sum's call: its body at a point. -/
theorem body7 (V : Valuation τ sig (Elt F)) (c : Dev nD) :
    Pipeline.BodyObligationLoose (dat7 V c) (defs₀ (F := F)) 𝒱₀ (none : HIx 4) Set.univ := fun t => by
  obtain ⟨e0, e1, e2, e3⟩ := before7 V c t
  have R := sum_obl c (grid5.coords ⟨0, by decide⟩) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4))
    ((dat7 V c).Φ t.castSucc) ((dat7 V c).owesAt none t.castSucc) ((dat7 V c).before 0 t) ((dat7 V c).before 1 t) ((dat7 V c).before 2 t)
    ((dat7 V c).before 3 t) ((dat7 V c).before 4 t) _ _ _ _ e0 e1 e2 e3
  rw [← cc7_is (F := F) (grid7.coords t) (Memref.whole main_v20) (Memref.isWhole_whole _)] at R
  rw [show comb (blkOf cfg7 V 0 t) (blkOf cfg7 V 1 t) (blkOf cfg7 V 2 t) (blkOf cfg7 V 3 t) = (dat7 V c).after 4 t by dsimp only [dat7],
    show blkOf cfg7 V 0 t = (dat7 V c).after 0 t by dsimp only [dat7], show blkOf cfg7 V 1 t = (dat7 V c).after 1 t by dsimp only [dat7],
    show blkOf cfg7 V 2 t = (dat7 V c).after 2 t by dsimp only [dat7], show blkOf cfg7 V 3 t = (dat7 V c).after 3 t by dsimp only [dat7]] at R
  rw [bigSep_W7, bigSep_W7, show (dat7 V c).Φ t.succ = (dat7 V c).Φ t.castSucc by dsimp only [dat7],
    show (dat7 V c).owesAt (none : HIx 4) t.succ = (dat7 V c).owesAt none t.castSucc by dsimp only [Dat.owesAt, Dat.bound, dat7]]
  dsimp only [cfg7]
  exact R

/-- The last sum's call: its input windows hold their blocks when the body runs. -/
theorem before8 (V : Valuation τ sig (Elt F)) (c : Dev nD) (t : Fin cfg8.N) :
    (∀ d, (dat8 V c).before 0 t d = blkOf cfg8 V 0 t) ∧ (∀ d, (dat8 V c).before 1 t d = blkOf cfg8 V 1 t)
      ∧ (∀ d, (dat8 V c).before 2 t d = blkOf cfg8 V 2 t) ∧ (∀ d, (dat8 V c).before 3 t d = blkOf cfg8 V 3 t) :=
  ⟨fun d => (dat8 V c).before_in_eq_fetched 0 rfl (fun _ => rfl) (fun _ _ _ => rfl) (fun t => by dsimp only [dat8]; rfl) t d,
    fun d => (dat8 V c).before_in_eq_fetched 1 rfl (fun _ => rfl) (fun _ _ _ => rfl) (fun t => by dsimp only [dat8]; rfl) t d,
    fun d => (dat8 V c).before_in_eq_fetched 2 rfl (fun _ => rfl) (fun _ _ _ => rfl) (fun t => by dsimp only [dat8]; rfl) t d,
    fun d => (dat8 V c).before_in_eq_fetched 3 rfl (fun _ => rfl) (fun _ _ _ => rfl) (fun t => by dsimp only [dat8]; rfl) t d⟩

/-- The last sum's call: its body at a point. -/
theorem body8 (V : Valuation τ sig (Elt F)) (c : Dev nD) :
    Pipeline.BodyObligationLoose (dat8 V c) (defs₀ (F := F)) 𝒱₀ (none : HIx 4) Set.univ := fun t => by
  obtain ⟨e0, e1, e2, e3⟩ := before8 V c t
  have R := sum_obl c (grid5.coords ⟨0, by decide⟩) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4))
    ((dat8 V c).Φ t.castSucc) ((dat8 V c).owesAt none t.castSucc) ((dat8 V c).before 0 t) ((dat8 V c).before 1 t) ((dat8 V c).before 2 t)
    ((dat8 V c).before 3 t) ((dat8 V c).before 4 t) _ _ _ _ e0 e1 e2 e3
  rw [← cc8_is (F := F) (grid8.coords t) (Memref.whole main_v21) (Memref.isWhole_whole _)] at R
  rw [show comb (blkOf cfg8 V 0 t) (blkOf cfg8 V 1 t) (blkOf cfg8 V 2 t) (blkOf cfg8 V 3 t) = (dat8 V c).after 4 t by dsimp only [dat8],
    show blkOf cfg8 V 0 t = (dat8 V c).after 0 t by dsimp only [dat8], show blkOf cfg8 V 1 t = (dat8 V c).after 1 t by dsimp only [dat8],
    show blkOf cfg8 V 2 t = (dat8 V c).after 2 t by dsimp only [dat8], show blkOf cfg8 V 3 t = (dat8 V c).after 3 t by dsimp only [dat8]] at R
  rw [bigSep_W8, bigSep_W8, show (dat8 V c).Φ t.succ = (dat8 V c).Φ t.castSucc by dsimp only [dat8],
    show (dat8 V c).owesAt (none : HIx 4) t.succ = (dat8 V c).owesAt none t.castSucc by dsimp only [Dat.owesAt, Dat.bound, dat8]]
  dsimp only [cfg8]
  exact R

/-- The table's call fits a valuation, before the first SparseCore call. -/
theorem fits0 (V : Dev nD → Valuation τ sig (Elt F)) : Fits (F := F) (dats V) 0 0 V where
  body c := by dsimp only [dats]; exact body0 (V c) c
  owed _ _ := by dsimp only [dats, dat0]
  recs _ _ := by dsimp only [dats, dat0]
  share _ _ := by dsimp only [dats, Dat.share, dat0]; split <;> rfl
  inv _ _ := by dsimp only [dats, dat0]; rfl
  entry _ _ := by dsimp only [dats, Dat.arrAt, dat0]; rfl

/-- The sums' calls fit a valuation, after the last SparseCore call. -/
theorem fits5 (V : Dev nD → Valuation τ sig (Elt F)) : Fits (F := F) (dats V) 1 4 V where
  body c := by dsimp only [dats]; exact body5 (V c) c
  owed _ _ := by dsimp only [dats, dat5]
  recs _ _ := by dsimp only [dats, dat5]
  share _ _ := by dsimp only [dats, Dat.share, dat5]; split <;> rfl
  inv _ _ := by dsimp only [dats, dat5]; rfl
  entry _ _ := by dsimp only [dats, Dat.arrAt, dat5]; rfl

theorem fits6 (V : Dev nD → Valuation τ sig (Elt F)) : Fits (F := F) (dats V) 2 4 V where
  body c := by dsimp only [dats]; exact body6 (V c) c
  owed _ _ := by dsimp only [dats, dat6]
  recs _ _ := by dsimp only [dats, dat6]
  share _ _ := by dsimp only [dats, Dat.share, dat6]; split <;> rfl
  inv _ _ := by dsimp only [dats, dat6]; rfl
  entry _ _ := by dsimp only [dats, Dat.arrAt, dat6]; rfl

theorem fits7 (V : Dev nD → Valuation τ sig (Elt F)) : Fits (F := F) (dats V) 3 4 V where
  body c := by dsimp only [dats]; exact body7 (V c) c
  owed _ _ := by dsimp only [dats, dat7]
  recs _ _ := by dsimp only [dats, dat7]
  share _ _ := by dsimp only [dats, Dat.share, dat7]; split <;> rfl
  inv _ _ := by dsimp only [dats, dat7]; rfl
  entry _ _ := by dsimp only [dats, Dat.arrAt, dat7]; rfl

theorem fits8 (V : Dev nD → Valuation τ sig (Elt F)) : Fits (F := F) (dats V) 4 4 V where
  body c := by dsimp only [dats]; exact body8 (V c) c
  owed _ _ := by dsimp only [dats, dat8]
  recs _ _ := by dsimp only [dats, dat8]
  share _ _ := by dsimp only [dats, Dat.share, dat8]; split <;> rfl
  inv _ _ := by dsimp only [dats, dat8]; rfl
  entry _ _ := by dsimp only [dats, Dat.arrAt, dat8]; rfl

end Cert.Proof
-- ==== Proof.Ring.lean ====
/- ONE TILE'S PIPELINED GATHER, over any number of windows. `NB` blocks of 128 row numbers and `NB` windows of 128
   output rows; two slots for each. A trip issues the fetch of the next block, waits for its own, gathers the rows its
   block names, issues their store, and waits for the previous trip's store. `Ring` names the pieces, `Ring.trip` is the
   trip, `Ring.inv` what the tile holds before trip `t`, `Ring.wp_trip` one trip of it. The contents of every window are
   carried: window `t` ends at the table's rows that block `t` names (`Ring.pay`). -/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-- The pieces of one tile's pipeline: its blocks of row numbers, its windows of the output, the two slots of each
    kind with their semaphores, the table, the gather's semaphore. -/
structure Ring (NB : ℕ) where
  iB : Fin NB → Memref sig .scVector .hbm S1x128 .i32
  oB : Fin NB → Memref sig .scVector .hbm S128x128 .f32
  iS : Fin 2 → Memref sig .scVector .vmem S1x128 .i32
  oS : Fin 2 → Memref sig .scVector .vmem S128x128 .f32
  tb : Memref sig .scVector .hbm S100096x128 .f32
  sI : Fin 2 → DmaSem sig
  sO : Fin 2 → DmaSem sig
  sG : DmaSem sig

/-- The slot of trip `t`: its parity. -/
def par (t : ℕ) : Fin 2 := ⟨t % 2, Nat.mod_lt _ (by decide)⟩

theorem par_add_two (t : ℕ) : par (t + 2) = par t := Fin.ext (by simp [par])

namespace Ring

variable {NB : ℕ} (R : Ring NB)

/-- The 128 row numbers in slot `s`, as the list a gather reads. -/
def lS (s : Fin 2) : Memref sig .scVector .vmem S128 .i32 :=
  ((R.iS s).slice (Rect.unit (s := S1x128) ![0, 0] S1x128.size inb_S1x128_S1x128_0_0) (fun _ => rfl)).squeeze S128 squeezes_S1x128_S128

/-- The table, as the source of a gather. -/
def tbl : Memref sig .scVector .hbm S100096x128 .f32 :=
  R.tb.slice (Rect.unit (s := S100096x128) ![0, 0] S100096x128.size inb_S100096x128_S100096x128_0_0) (fun _ => rfl)

variable {cc : Fin τ.nSC} {ss : Fin τ.nSub}

/-- The fetch of block `t` into its slot. -/
def fetch (cc : Fin τ.nSC) (ss : Fin τ.nSub) (t : Fin NB) : Prog (TpuEff nD τ sig (Elt F) Λ₀ (.scVector cc ss)) PUnit :=
  Prog.lift (.enqueueDma (R.iB t) (.here (R.iS (par t))) (.dma (R.sI (par t))) (View.wordExact_bits rfl) (View.wordExact_bits rfl) ⟨Or.inl rfl, trivial⟩)

/-- The wait for window `t`'s store. -/
def drain (cc : Fin τ.nSC) (ss : Fin τ.nSub) (t : Fin NB) : Prog (TpuEff nD τ sig (Elt F) Λ₀ (.scVector cc ss)) PUnit :=
  Prog.lift (.waitDma2 (R.sO (par t)) (R.oS (par t)) (R.oB t) (View.wordExact_bits rfl) (View.wordExact_bits rfl))

/-- The wait for block `t`'s fetch. -/
def land (cc : Fin τ.nSC) (ss : Fin τ.nSub) (t : Fin NB) : Prog (TpuEff nD τ sig (Elt F) Λ₀ (.scVector cc ss)) PUnit :=
  Prog.lift (.waitDma2 (R.sI (par t)) (R.iB t) (R.iS (par t)) (View.wordExact_bits rfl) (View.wordExact_bits rfl))

/-- The gather of the rows block `t` names. -/
def gather (cc : Fin τ.nSC) (ss : Fin τ.nSub) (t : Fin NB) : Prog (TpuEff nD τ sig (Elt F) Λ₀ (.scVector cc ss)) PUnit :=
  SparseCore.enqueueIndirectGather rfl R.tbl (R.oS (par t)) gathers_S100096x128_S128x128 (R.lS (par t)) rfl R.sG (View.wordExact_bits rfl) rfl (Or.inl rfl)

/-- The gather's wait. -/
def gathered (cc : Fin τ.nSC) (ss : Fin τ.nSub) (t : Fin NB) : Prog (TpuEff nD τ sig (Elt F) Λ₀ (.scVector cc ss)) PUnit :=
  SparseCore.waitIndirectGather R.sG R.tbl (R.oS (par t)) (View.wordExact_bits rfl) (View.wordExact_bits rfl)

/-- The store of the gathered rows to window `t`. -/
def store (cc : Fin τ.nSC) (ss : Fin τ.nSub) (t : Fin NB) : Prog (TpuEff nD τ sig (Elt F) Λ₀ (.scVector cc ss)) PUnit :=
  Prog.lift (.enqueueDma (R.oS (par t)) (.here (R.oB t)) (.dma (R.sO (par t))) (View.wordExact_bits rfl) (View.wordExact_bits rfl) ⟨Or.inl rfl, trivial⟩)

/-- The next block's fetch, if there is a next block. -/
def fetchNext (cc : Fin τ.nSC) (ss : Fin τ.nSub) (t : Fin NB) : Prog (TpuEff nD τ sig (Elt F) Λ₀ (.scVector cc ss)) PUnit :=
  if h : t.val + 1 < NB then R.fetch cc ss ⟨t.val + 1, h⟩ else pure ⟨⟩

/-- The wait for the previous trip's store, if there was one. -/
def drainPrev (cc : Fin τ.nSC) (ss : Fin τ.nSub) (t : Fin NB) : Prog (TpuEff nD τ sig (Elt F) Λ₀ (.scVector cc ss)) PUnit :=
  if h : 0 < t.val then R.drain cc ss ⟨t.val - 1, by omega⟩ else pure ⟨⟩

/-- One trip. -/
def trip (cc : Fin τ.nSC) (ss : Fin τ.nSub) (t : Fin NB) : Prog (TpuEff nD τ sig (Elt F) Λ₀ (.scVector cc ss)) PUnit := do
  R.fetchNext cc ss t
  R.land cc ss t
  R.gather cc ss t
  R.gathered cc ss t
  R.store cc ss t
  R.drainPrev cc ss t

/-! ## What the tile holds -/

/-- The list a block's 128 row numbers make. -/
def listOf (g : S1x128.Idx → Elt F .i32) : S128.Idx → Elt F .i32 :=
  fun x => g ((Rect.unit (s := S1x128) ![0, 0] S1x128.size inb_S1x128_S1x128_0_0).emb (Shape.reshapeEquiv (Shape.Squeezes.numel_eq squeezes_S1x128_S128) x))

theorem read_lS (s : Fin 2) (f : (R.iS s).view.ty.Contents (Elt F)) :
    (R.lS s).view.read (Elt F) f = listOf ((R.iS s).view.read (Elt F) f) := rfl

/-- A rectangle that is all of a view's shape has all of the view's elements. -/
theorem set_slice_all {κ : Kind} {sp : Space} {s : Shape} {e : EltTy} (v : View sig κ sp s e) (r : Rect s) (h : r.set = Finset.univ) :
    (v.slice r).set = v.set := by
  rw [View.set_slice, h]; rfl

theorem allList_set : (Rect.unit (s := S1x128) ![0, 0] S1x128.size inb_S1x128_S1x128_0_0).set = Finset.univ := by
  decide +kernel

theorem set_lS (s : Fin 2) : (R.lS s).view.set = (R.iS s).view.set :=
  (View.set_reshape _ _).trans (set_slice_all _ _ allList_set)

variable (d : Dev nD) (cc : Fin τ.nSC) (ss : Fin τ.nSub)
variable (fI : (t : Fin NB) → Buf (Elt F) ((R.iB t).view.loc (V d cc ss)))
  (f4 : (t : Fin NB) → Buf (Elt F) ((R.oB t).view.loc (V d cc ss)))
  (fT : Buf (Elt F) (R.tb.view.loc (V d cc ss))) (q : PosShare TreeShare)
  (hin : ∀ (t : Fin NB) (x : S128.Idx), (listOf (F := F) ((R.iB t).view.read (Elt F) (fI t)) x).toNat < S100096x128.size gathers_S100096x128_S128x128.axis)

/-- The rows window `t` ends at: the table's, at the row numbers of block `t`. -/
def pay (t : Fin NB) : S128x128.Idx → Elt F .f32 :=
  SparseCore.gatherPayload gathers_S100096x128_S128x128 (R.tbl.view.read (Elt F) fT)
    (SparseCore.rows (listOf (F := F) ((R.iB t).view.read (Elt F) (fI t))) rfl (hin t))

/-- Input slot `s`, free: its semaphore at zero, its buffer at some contents. -/
def slotI (s : Fin 2) : sProp 𝕄 :=
  iprop(semVal (V d cc ss, .dma (R.sI s)) 0 ∗ ∃ f, (R.iS s).view.loc (V d cc ss) ↦[(R.iS s).view.set]{fullShare} f)

/-- Output slot `s`'s buffer at some contents. -/
def bufO (s : Fin 2) : sProp 𝕄 := iprop(∃ f, (R.oS s).view.loc (V d cc ss) ↦[(R.oS s).view.set]{fullShare} f)

/-- Output slot `s`, free. -/
def slotO (s : Fin 2) : sProp 𝕄 := iprop(semVal (V d cc ss, .dma (R.sO s)) 0 ∗ R.bufO (F := F) d cc ss s)

/-- Block `t` of row numbers. -/
def blk (t : Fin NB) : sProp 𝕄 := (R.iB t).view.loc (V d cc ss) ↦[(R.iB t).view.set]{fullShare} fI t

/-- Window `t` of the output, as it was. -/
def win (t : Fin NB) : sProp 𝕄 := (R.oB t).view.loc (V d cc ss) ↦[(R.oB t).view.set]{fullShare} f4 t

/-- Window `t` of the output, gathered. -/
def done (t : Fin NB) : sProp 𝕄 :=
  (R.oB t).view.loc (V d cc ss) ↦[(R.oB t).view.set]{fullShare} (R.oB t).view.write (Elt F) (f4 t) (R.pay d cc ss fI fT hin t) Finset.univ

/-- What the wait for block `t`'s fetch hands back: the slot holding the block's numbers, the block. -/
def landed (t : Fin NB) : sProp 𝕄 :=
  iprop((∃ f, ⌜(R.iS (par t)).view.read (Elt F) f = (R.iB t).view.read (Elt F) (fI t)⌝
      ∗ (R.iS (par t)).view.loc (V d cc ss) ↦[(R.iS (par t)).view.set]{fullShare} f) ∗ R.blk d cc ss fI t)

/-- Trip `t`'s input slot: its block in flight, or free past the last. -/
def inFly (t : ℕ) : sProp 𝕄 :=
  if h : t < NB then Transfers.Flight countersEmb (V d cc ss) (.dma (R.sI (par t))) (none : HIx 4) (R.iS (par t)).view.dmaCredit (R.landed d cc ss fI ⟨t, h⟩)
  else R.slotI (F := F) d cc ss (par t)

/-- The previous trip's output slot: its store in flight; free before the first. -/
def outFly : ℕ → sProp 𝕄
  | 0 => R.slotO (F := F) d cc ss (par 1)
  | t + 1 => if h : t < NB then Transfers.Flight countersEmb (V d cc ss) (.dma (R.sO (par t))) (none : HIx 4) (R.oB ⟨t, h⟩).view.dmaCredit
      iprop(R.done d cc ss fI f4 fT hin ⟨t, h⟩ ∗ R.bufO (F := F) d cc ss (par t)) else iprop(False)

theorem outFly_succ (t : Fin NB) : R.outFly d cc ss fI f4 fT hin (t.val + 1)
    = Transfers.Flight countersEmb (V d cc ss) (.dma (R.sO (par t))) (none : HIx 4) (R.oB t).view.dmaCredit
        iprop(R.done d cc ss fI f4 fT hin t ∗ R.bufO (F := F) d cc ss (par t)) := dif_pos t.isLt

theorem inFly_lt (t : Fin NB) : R.inFly d cc ss fI t.val
    = Transfers.Flight countersEmb (V d cc ss) (.dma (R.sI (par t))) (none : HIx 4) (R.iS (par t)).view.dmaCredit (R.landed d cc ss fI t) := dif_pos t.isLt

/-- The blocks not in flight before trip `t`. -/
def blks (t : ℕ) : sProp 𝕄 := bigSep Finset.univ fun u : Fin NB => if u.val = t then iprop(emp) else R.blk d cc ss fI u

/-- The windows not in flight before trip `t`: gathered before it, as they were from it on. -/
def wins (t : ℕ) : sProp 𝕄 := bigSep Finset.univ fun u : Fin NB =>
  if u.val + 1 = t then iprop(emp) else if u.val < t then R.done d cc ss fI f4 fT hin u else R.win d cc ss f4 u

/-- The share of the table the tile reads. -/
def tab : sProp 𝕄 := R.tbl.view.loc (V d cc ss) ↦[R.tbl.view.set]{q} fT

/-- What the tile owes, its recorded waits being `W`'s or its own transfers'. -/
def owed (O : CellTallies nD τ sig (HIx 4)) (W : Waits sig (HIx 4)) : sProp 𝕄 :=
  iprop(∃ W', ⌜∀ p ∈ W', p ∈ W ∨ p.2 = none⌝ ∗ owes (V d cc ss) O W')

theorem owed_insert {O : CellTallies nD τ sig (HIx 4)} {W W' : Waits sig (HIx 4)} {sm : SemLoc sig} (h : ∀ p ∈ W', p ∈ W ∨ p.2 = none) :
    ∀ p ∈ insert (sm, (none : HIx 4)) W', p ∈ W ∨ p.2 = none := fun p hp => by
  rcases Finset.mem_insert.mp hp with hp | hp
  · exact .inr (hp ▸ rfl)
  · exact h p hp

/-- What the tile holds before trip `t`. -/
def inv (O : CellTallies nD τ sig (HIx 4)) (W : Waits sig (HIx 4)) (t : ℕ) : sProp 𝕄 :=
  iprop(R.inFly d cc ss fI t ∗ R.slotI (F := F) d cc ss (par (t + 1)) ∗ R.blks d cc ss fI t
    ∗ R.outFly d cc ss fI f4 fT hin t ∗ R.slotO (F := F) d cc ss (par t) ∗ R.wins d cc ss fI f4 fT hin t
    ∗ semVal (V d cc ss, .dma R.sG) 0 ∗ R.tab d cc ss fT q ∗ owed (F := F) d cc ss O W)

/-! ## The steps of a trip -/

/-- One block of the family, at its place and away from it. -/
theorem take_put {Φ Ψ : Fin NB → sProp 𝕄} (u : Fin NB) (h : ∀ v, v ≠ u → Ψ v = Φ v) :
    bigSep Finset.univ Φ ⊢ iprop(Φ u ∗ (Ψ u -∗ bigSep Finset.univ Ψ)) := bigSep_univ_update u h

/-- The fetch of block `t` into a free slot. -/
theorem wp_fetch (t : Fin NB) :
    iprop(R.slotI (F := F) d cc ss (par t) ∗ R.blk d cc ss fI t)
      ⊢ wp frame (wpE (defs₀ (F := F)) 𝒱₀ (V d cc ss) none) Set.univ (R.fetch cc ss t) fun _ => R.inFly d cc ss fI t.val := by
  unfold slotI blk fetch
  iintro ⟨⟨Hv, %f, Hs⟩, Hb⟩
  iapply (Transfers.wp_dmaLocal countersEmb 𝒱₀ (V d cc ss) none (none : HIx 4) (R.iS (par t)).view.dmaCredit rfl
    (View.dmaCredit_pos _ (by decide)) (Finset.Subset.refl _)) $$ [Hv Hs Hb]
  · isplitl [Hb]; · iexact Hb
    isplitl [Hs]; · iexact Hs
    iexact Hv
  iintro Hf
  rw [wp_ret]
  imodintro
  rw [inFly_lt]
  iapply (Transfers.Flight_mono countersEmb _ ?_) $$ Hf
  unfold landed blk
  iintro ⟨Hs, Hb⟩
  isplitl [Hs]
  · iexists _
    isplitr
    swap; · iexact Hs
    ipureintro
    exact View.read_write_univ _ _
  · iexact Hb

/-- The wait for window `t`'s store. -/
theorem wp_drain (O : CellTallies nD τ sig (HIx 4)) (W : Waits sig (HIx 4)) (t : Fin NB) :
    iprop(Transfers.MayWaits (V d cc ss) (none : HIx 4) O ∗ R.outFly d cc ss fI f4 fT hin (t.val + 1) ∗ owed (F := F) d cc ss O W)
      ⊢ wp frame (wpE (defs₀ (F := F)) 𝒱₀ (V d cc ss) none) Set.univ (R.drain cc ss t)
          fun _ => iprop(R.done d cc ss fI f4 fT hin t ∗ R.slotO (F := F) d cc ss (par t) ∗ owed (F := F) d cc ss O W) := by
  rw [outFly_succ]
  unfold owed drain
  iintro ⟨#Hmw, Hf, %W', %hW, HO⟩
  iapply (Transfers.wp_waitLocalO countersEmb 𝒱₀ (V d cc ss) none (none : HIx 4) rfl) $$ [Hf HO]
  · isplitl [Hf]; · iexact Hf
    isplitl [HO]; · iexact HO
    iapply (Transfers.MayWaits.elim (SemLoc.dma (R.sO (par t)))) $$ Hmw
  iintro ⟨⟨Hd, Hb⟩, Hv, HO⟩
  rw [wp_ret]
  imodintro
  unfold slotO
  isplitl [Hd]; · iexact Hd
  isplitl [Hv Hb]; · isplitl [Hv] <;> iassumption
  iexists _
  isplitr
  swap; · iexact HO
  ipureintro
  exact owed_insert (O := O) hW

/-- The wait for block `t`'s fetch, the gather of the rows it names, the gather's wait, and the issue of their store. -/
theorem wp_core (hG : ∀ (s : Fin 2) (h : S100096x128.Gathers 0 S128x128),
      ∑ j, ((R.oS s).slice (S128x128.rowRect h.axis' j) (S128x128.stride_rowRect h.axis' j)).view.dmaCredit = (R.oS s).view.dmaCredit)
    (O : CellTallies nD τ sig (HIx 4)) (W : Waits sig (HIx 4)) (t : Fin NB) {Q : PUnit.{1} → sProp 𝕄}
    (k : PUnit.{1} → Prog (TpuEff nD τ sig (Elt F) Λ₀ (.scVector cc ss)) PUnit) :
    iprop(Transfers.MayWaits (V d cc ss) (none : HIx 4) O ∗ R.inFly d cc ss fI t.val ∗ R.slotO (F := F) d cc ss (par t)
        ∗ R.win d cc ss f4 t ∗ semVal (V d cc ss, .dma R.sG) 0 ∗ R.tab d cc ss fT q ∗ owed (F := F) d cc ss O W
        ∗ (iprop(R.slotI (F := F) d cc ss (par t) ∗ R.blk d cc ss fI t ∗ R.outFly d cc ss fI f4 fT hin (t.val + 1)
              ∗ semVal (V d cc ss, .dma R.sG) 0 ∗ R.tab d cc ss fT q ∗ owed (F := F) d cc ss O W)
            -∗ wp frame (wpE (defs₀ (F := F)) 𝒱₀ (V d cc ss) none) Set.univ (k ⟨⟩) Q))
      ⊢ wp frame (wpE (defs₀ (F := F)) 𝒱₀ (V d cc ss) none) Set.univ (do
          R.land cc ss t
          R.gather cc ss t
          R.gathered cc ss t
          R.store cc ss t
          k ⟨⟩) Q := by
  rw [inFly_lt, outFly_succ]
  unfold slotO bufO owed win tab land gather gathered store
  iintro ⟨#Hmw, Hf, ⟨Hvo, %fo, Ho⟩, Hw, HvG, Ht, ⟨%W₁, %hW₁, HO⟩, Hk⟩
  -- the fetch's wait
  simp only [Prog.bind_lift]
  iapply (Transfers.wp_waitLocalO countersEmb 𝒱₀ (V d cc ss) none (none : HIx 4) rfl) $$ [Hf HO]
  · isplitl [Hf]; · iexact Hf
    isplitl [HO]; · iexact HO
    iapply (Transfers.MayWaits.elim (SemLoc.dma (R.sI (par t)))) $$ Hmw
  unfold landed
  iintro ⟨⟨⟨%fs, %hfs, Hs⟩, Hb⟩, Hvi, HO⟩
  -- the gather
  have hrd : (R.lS (par t)).view.read (Elt F) fs = listOf (F := F) ((R.iB t).view.read (Elt F) (fI t)) := (R.read_lS (par t) fs).trans (congrArg listOf hfs)
  ihave Hl := (Entails.of_eq (show ((R.iS (par t)).view.loc (V d cc ss) ↦[(R.iS (par t)).view.set]{fullShare} fs : sProp 𝕄)
      = (R.lS (par t)).view.loc (V d cc ss) ↦[(R.lS (par t)).view.set]{fullShare} fs by rw [set_lS]; rfl)) $$ Hs
  have hin' : ∀ x, ((R.lS (par t)).view.read (Elt F) fs x).toNat < S100096x128.size gathers_S100096x128_S128x128.axis := by
    rw [hrd]; exact hin t
  iapply (SparseCore.wp_indirectGatherLocal countersEmb 𝒱₀ (V d cc ss) none (hg := gathers_S100096x128_S128x128) (none : HIx 4)
      (R.oS (par t)).view.dmaCredit (hG (par t) _) (by decide) hin') $$ [Ht Ho Hl HvG]
  · isplitl [Ht]; · iexact Ht
    isplitl [Ho]; · iexact Ho
    isplitl [Hl]; · iexact Hl
    iexact HvG
  iintro Hf
  -- its wait
  unfold SparseCore.waitIndirectGather
  simp only [Prog.bind_op, Prog.bind_ret]
  iapply (Transfers.wp_waitLocalO countersEmb 𝒱₀ (V d cc ss) none (none : HIx 4) rfl) $$ [Hf HO]
  · isplitl [Hf]; · iexact Hf
    isplitl [HO]; · iexact HO
    iapply (Transfers.MayWaits.elim (SemLoc.dma R.sG)) $$ Hmw
  iintro ⟨⟨Ho, Ht, Hl⟩, HvG, HO⟩
  ihave Hs := (Entails.of_eq (show ((R.lS (par t)).view.loc (V d cc ss) ↦[(R.lS (par t)).view.set]{fullShare} fs : sProp 𝕄)
      = (R.iS (par t)).view.loc (V d cc ss) ↦[(R.iS (par t)).view.set]{fullShare} fs by rw [set_lS]; rfl)) $$ Hl
  -- the store
  iapply (Transfers.wp_dmaLocal countersEmb 𝒱₀ (V d cc ss) none (none : HIx 4) (R.oB t).view.dmaCredit rfl
    (View.dmaCredit_pos _ (by decide)) (Finset.Subset.refl _)) $$ [Hvo Ho Hw]
  · isplitl [Ho]; · iexact Ho
    isplitl [Hw]; · iexact Hw
    iexact Hvo
  iintro Hf
  iapply Hk
  isplitl [Hvi Hs]
  · unfold slotI
    isplitl [Hvi]; · iexact Hvi
    iexists _; iexact Hs
  isplitl [Hb]; · iexact Hb
  isplitl [Hf]
  · iapply (Transfers.Flight_mono countersEmb _ ?_) $$ Hf
    have hpay : SparseCore.gatherPayload gathers_S100096x128_S128x128 (R.tbl.view.read (Elt F) fT)
        (SparseCore.rows ((R.lS (par t)).view.read (Elt F) fs) rfl hin') = R.pay d cc ss fI fT hin t := by
      unfold pay
      congr 1
      congr 1
    iintro ⟨Hd, Hs⟩
    isplitl [Hd]
    · unfold done
      iapply (Entails.of_eq ?_) $$ Hd
      rw [← hpay]
      congr 1
      exact congrArg (fun w => View.write (Elt F) (R.oB t).view (f4 t) w Finset.univ) (View.read_write_univ _ _)
    · iexists _; iexact Hs
  isplitl [HvG]; · iexact HvG
  isplitl [Ht]; · iexact Ht
  iexists _
  isplitr
  swap; · iexact HO
  ipureintro
  exact owed_insert (O := O) (owed_insert (O := O) hW₁)

/-- The windows but `t` and the one before it. -/
def holes (t : ℕ) : sProp 𝕄 := bigSep Finset.univ fun u : Fin NB =>
  if u.val = t ∨ u.val + 1 = t then iprop(emp) else if u.val < t then R.done d cc ss fI f4 fT hin u else R.win d cc ss f4 u

/-- The next block's fetch, if there is a next block; block `t` comes back later. -/
theorem wp_fetchNext (t : Fin NB) :
    iprop(R.slotI (F := F) d cc ss (par (t.val + 1)) ∗ R.blks d cc ss fI t.val)
      ⊢ wp frame (wpE (defs₀ (F := F)) 𝒱₀ (V d cc ss) none) Set.univ (R.fetchNext cc ss t)
          fun _ => iprop(R.inFly d cc ss fI (t.val + 1) ∗ (R.blk d cc ss fI t -∗ R.blks d cc ss fI (t.val + 1))) := by
  unfold blks fetchNext
  by_cases h : t.val + 1 < NB
  · rw [dif_pos h]
    iintro ⟨Hs, Hb⟩
    ihave Hb := (take_put (Ψ := fun u : Fin NB => if u.val = t.val ∨ u.val = t.val + 1 then iprop(emp) else R.blk d cc ss fI u) ⟨t.val + 1, h⟩
      (fun v hv => by
        have : v.val ≠ t.val + 1 := fun e => hv (Fin.ext e)
        simp [this])) $$ Hb
    icases Hb with ⟨Hn, Hb⟩
    simp only [Nat.add_eq_left, one_ne_zero, if_false, or_true, if_true]
    ispecialize Hb $$ []
    · iempintro
    ihave Hb := (take_put (Ψ := fun u : Fin NB => if u.val = t.val + 1 then iprop(emp) else R.blk d cc ss fI u) t
      (fun v hv => by
        have : v.val ≠ t.val := fun e => hv (Fin.ext e)
        simp [this])) $$ Hb
    icases Hb with ⟨-, Hb⟩
    have ht : ¬ t.val = t.val + 1 := by omega
    rw [if_neg ht]
    iapply (wp_wand frame (wpE (defs₀ (F := F)) 𝒱₀ (V d cc ss) none)) $$ [Hs Hn]
    · iapply (R.wp_fetch d cc ss fI ⟨t.val + 1, h⟩)
      isplitl [Hs]; · iexact Hs
      iexact Hn
    iintro %a Hf
    isplitl [Hf]; · iexact Hf
    iexact Hb
  · rw [dif_neg h]
    iintro ⟨Hs, Hb⟩
    ihave Hb := (take_put (Ψ := fun u : Fin NB => if u.val = t.val + 1 then iprop(emp) else R.blk d cc ss fI u) t
      (fun v hv => by
        have h1 : v.val ≠ t.val := fun e => hv (Fin.ext e)
        have h2 : v.val ≠ t.val + 1 := fun e => h (e ▸ v.isLt)
        simp [h1, h2])) $$ Hb
    icases Hb with ⟨-, Hb⟩
    have ht : ¬ t.val = t.val + 1 := by omega
    rw [if_neg ht, wp_pure]
    imodintro
    isplitl [Hs]
    · unfold inFly
      rw [dif_neg h]
      iexact Hs
    iexact Hb

/-- Window `t` taken out. -/
theorem wins_take (t : Fin NB) :
    R.wins d cc ss fI f4 fT hin t.val ⊢ iprop(R.win d cc ss f4 t ∗ R.holes d cc ss fI f4 fT hin t.val) := by
  unfold wins holes
  have h := take_put (Φ := fun u : Fin NB => if u.val + 1 = t.val then iprop(emp) else if u.val < t.val then R.done d cc ss fI f4 fT hin u else R.win d cc ss f4 u)
    (Ψ := fun u : Fin NB => if u.val = t.val ∨ u.val + 1 = t.val then iprop(emp)
      else if u.val < t.val then R.done d cc ss fI f4 fT hin u else R.win d cc ss f4 u) t
      (fun v hv => by
        have : v.val ≠ t.val := fun e => hv (Fin.ext e)
        simp [this])
  have h1 : ¬ t.val + 1 = t.val := by omega
  rw [if_neg h1, if_neg (lt_irrefl _), if_pos (Or.inl rfl)] at h
  refine h.trans ?_
  iintro ⟨Ht, Hw⟩
  isplitl [Ht]; · iexact Ht
  iapply Hw
  iempintro

/-- The wait for the previous trip's store, if there was one. -/
theorem wp_drainPrev (O : CellTallies nD τ sig (HIx 4)) (W : Waits sig (HIx 4)) (t : Fin NB) :
    iprop(Transfers.MayWaits (V d cc ss) (none : HIx 4) O ∗ R.outFly d cc ss fI f4 fT hin t.val ∗ R.holes d cc ss fI f4 fT hin t.val ∗ owed (F := F) d cc ss O W)
      ⊢ wp frame (wpE (defs₀ (F := F)) 𝒱₀ (V d cc ss) none) Set.univ (R.drainPrev cc ss t)
          fun _ => iprop(R.slotO (F := F) d cc ss (par (t.val + 1)) ∗ R.wins d cc ss fI f4 fT hin (t.val + 1) ∗ owed (F := F) d cc ss O W) := by
  obtain ⟨t, ht⟩ := t
  cases t with
  | zero =>
    unfold drainPrev
    rw [dif_neg (Nat.lt_irrefl 0), wp_pure]
    change iprop(_ ∗ R.slotO (F := F) d cc ss (par (0 + 1)) ∗ _ ∗ _) ⊢ _
    iintro ⟨-, Hs, Hw, HO⟩
    imodintro
    isplitl [Hs]; · iexact Hs
    isplitl [Hw]
    · unfold holes wins
      iapply (Entails.of_eq (bigSep_congr fun u _ => ?_)) $$ Hw
      by_cases hu : u.val = 0 <;> simp [hu]
    iexact HO
  | succ t =>
    unfold holes wins drainPrev
    rw [dif_pos (Nat.succ_pos t)]
    iintro ⟨#Hmw, Hf, Hw, HO⟩
    ihave Hw := (take_put (Ψ := fun u : Fin NB => if u.val + 1 = t + 1 + 1 then iprop(emp)
        else if u.val < t + 1 + 1 then R.done d cc ss fI f4 fT hin u else R.win d cc ss f4 u) ⟨t, by omega⟩
        (fun v hv => by
          have h1 : v.val ≠ t := fun e => hv (Fin.ext e)
          by_cases h2 : v.val = t + 1
          · simp [h2]
          · have h3 : (v.val < t + 1 + 1) ↔ v.val < t + 1 := by omega
            simp [h1, h2, h3])) $$ Hw
    icases Hw with ⟨-, Hw⟩
    rw [if_neg (show ¬ t + 1 = t + 1 + 1 by omega), if_pos (show t < t + 1 + 1 by omega)]
    iapply (wp_wand frame (wpE (defs₀ (F := F)) 𝒱₀ (V d cc ss) none)) $$ [Hf HO]
    · iapply (R.wp_drain d cc ss fI f4 fT hin O W ⟨t, by omega⟩)
      isplitr; · iexact Hmw
      isplitl [Hf]; · iexact Hf
      iexact HO
    iintro %a ⟨Hd, Hs, HO⟩
    isplitl [Hs]
    · rw [show par (t + 1 + 1) = par t from par_add_two t]; iexact Hs
    isplitl [Hw Hd]
    · iapply Hw; iexact Hd
    iexact HO

/-- ONE TRIP: from what the tile holds before it to what it holds before the next. -/
theorem wp_trip (hG : ∀ (s : Fin 2) (h : S100096x128.Gathers 0 S128x128),
      ∑ j, ((R.oS s).slice (S128x128.rowRect h.axis' j) (S128x128.stride_rowRect h.axis' j)).view.dmaCredit = (R.oS s).view.dmaCredit)
    (O : CellTallies nD τ sig (HIx 4)) (W : Waits sig (HIx 4)) (t : Fin NB) :
    iprop(Transfers.MayWaits (V d cc ss) (none : HIx 4) O ∗ R.inv d cc ss fI f4 fT q hin O W t.val)
      ⊢ wp frame (wpE (defs₀ (F := F)) 𝒱₀ (V d cc ss) none) Set.univ (R.trip cc ss t) fun _ => R.inv d cc ss fI f4 fT q hin O W (t.val + 1) := by
  unfold inv trip
  iintro ⟨#Hmw, Hin, HsI, Hb, Hout, HsO, Hw, HvG, Ht, HO⟩
  rw [wp_bind]
  iapply (wp_wand frame (wpE (defs₀ (F := F)) 𝒱₀ (V d cc ss) none)) $$ [HsI Hb]
  · iapply (R.wp_fetchNext d cc ss fI t)
    isplitl [HsI] <;> iassumption
  iintro %a ⟨Hin', Hb⟩
  ihave Hw := (R.wins_take d cc ss fI f4 fT hin t) $$ Hw
  icases Hw with ⟨Hwt, Hw⟩
  iapply (R.wp_core d cc ss fI f4 fT q hin hG O W t (fun _ => R.drainPrev cc ss t))
  isplitr; · iexact Hmw
  isplitl [Hin]; · iexact Hin
  isplitl [HsO]; · iexact HsO
  isplitl [Hwt]; · iexact Hwt
  isplitl [HvG]; · iexact HvG
  isplitl [Ht]; · iexact Ht
  isplitl [HO]; · iexact HO
  iintro ⟨HsI, Hbt, Hout', HvG, Ht, HO⟩
  iapply (wp_wand frame (wpE (defs₀ (F := F)) 𝒱₀ (V d cc ss) none)) $$ [Hout Hw HO]
  · iapply (R.wp_drainPrev d cc ss fI f4 fT hin O W t)
    isplitr; · iexact Hmw
    isplitl [Hout]; · iexact Hout
    isplitl [Hw]; · iexact Hw
    iexact HO
  iintro %a' ⟨HsO, Hw, HO⟩
  isplitl [Hin']; · iexact Hin'
  isplitl [HsI]
  · rw [show par (t.val + 1 + 1) = par t.val from par_add_two t.val]; iexact HsI
  isplitl [Hb Hbt]
  · iapply Hb; iexact Hbt
  isplitl [Hout']; · iexact Hout'
  isplitl [HsO]; · iexact HsO
  isplitl [Hw]; · iexact Hw
  isplitl [HvG]; · iexact HvG
  isplitl [Ht]; · iexact Ht
  iexact HO

/-! ## Before the first trip and after the last -/

/-- The tile's slots, all free, and the gather's semaphore at zero. -/
def free : sProp 𝕄 :=
  iprop(R.slotI (F := F) d cc ss 0 ∗ R.slotI (F := F) d cc ss 1 ∗ R.slotO (F := F) d cc ss 0 ∗ R.slotO (F := F) d cc ss 1
    ∗ semVal (V d cc ss, .dma R.sG) 0)

/-- The first block's fetch: from everything free to what the tile holds before trip `0`. -/
theorem wp_start (h : 0 < NB) (O : CellTallies nD τ sig (HIx 4)) (W : Waits sig (HIx 4)) :
    iprop(R.free (F := F) d cc ss ∗ bigSep Finset.univ (R.blk d cc ss fI) ∗ bigSep Finset.univ (R.win d cc ss f4)
        ∗ R.tab d cc ss fT q ∗ owed (F := F) d cc ss O W)
      ⊢ wp frame (wpE (defs₀ (F := F)) 𝒱₀ (V d cc ss) none) Set.univ (R.fetch cc ss ⟨0, h⟩)
          fun _ => R.inv d cc ss fI f4 fT q hin O W 0 := by
  unfold free inv blks wins
  iintro ⟨⟨HI0, HI1, HO0, HO1, HvG⟩, Hb, Hw, Ht, HO⟩
  have hb := take_put (Φ := fun u : Fin NB => R.blk d cc ss fI u) (Ψ := fun u : Fin NB => if u.val = 0 then iprop(emp) else R.blk d cc ss fI u) ⟨0, h⟩
    (fun v hv => by
      have : v.val ≠ 0 := fun e => hv (Fin.ext e)
      simp [this])
  rw [if_pos rfl] at hb
  ihave Hb := hb $$ Hb
  icases Hb with ⟨H0, Hb⟩
  iapply (wp_wand frame (wpE (defs₀ (F := F)) 𝒱₀ (V d cc ss) none)) $$ [HI0 H0]
  · iapply (R.wp_fetch d cc ss fI ⟨0, h⟩)
    isplitl [HI0]; · iexact HI0
    iexact H0
  iintro %a Hf
  isplitl [Hf]; · iexact Hf
  isplitl [HI1]; · iexact HI1
  isplitl [Hb]
  · iapply Hb; iempintro
  isplitl [HO1]; · iapply (Entails.of_eq (show R.slotO (F := F) d cc ss 1 = R.outFly d cc ss fI f4 fT hin 0 from rfl)) $$ HO1
  isplitl [HO0]; · iexact HO0
  isplitl [Hw]
  · iapply (Entails.of_eq (bigSep_congr fun u _ => ?_)) $$ Hw
    simp
  isplitl [HvG]; · iexact HvG
  isplitl [Ht]; · iexact Ht
  iexact HO

/-- The last store's wait: from what the tile holds after the last trip (of an odd number) to everything free, every
    window gathered. -/
theorem wp_finish (hodd : NB % 2 = 1) (O : CellTallies nD τ sig (HIx 4)) (W : Waits sig (HIx 4)) :
    iprop(Transfers.MayWaits (V d cc ss) (none : HIx 4) O ∗ R.inv d cc ss fI f4 fT q hin O W NB)
      ⊢ wp frame (wpE (defs₀ (F := F)) 𝒱₀ (V d cc ss) none) Set.univ (R.drain cc ss ⟨NB - 1, by omega⟩)
          fun _ => iprop(R.free (F := F) d cc ss ∗ bigSep Finset.univ (R.blk d cc ss fI) ∗ bigSep Finset.univ (R.done d cc ss fI f4 fT hin)
            ∗ R.tab d cc ss fT q ∗ owed (F := F) d cc ss O W) := by
  have hN : NB - 1 + 1 = NB := by omega
  have hp0 : par (NB + 1) = 0 := Fin.ext (by simp [par]; omega)
  have hp1 : par NB = 1 := Fin.ext (by simp [par]; omega)
  have hp2 : par (NB - 1) = 0 := Fin.ext (by simp [par]; omega)
  unfold inv
  rw [hp0, hp1, show R.inFly d cc ss fI NB = R.slotI (F := F) d cc ss 1 by unfold inFly; rw [dif_neg (Nat.lt_irrefl _), hp1]]
  unfold free blks wins
  iintro ⟨#Hmw, HI1, HI0, Hb, Hout, HO1, Hw, HvG, Ht, HO⟩
  iapply (wp_wand frame (wpE (defs₀ (F := F)) 𝒱₀ (V d cc ss) none)) $$ [Hout HO]
  · iapply (R.wp_drain d cc ss fI f4 fT hin O W _)
    isplitr; · iexact Hmw
    isplitl [Hout]
    · rw [show (⟨NB - 1, by omega⟩ : Fin NB).val + 1 = NB from hN]; iexact Hout
    iexact HO
  iintro %a ⟨Hd, HO0, HO⟩
  isplitl [HI0 HI1 HO0 HO1 HvG]
  · isplitl [HI0]; · iexact HI0
    isplitl [HI1]; · iexact HI1
    isplitl [HO0]; · rw [← hp2]; iexact HO0
    isplitl [HO1]; · iexact HO1
    iexact HvG
  isplitl [Hb]
  · iapply (Entails.of_eq (bigSep_congr fun u _ => ?_)) $$ Hb
    rw [if_neg (Nat.ne_of_lt u.isLt)]
  isplitl [Hw Hd]
  · have hw := take_put (Φ := fun u : Fin NB => if u.val + 1 = NB then iprop(emp) else if u.val < NB then R.done d cc ss fI f4 fT hin u else R.win d cc ss f4 u)
      (Ψ := fun u : Fin NB => R.done d cc ss fI f4 fT hin u) ⟨NB - 1, by omega⟩
      (fun v hv => by
        have : v.val + 1 ≠ NB := fun e => hv (Fin.ext (by simp only; omega))
        rw [if_neg this, if_pos v.isLt])
    ihave Hw := hw $$ Hw
    icases Hw with ⟨-, Hw⟩
    iapply Hw; iexact Hd
  isplitl [Ht]; · iexact Ht
  iexact HO

/-- A whole tile: the first fetch, a counted loop whose body is a trip entered at that trip's counters, and the last wait. From the
    blocks and the windows, every window holds the rows its block names. -/
theorem wp_whole (hG : ∀ (s : Fin 2) (h : S100096x128.Gathers 0 S128x128),
      ∑ j, ((R.oS s).slice (S128x128.rowRect h.axis' j) (S128x128.stride_rowRect h.axis' j)).view.dmaCredit = (R.oS s).view.dmaCredit)
    (hodd : NB % 2 = 1) {σ : Type} (l : Scf.Loop 32) (hok : l.OK) (body : Fin l.trips → σ → Prog (TpuEff nD τ sig (Elt F) Λ₀ (.scVector cc ss)) σ)
    (k : σ → Prog (TpuEff nD τ sig (Elt F) Λ₀ (.scVector cc ss)) PUnit.{1}) (htr : l.trips = NB) (words : ℕ → σ)
    (hbody : ∀ (t : Fin l.trips) (Q : σ → sProp 𝕄),
      wp frame (wpE (defs₀ (F := F)) 𝒱₀ (V d cc ss) none) Set.univ (R.trip cc ss ⟨t.val, htr ▸ t.isLt⟩) (fun _ => Q (words (t.val + 1)))
        ⊢ wp frame (wpE (defs₀ (F := F)) 𝒱₀ (V d cc ss) none) Set.univ (body t (words t.val)) Q)
    (O : CellTallies nD τ sig (HIx 4)) (W : Waits sig (HIx 4)) (init : σ) (hinit : init = words 0)
    (hk : ∀ Q : PUnit → sProp 𝕄, wp frame (wpE (defs₀ (F := F)) 𝒱₀ (V d cc ss) none) Set.univ (R.drain cc ss ⟨NB - 1, by omega⟩ >>= fun _ => pure PUnit.unit) Q
        ⊢ wp frame (wpE (defs₀ (F := F)) 𝒱₀ (V d cc ss) none) Set.univ (k (words NB)) Q) :
    iprop(Transfers.MayWaits (V d cc ss) (none : HIx 4) O ∗ R.free (F := F) d cc ss ∗ bigSep Finset.univ (R.blk d cc ss fI)
        ∗ bigSep Finset.univ (R.win d cc ss f4) ∗ R.tab d cc ss fT q ∗ owed (F := F) d cc ss O W)
      ⊢ wp frame (wpE (defs₀ (F := F)) 𝒱₀ (V d cc ss) none) Set.univ (R.fetch cc ss ⟨0, by omega⟩ >>= fun _ => Scf.Loop.for l hok init body >>= k)
          fun _ => iprop(R.free (F := F) d cc ss ∗ bigSep Finset.univ (R.blk d cc ss fI) ∗ bigSep Finset.univ (R.done d cc ss fI f4 fT hin)
            ∗ R.tab d cc ss fT q ∗ owed (F := F) d cc ss O W) := by
  rw [wp_bind]
  iintro ⟨#Hmw, H⟩
  iapply (wp_wand frame (wpE (defs₀ (F := F)) 𝒱₀ (V d cc ss) none)) $$ [H]
  · iapply (R.wp_start d cc ss fI f4 fT q hin _ O W) $$ H
  iintro %_ H
  rw [wp_bind]
  iapply (Scf.wp_for frame (wpE (defs₀ (F := F)) 𝒱₀ (V d cc ss) none) Set.univ _ _ _ _ _ _
    (fun t acc => iprop(⌜acc = words t⌝ ∗ Transfers.MayWaits (V d cc ss) (none : HIx 4) O ∗ R.inv d cc ss fI f4 fT q hin O W t)) ?_)
  · intro t acc
    iintro ⟨%e, #Hmw, H⟩
    subst e
    iapply (hbody t)
    iapply (wp_wand frame (wpE (defs₀ (F := F)) 𝒱₀ (V d cc ss) none)) $$ [H]
    · iapply (R.wp_trip d cc ss fI f4 fT q hin hG O W ⟨t.val, htr ▸ t.isLt⟩)
      isplitl []
      · iexact Hmw
      · iexact H
    · iintro %_ H
      isplitl []
      · ipureintro; rfl
      isplitl []
      · iexact Hmw
      · iexact H
  isplitl [H]
  · isplitl []
    · ipureintro; exact hinit
    isplitl []
    · iexact Hmw
    · iexact H
  rw [show Scf.trips l.lb l.ub l.st = NB from htr]
  iintro %acc ⟨%e, -, H⟩
  subst e
  iapply (hk _)
  rw [wp_bind]
  iapply (wp_wand frame (wpE (defs₀ (F := F)) 𝒱₀ (V d cc ss) none)) $$ [H]
  · iapply (R.wp_finish d cc ss fI f4 fT q hin hodd O W)
    isplitl []
    · iexact Hmw
    · iexact H
  iintro %_ H
  rw [wp_pure]
  imodintro
  iexact H

end Ring
end Cert.Proof
-- ==== Proof.Pieces.lean ====
/- The pieces of a gather call's tiles, named: the call over `n` row numbers, `NB` windows a tile. A printed operation's
   offsets are computed words; each lemma below says the operation at offsets equal to a piece's is the operation on
   that piece. -/
module

public import proofs.«01_k».proof.Proof.Ring

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- `n` row numbers, in one row. -/
abbrev SI (n : ℕ) : Shape := ⟨2, ![1, n]⟩
/-- `n` rows of 128. -/
abbrev SO (n : ℕ) : Shape := ⟨2, ![n, 128]⟩

/-- Block `b` of 128 row numbers lies within `n`. -/
theorem inb_blk {n b : ℕ} (h : 128 * b + 128 ≤ n) : ∀ a, (![0, 128 * b] : Fin 2 → ℕ) a + S1x128.size a ≤ (SI n).size a :=
  Fin.forall_fin_two.mpr ⟨by change 0 + 1 ≤ 1; omega, by change 128 * b + 128 ≤ n; omega⟩

/-- Window `b` of 128 rows lies within `n`. -/
theorem inb_win {n b : ℕ} (h : 128 * b + 128 ≤ n) : ∀ a, (![128 * b, 0] : Fin 2 → ℕ) a + S128x128.size a ≤ (SO n).size a :=
  Fin.forall_fin_two.mpr ⟨by change 128 * b + 128 ≤ n; omega, by change 0 + 128 ≤ 128; omega⟩

theorem inb_slotI (s : Fin 2) : ∀ a, (![s.val, 0, 0] : Fin 3 → ℕ) a + S1x1x128.size a ≤ S2x1x128.size a := by
  revert s; decide
theorem inb_slotO (s : Fin 2) : ∀ a, (![s.val, 0, 0] : Fin 3 → ℕ) a + S1x128x128.size a ≤ S2x128x128.size a := by
  revert s; decide
theorem inb_sem (s : Fin 2) : ∀ a, (![s.val] : Fin 1 → ℕ) a + S1.size a ≤ S2.size a := by
  revert s; decide

section
variable {n : ℕ} (tb : Memref sig .scVector .hbm S100096x128 .f32) (ids : Memref sig .scVector .hbm (SI n) .i32)
  (out : Memref sig .scVector .hbm (SO n) .f32) (al : Memref sig .scVector .vmem S2x1x128 .i32) (sI : DmaSems sig S2)
  (ao : Memref sig .scVector .vmem S2x128x128 .f32) (sO : DmaSems sig S2) (sG : DmaSems sig S_)

/-- Block `b` of the row numbers. -/
abbrev blkAt (b : ℕ) (h : 128 * b + 128 ≤ n) : Memref sig .scVector .hbm S1x128 .i32 :=
  ids.slice (Rect.unit (s := SI n) ![0, 128 * b] S1x128.size (inb_blk h)) (fun _ => rfl)
/-- Window `b` of the output. -/
abbrev winAt (b : ℕ) (h : 128 * b + 128 ≤ n) : Memref sig .scVector .hbm S128x128 .f32 :=
  out.slice (Rect.unit (s := SO n) ![128 * b, 0] S128x128.size (inb_win h)) (fun _ => rfl)
/-- Input slot `s`. -/
abbrev slotIAt (s : Fin 2) : Memref sig .scVector .vmem S1x128 .i32 :=
  (al.slice (Rect.unit (s := S2x1x128) ![s.val, 0, 0] S1x1x128.size (inb_slotI s)) (fun _ => rfl)).squeeze S1x128 squeezes_S1x1x128_S1x128
/-- Output slot `s`. -/
abbrev slotOAt (s : Fin 2) : Memref sig .scVector .vmem S128x128 .f32 :=
  (ao.slice (Rect.unit (s := S2x128x128) ![s.val, 0, 0] S1x128x128.size (inb_slotO s)) (fun _ => rfl)).squeeze S128x128 squeezes_S1x128x128_S128x128
/-- Semaphore `s` of a pair. -/
abbrev semAt (v : DmaSems sig S2) (s : Fin 2) : DmaSem sig :=
  ((v.slice (Rect.unit (s := S2) ![s.val] S1.size (inb_sem s))).squeeze S_ squeezes_S1_S_).sem

/-- Tile `w`'s pieces. -/
def pieces (NB w : ℕ) (hw : 128 * (NB * w + NB) ≤ n) : Ring NB where
  iB t := blkAt ids (NB * w + t.val) (by have := t.isLt; omega)
  oB t := winAt out (NB * w + t.val) (by have := t.isLt; omega)
  iS := slotIAt al
  oS := slotOAt ao
  tb := tb
  sI := semAt sI
  sO := semAt sO
  sG := sG.sem

variable (NB w : ℕ) (hw : 128 * (NB * w + NB) ≤ n) (cc : Fin τ.nSC) (ss : Fin τ.nSub)

/-- A fetch at computed offsets. -/
theorem op_fetch (t : Fin NB) {oB : Fin 2 → ℕ} {oS : Fin 3 → ℕ} {os : Fin 1 → ℕ}
    (h1 : oB = ![0, 128 * (NB * w + t.val)]) (h2 : oS = ![(par t).val, 0, 0]) (h3 : os = ![(par t).val])
    (i1 : ∀ a, oB a + S1x128.size a ≤ (SI n).size a) (i2 : ∀ a, oS a + S1x1x128.size a ≤ S2x1x128.size a)
    (i3 : ∀ a, os a + S1.size a ≤ S2.size a) :
    (Prog.lift (.enqueueDma (ids.slice (Rect.unit (s := SI n) oB S1x128.size i1) (fun _ => rfl))
        (.here ((al.slice (Rect.unit (s := S2x1x128) oS S1x1x128.size i2) (fun _ => rfl)).squeeze S1x128 squeezes_S1x1x128_S1x128))
        (.dma ((sI.slice (Rect.unit (s := S2) os S1.size i3)).squeeze S_ squeezes_S1_S_).sem)
        (View.wordExact_bits rfl) ((View.wordExact_bits rfl).reshape _ _) ⟨Or.inl rfl, trivial⟩) : Prog (TpuEff nD τ sig (Elt F) Λ₀ (.scVector cc ss)) PUnit)
      = (pieces tb ids out al sI ao sO sG NB w hw).fetch cc ss t := by
  subst h1 h2 h3; rfl

/-- A fetch's wait at computed offsets. -/
theorem op_land (t : Fin NB) {oB : Fin 2 → ℕ} {oS : Fin 3 → ℕ} {os : Fin 1 → ℕ}
    (h1 : oB = ![0, 128 * (NB * w + t.val)]) (h2 : oS = ![(par t).val, 0, 0]) (h3 : os = ![(par t).val])
    (i1 : ∀ a, oB a + S1x128.size a ≤ (SI n).size a) (i2 : ∀ a, oS a + S1x1x128.size a ≤ S2x1x128.size a)
    (i3 : ∀ a, os a + S1.size a ≤ S2.size a) :
    (Prog.lift (.waitDma2 ((sI.slice (Rect.unit (s := S2) os S1.size i3)).squeeze S_ squeezes_S1_S_).sem
        (ids.slice (Rect.unit (s := SI n) oB S1x128.size i1) (fun _ => rfl))
        ((al.slice (Rect.unit (s := S2x1x128) oS S1x1x128.size i2) (fun _ => rfl)).squeeze S1x128 squeezes_S1x1x128_S1x128)
        (View.wordExact_bits rfl) ((View.wordExact_bits rfl).reshape _ _)) : Prog (TpuEff nD τ sig (Elt F) Λ₀ (.scVector cc ss)) PUnit)
      = (pieces tb ids out al sI ao sO sG NB w hw).land cc ss t := by
  subst h1 h2 h3; rfl

/-- A gather at computed offsets. -/
theorem op_gather (t : Fin NB) {oS oO : Fin 3 → ℕ} (h1 : oS = ![(par t).val, 0, 0]) (h2 : oO = ![(par t).val, 0, 0])
    (i1 : ∀ a, oS a + S1x1x128.size a ≤ S2x1x128.size a) (i2 : ∀ a, oO a + S1x128x128.size a ≤ S2x128x128.size a) :
    (SparseCore.enqueueIndirectGather rfl (tb.slice (Rect.unit (s := S100096x128) ![0, 0] S100096x128.size inb_S100096x128_S100096x128_0_0) (fun _ => rfl))
        ((ao.slice (Rect.unit (s := S2x128x128) oO S1x128x128.size i2) (fun _ => rfl)).squeeze S128x128 squeezes_S1x128x128_S128x128)
        gathers_S100096x128_S128x128
        ((((al.slice (Rect.unit (s := S2x1x128) oS S1x1x128.size i1) (fun _ => rfl)).squeeze S1x128 squeezes_S1x1x128_S1x128).slice
          (Rect.unit (s := S1x128) ![0, 0] S1x128.size inb_S1x128_S1x128_0_0) (fun _ => rfl)).squeeze S128 squeezes_S1x128_S128)
        rfl sG.sem (View.wordExact_bits rfl) rfl (Or.inl rfl) : Prog (TpuEff nD τ sig (Elt F) Λ₀ (.scVector cc ss)) PUnit)
      = (pieces tb ids out al sI ao sO sG NB w hw).gather cc ss t := by
  subst h1 h2; rfl

/-- A gather's wait at computed offsets. -/
theorem op_gathered (t : Fin NB) {oO : Fin 3 → ℕ} (h2 : oO = ![(par t).val, 0, 0])
    (i2 : ∀ a, oO a + S1x128x128.size a ≤ S2x128x128.size a) :
    (SparseCore.waitIndirectGather sG.sem (tb.slice (Rect.unit (s := S100096x128) ![0, 0] S100096x128.size inb_S100096x128_S100096x128_0_0) (fun _ => rfl))
        ((ao.slice (Rect.unit (s := S2x128x128) oO S1x128x128.size i2) (fun _ => rfl)).squeeze S128x128 squeezes_S1x128x128_S128x128)
        (View.wordExact_bits rfl) ((View.wordExact_bits rfl).reshape _ _) : Prog (TpuEff nD τ sig (Elt F) Λ₀ (.scVector cc ss)) PUnit)
      = (pieces tb ids out al sI ao sO sG NB w hw).gathered cc ss t := by
  subst h2; rfl

/-- A store at computed offsets. -/
theorem op_store (t : Fin NB) {oB : Fin 2 → ℕ} {oO : Fin 3 → ℕ} {os : Fin 1 → ℕ}
    (h1 : oB = ![128 * (NB * w + t.val), 0]) (h2 : oO = ![(par t).val, 0, 0]) (h3 : os = ![(par t).val])
    (i1 : ∀ a, oB a + S128x128.size a ≤ (SO n).size a) (i2 : ∀ a, oO a + S1x128x128.size a ≤ S2x128x128.size a)
    (i3 : ∀ a, os a + S1.size a ≤ S2.size a) :
    (Prog.lift (.enqueueDma ((ao.slice (Rect.unit (s := S2x128x128) oO S1x128x128.size i2) (fun _ => rfl)).squeeze S128x128 squeezes_S1x128x128_S128x128)
        (.here (out.slice (Rect.unit (s := SO n) oB S128x128.size i1) (fun _ => rfl)))
        (.dma ((sO.slice (Rect.unit (s := S2) os S1.size i3)).squeeze S_ squeezes_S1_S_).sem)
        ((View.wordExact_bits rfl).reshape _ _) (View.wordExact_bits rfl) ⟨Or.inl rfl, trivial⟩) : Prog (TpuEff nD τ sig (Elt F) Λ₀ (.scVector cc ss)) PUnit)
      = (pieces tb ids out al sI ao sO sG NB w hw).store cc ss t := by
  subst h1 h2 h3; rfl

/-- A store's wait at computed offsets. -/
theorem op_drain (t : Fin NB) {oB : Fin 2 → ℕ} {oO : Fin 3 → ℕ} {os : Fin 1 → ℕ}
    (h1 : oB = ![128 * (NB * w + t.val), 0]) (h2 : oO = ![(par t).val, 0, 0]) (h3 : os = ![(par t).val])
    (i1 : ∀ a, oB a + S128x128.size a ≤ (SO n).size a) (i2 : ∀ a, oO a + S1x128x128.size a ≤ S2x128x128.size a)
    (i3 : ∀ a, os a + S1.size a ≤ S2.size a) :
    (Prog.lift (.waitDma2 ((sO.slice (Rect.unit (s := S2) os S1.size i3)).squeeze S_ squeezes_S1_S_).sem
        ((ao.slice (Rect.unit (s := S2x128x128) oO S1x128x128.size i2) (fun _ => rfl)).squeeze S128x128 squeezes_S1x128x128_S128x128)
        (out.slice (Rect.unit (s := SO n) oB S128x128.size i1) (fun _ => rfl))
        ((View.wordExact_bits rfl).reshape _ _) (View.wordExact_bits rfl)) : Prog (TpuEff nD τ sig (Elt F) Λ₀ (.scVector cc ss)) PUnit)
      = (pieces tb ids out al sI ao sO sG NB w hw).drain cc ss t := by
  subst h1 h2 h3; rfl

/-- A slot's rows credit, together, what the slot does. -/
theorem slotO_credit (s : Fin 2) (h : S100096x128.Gathers 0 S128x128) :
    ∑ j, ((slotOAt ao s).slice (S128x128.rowRect h.axis' j) (S128x128.stride_rowRect h.axis' j)).view.dmaCredit = (slotOAt ao s).view.dmaCredit :=
  SparseCore.sum_rowCredit_eq_dmaCredit _ _ fun _ => rfl

end

end Cert.Proof
-- ==== Proof.Cut.lean ====
/- A call's arrays cut for its tiles and put together again: the row numbers and the output into blocks and windows of
   128, the table into shares, a tile's scratch into its slots and its semaphores. -/
module

public import proofs.«01_k».proof.Proof.Pieces

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (ownSems0 ownBufs ownCells ownRefs mem_ownCells mem_ownRefs_of_owner)

variable {F : FTy → Type} [FloatOps F]

local notation "𝕄" => MT nD τ sig (HIx 4) (Elt F) ℕ UU ℕ

/-- A family over `n + 1` is its first and the rest. -/
theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, BI.bigSep_insert (by simp), BI.bigSep_map]; rfl

/-- A family's members, each weakened. -/
theorem bigSep_each {X : Type} [Fintype X] {Φ Ψ : X → sProp 𝕄} (h : ∀ x, Φ x ⊢ Ψ x) : bigSep Finset.univ Φ ⊢ bigSep Finset.univ Ψ :=
  bigSep_mono fun x _ => h x

/-! ## Shares -/

/-- Share `q` dealt to `n + 1`: half to the first, the other half dealt to the rest. -/
def deal : (n : ℕ) → PosShare TreeShare → Fin (n + 1) → PosShare TreeShare
  | 0, q => fun _ => q
  | n + 1, q => Fin.cases q.left (deal n q.right)

/-- Elements at a share are the elements at each dealt share. -/
theorem pointsTo_deal {ℓ : Loc nD τ sig} (I : Finset (Idx ℓ)) (f : Buf (Elt F) ℓ) (n : ℕ) :
    ∀ q : PosShare TreeShare, (ℓ ↦[I]{q} f : sProp 𝕄) = bigSep Finset.univ fun i : Fin (n + 1) => ℓ ↦[I]{deal n q i} f := by
  induction n with
  | zero => exact fun q => (bigSep_univ_of_subsingleton (0 : Fin 1) (Φ := fun i : Fin (0 + 1) => (ℓ ↦[I]{deal 0 q i} f : sProp 𝕄))).symm
  | succ n ih =>
    intro q
    rw [bigSep_first, show (deal (n + 1) q 0) = q.left from rfl]
    simp only [show ∀ i, deal (n + 1) q (Fin.succ i) = deal n q.right i from fun _ => rfl]
    rw [← ih q.right]
    exact BI.Entails.antisymm (pointsTo_share (PosShare.mem_left_op_right q)).1 (pointsTo_share (PosShare.mem_left_op_right q)).2

/-- The share of tile `s` of SparseCore `c`. -/
def shareOf (c : Fin 2) (s : Fin 16) : PosShare TreeShare := deal 15 (deal 1 fullShare c) s

/-- The whole is every tile's share. -/
theorem pointsTo_shares {ℓ : Loc nD τ sig} (I : Finset (Idx ℓ)) (f : Buf (Elt F) ℓ) :
    (ℓ ↦[I]{fullShare} f : sProp 𝕄)
      = bigSep Finset.univ fun c : Fin 2 => bigSep Finset.univ fun s : Fin 16 => ℓ ↦[I]{shareOf c s} f :=
  (pointsTo_deal I f 1 fullShare).trans (bigSep_congr fun c _ => pointsTo_deal I f 15 _)

/-! ## Blocks and windows -/

/-- A number below `NB * 32` is window `t` of tile `s` of SparseCore `c`, once. -/
theorem tile_inj {NB : ℕ} {x y : Fin 2 × Fin 16 × Fin NB}
    (h : NB * (x.2.1.val + 16 * x.1.val) + x.2.2.val = NB * (y.2.1.val + 16 * y.1.val) + y.2.2.val) : x = y := by
  obtain ⟨c, s, t⟩ := x; obtain ⟨c', s', t'⟩ := y
  have hp : 0 < NB := Nat.lt_of_le_of_lt (Nat.zero_le _) t.isLt
  have e1 : (NB * (s.val + 16 * c.val) + t.val) / NB = (NB * (s'.val + 16 * c'.val) + t'.val) / NB := congrArg (· / NB) h
  have e2 : (NB * (s.val + 16 * c.val) + t.val) % NB = (NB * (s'.val + 16 * c'.val) + t'.val) % NB := congrArg (· % NB) h
  rw [Nat.mul_add_div hp, Nat.mul_add_div hp, Nat.div_eq_of_lt t.isLt, Nat.div_eq_of_lt t'.isLt] at e1
  rw [Nat.mul_add_mod, Nat.mul_add_mod, Nat.mod_eq_of_lt t.isLt, Nat.mod_eq_of_lt t'.isLt] at e2
  have := c.isLt; have := c'.isLt; have := s.isLt; have := s'.isLt
  exact Prod.ext (Fin.ext (by simp only; omega)) (Prod.ext (Fin.ext (by simp only; omega)) (Fin.ext e2))

/-- Every number below `NB * 32` is some tile's window. -/
theorem tile_onto {NB b : ℕ} (h : b < NB * 32) : ∃ x : Fin 2 × Fin 16 × Fin NB, NB * (x.2.1.val + 16 * x.1.val) + x.2.2.val = b := by
  have hp : 0 < NB := by omega
  have hq : b / NB < 32 := Nat.div_lt_of_lt_mul h
  refine ⟨(⟨b / NB / 16, by omega⟩, ⟨b / NB % 16, by omega⟩, ⟨b % NB, Nat.mod_lt _ hp⟩), ?_⟩
  simp only
  rw [show b / NB % 16 + 16 * (b / NB / 16) = b / NB by omega]
  exact Nat.div_add_mod b NB

/-- Windows lie within the array. -/
theorem tile_le {NB n : ℕ} (hn : n = 128 * (NB * 32)) (x : Fin 2 × Fin 16 × Fin NB) :
    128 * (NB * (x.2.1.val + 16 * x.1.val) + x.2.2.val) + 128 ≤ n := by
  obtain ⟨c, s, t⟩ := x
  have h1 : s.val + 16 * c.val + 1 ≤ 32 := by have := s.isLt; have := c.isLt; omega
  have h2 := Nat.mul_le_mul_left NB h1
  have h3 := t.isLt
  rw [Nat.mul_add] at h2
  simp only
  omega

/-- Rectangles that partition a view's shape partition its elements. -/
theorem pointsTo_partition (d : Dev nD) (p : Proc τ) {sp : Space} {s : Shape} {e : EltTy} (v : View sig p.kind sp s e) {X : Type} [Fintype X] [DecidableEq X]
    (r : X → Rect s) (hd : ∀ x y i, i ∈ (r x).set → i ∈ (r y).set → x = y) (hc : ∀ i, ∃ x, i ∈ (r x).set) (q : PosShare TreeShare)
    (f : Buf (Elt F) (v.loc ((d, p) : Thread nD τ))) :
    (v.loc ((d, p) : Thread nD τ) ↦[v.set]{q} f : sProp 𝕄) = bigSep Finset.univ fun x => v.loc ((d, p) : Thread nD τ) ↦[(v.slice (r x)).set]{q} f := by
  rw [show v.set = Finset.univ.biUnion fun x => (v.slice (r x)).set from ?_]
  · refine pointsTo_biUnion _ _ fun x _ y _ hxy => ?_
    rw [View.set_slice, View.set_slice]
    exact (Finset.disjoint_map _).mpr (Finset.disjoint_left.mpr fun i hi hi' => hxy (hd x y i hi hi'))
  · ext j
    simp only [Finset.mem_biUnion, Finset.mem_univ, true_and, View.set_slice]
    constructor
    · intro hj
      obtain ⟨i, -, rfl⟩ := Finset.mem_map.mp hj
      obtain ⟨x, hx⟩ := hc i
      exact ⟨x, Finset.mem_map_of_mem _ hx⟩
    · rintro ⟨x, hx⟩
      exact Finset.map_subset_map.mpr (Finset.subset_univ _) hx

/-- The same of contents left open: the parts at any contents are the whole at some. -/
theorem pointsTo_partition_any (d : Dev nD) (p : Proc τ) {sp : Space} {s : Shape} {e : EltTy} (v : View sig p.kind sp s e) {X : Type} [Fintype X] [DecidableEq X] [Inhabited X]
    (r : X → Rect s) (hd : ∀ x y i, i ∈ (r x).set → i ∈ (r y).set → x = y) (hc : ∀ i, ∃ x, i ∈ (r x).set) (q : PosShare TreeShare) :
    (iprop(∃ f, v.loc ((d, p) : Thread nD τ) ↦[v.set]{q} f) : sProp 𝕄)
      = bigSep Finset.univ fun x => iprop(∃ f, v.loc ((d, p) : Thread nD τ) ↦[(v.slice (r x)).set]{q} f) := by
  have hdj : ∀ x ∈ (Finset.univ : Finset X), ∀ y ∈ (Finset.univ : Finset X), x ≠ y → Disjoint (v.slice (r x)).set (v.slice (r y)).set := fun x _ y _ hxy => by
    rw [View.set_slice, View.set_slice]
    exact (Finset.disjoint_map _).mpr (Finset.disjoint_left.mpr fun i hi hi' => hxy (hd x y i hi hi'))
  have h1 : (iprop(∃ f, v.loc ((d, p) : Thread nD τ) ↦[v.set]{q} f) : sProp 𝕄)
      ⊢ bigSep Finset.univ fun x => iprop(∃ f, v.loc ((d, p) : Thread nD τ) ↦[(v.slice (r x)).set]{q} f) := by
    refine exists_elim fun f => ?_
    have hx : ∀ x, (v.loc ((d, p) : Thread nD τ) ↦[(v.slice (r x)).set]{q} f : sProp 𝕄)
        ⊢ iprop(∃ f, v.loc ((d, p) : Thread nD τ) ↦[(v.slice (r x)).set]{q} f) := fun x => by
      iintro H; iexists f; iexact H
    exact BIBase.Entails.trans (Entails.of_eq (pointsTo_partition d p v r hd hc q f)) (bigSep_each hx)
  have h2 : (bigSep Finset.univ fun x => iprop(∃ f, v.loc ((d, p) : Thread nD τ) ↦[(v.slice (r x)).set]{q} f))
      ⊢ (iprop(∃ f, v.loc ((d, p) : Thread nD τ) ↦[v.set]{q} f) : sProp 𝕄) := by
    refine BIBase.Entails.trans (bigSep_exists_pi _ _) ?_
    iintro ⟨%fs, H⟩
    ihave H' := (pointsTo_biUnion_join Finset.univ (fun x => (v.slice (r x)).set) fs (fs default) hdj) $$ H
    icases H' with ⟨%g, -, H'⟩
    iexists g
    iapply (Entails.of_eq ((pointsTo_biUnion _ _ hdj).trans (pointsTo_partition d p v r hd hc q g).symm)) $$ H'
  exact BI.Entails.antisymm h1 h2

section
variable {n NB : ℕ} (hn : n = 128 * (NB * 32)) (d : Dev nD) (cc : Fin τ.nSC) (ss : Fin τ.nSub)

/-- The row numbers are the tiles' blocks. -/
theorem cut_blocks (ids : Memref sig .scVector .hbm (SI n) .i32) (f : Buf (Elt F) (ids.view.loc (V d cc ss))) :
    (ids.view.loc (V d cc ss) ↦[ids.view.set]{fullShare} f : sProp 𝕄)
      = bigSep Finset.univ fun c : Fin 2 => bigSep Finset.univ fun s : Fin 16 => bigSep Finset.univ fun t : Fin NB =>
          ids.view.loc (V d cc ss) ↦[(blkAt ids (NB * (s.val + 16 * c.val) + t.val) (tile_le hn (c, s, t))).view.set]{fullShare} f := by
  refine (pointsTo_partition d (.scVector cc ss) ids.view (fun x : Fin 2 × Fin 16 × Fin NB =>
    Rect.unit (s := SI n) ![0, 128 * (NB * (x.2.1.val + 16 * x.1.val) + x.2.2.val)] S1x128.size (inb_blk (tile_le hn x))) ?_ ?_ fullShare f).trans ?_
  · intro x y i hx hy
    have h1 : 128 * (NB * (x.2.1.val + 16 * x.1.val) + x.2.2.val) ≤ (i 1).val ∧ (i 1).val < 128 * (NB * (x.2.1.val + 16 * x.1.val) + x.2.2.val) + 128 := Rect.mem_set_unit.mp hx 1
    have h2 : 128 * (NB * (y.2.1.val + 16 * y.1.val) + y.2.2.val) ≤ (i 1).val ∧ (i 1).val < 128 * (NB * (y.2.1.val + 16 * y.1.val) + y.2.2.val) + 128 := Rect.mem_set_unit.mp hy 1
    exact tile_inj (by omega)
  · intro i
    have hi : (i 1).val < n := (i 1).isLt
    obtain ⟨x, hx⟩ := tile_onto (NB := NB) (b := (i 1).val / 128) (by omega)
    refine ⟨x, Rect.mem_set_unit.mpr (Fin.forall_fin_two.mpr ⟨⟨Nat.zero_le _, ?_⟩, ?_⟩)⟩
    · have : (i 0).val < 1 := (i 0).isLt
      change (i 0).val < 0 + 1; omega
    · change 128 * (NB * (x.2.1.val + 16 * x.1.val) + x.2.2.val) ≤ (i 1).val ∧ (i 1).val < 128 * (NB * (x.2.1.val + 16 * x.1.val) + x.2.2.val) + 128
      rw [hx]; omega
  · rw [bigSep_univ_prod]; refine bigSep_congr fun c _ => ?_; rw [bigSep_univ_prod]

/-- The output is the tiles' windows. -/
theorem cut_windows (out : Memref sig .scVector .hbm (SO n) .f32) (f : Buf (Elt F) (out.view.loc (V d cc ss))) :
    (out.view.loc (V d cc ss) ↦[out.view.set]{fullShare} f : sProp 𝕄)
      = bigSep Finset.univ fun c : Fin 2 => bigSep Finset.univ fun s : Fin 16 => bigSep Finset.univ fun t : Fin NB =>
          out.view.loc (V d cc ss) ↦[(winAt out (NB * (s.val + 16 * c.val) + t.val) (tile_le hn (c, s, t))).view.set]{fullShare} f := by
  refine (pointsTo_partition d (.scVector cc ss) out.view (fun x : Fin 2 × Fin 16 × Fin NB =>
    Rect.unit (s := SO n) ![128 * (NB * (x.2.1.val + 16 * x.1.val) + x.2.2.val), 0] S128x128.size (inb_win (tile_le hn x))) ?_ ?_ fullShare f).trans ?_
  · intro x y i hx hy
    have h1 : 128 * (NB * (x.2.1.val + 16 * x.1.val) + x.2.2.val) ≤ (i 0).val ∧ (i 0).val < 128 * (NB * (x.2.1.val + 16 * x.1.val) + x.2.2.val) + 128 := Rect.mem_set_unit.mp hx 0
    have h2 : 128 * (NB * (y.2.1.val + 16 * y.1.val) + y.2.2.val) ≤ (i 0).val ∧ (i 0).val < 128 * (NB * (y.2.1.val + 16 * y.1.val) + y.2.2.val) + 128 := Rect.mem_set_unit.mp hy 0
    exact tile_inj (by omega)
  · intro i
    have hi : (i 0).val < n := (i 0).isLt
    obtain ⟨x, hx⟩ := tile_onto (NB := NB) (b := (i 0).val / 128) (by omega)
    refine ⟨x, Rect.mem_set_unit.mpr (Fin.forall_fin_two.mpr ⟨?_, ⟨Nat.zero_le _, ?_⟩⟩)⟩
    · change 128 * (NB * (x.2.1.val + 16 * x.1.val) + x.2.2.val) ≤ (i 0).val ∧ (i 0).val < 128 * (NB * (x.2.1.val + 16 * x.1.val) + x.2.2.val) + 128
      rw [hx]; omega
    · have : (i 1).val < 128 := (i 1).isLt
      change (i 1).val < 0 + 128; omega
  · rw [bigSep_univ_prod]; refine bigSep_congr fun c _ => ?_; rw [bigSep_univ_prod]

/-! ## A tile's scratch -/

/-- The input buffer is its two slots. -/
theorem cut_slotsI (al : Memref sig .scVector .vmem S2x1x128 .i32) :
    (iprop(∃ f, al.view.loc (V d cc ss) ↦[al.view.set]{fullShare} f) : sProp 𝕄)
      = iprop((∃ f, (slotIAt al 0).view.loc (V d cc ss) ↦[(slotIAt al 0).view.set]{fullShare} f)
          ∗ (∃ f, (slotIAt al 1).view.loc (V d cc ss) ↦[(slotIAt al 1).view.set]{fullShare} f)) := by
  rw [pointsTo_partition_any d (.scVector cc ss) al.view (fun s : Fin 2 => Rect.unit (s := S2x1x128) ![s.val, 0, 0] S1x1x128.size (inb_slotI s)) ?_ ?_ fullShare,
    BI.bigSep_fin_two]
  · simp only [Memref.view_squeeze, View.set_reshape]; rfl
  · intro x y i hx hy
    have h1 : x.val ≤ (i 0).val ∧ (i 0).val < x.val + 1 := Rect.mem_set_unit.mp hx 0
    have h2 : y.val ≤ (i 0).val ∧ (i 0).val < y.val + 1 := Rect.mem_set_unit.mp hy 0
    exact Fin.ext (by omega)
  · intro i
    refine ⟨i 0, Rect.mem_set_unit.mpr fun a => ?_⟩
    match a with
    | 0 => exact ⟨Nat.le_refl _, Nat.lt_succ_self _⟩
    | 1 => exact ⟨Nat.zero_le _, (i 1).isLt⟩
    | 2 => exact ⟨Nat.zero_le _, by have : (i 2).val < 128 := (i 2).isLt; change (i 2).val < 0 + 128; omega⟩

/-- The output buffer is its two slots. -/
theorem cut_slotsO (ao : Memref sig .scVector .vmem S2x128x128 .f32) :
    (iprop(∃ f, ao.view.loc (V d cc ss) ↦[ao.view.set]{fullShare} f) : sProp 𝕄)
      = iprop((∃ f, (slotOAt ao 0).view.loc (V d cc ss) ↦[(slotOAt ao 0).view.set]{fullShare} f)
          ∗ (∃ f, (slotOAt ao 1).view.loc (V d cc ss) ↦[(slotOAt ao 1).view.set]{fullShare} f)) := by
  rw [pointsTo_partition_any d (.scVector cc ss) ao.view (fun s : Fin 2 => Rect.unit (s := S2x128x128) ![s.val, 0, 0] S1x128x128.size (inb_slotO s)) ?_ ?_ fullShare,
    BI.bigSep_fin_two]
  · simp only [Memref.view_squeeze, View.set_reshape]; rfl
  · intro x y i hx hy
    have h1 : x.val ≤ (i 0).val ∧ (i 0).val < x.val + 1 := Rect.mem_set_unit.mp hx 0
    have h2 : y.val ≤ (i 0).val ∧ (i 0).val < y.val + 1 := Rect.mem_set_unit.mp hy 0
    exact Fin.ext (by omega)
  · intro i
    refine ⟨i 0, Rect.mem_set_unit.mpr fun a => ?_⟩
    match a with
    | 0 => exact ⟨Nat.le_refl _, Nat.lt_succ_self _⟩
    | 1 => exact ⟨Nat.zero_le _, by have : (i 1).val < 128 := (i 1).isLt; change (i 1).val < 0 + 128; omega⟩
    | 2 => exact ⟨Nat.zero_le _, by have : (i 2).val < 128 := (i 2).isLt; change (i 2).val < 0 + 128; omega⟩

/-- Two of a tile's buffers and five of its semaphores, taken out of what it owns and put back. -/
theorem scratch_take (a b : Ref sig .scVector) (hab : a ≠ b) (ha : ((Proc.scVector cc ss).devRef a).owner = .proc (.scVector cc ss))
    (hb : ((Proc.scVector cc ss).devRef b).owner = .proc (.scVector cc ss)) (x : Fin 5 → DmaSem sig) (hx : Function.Injective x)
    (hs : ∀ k, (SemLoc.dma (x k) : SemLoc sig).isScoped .scVector = true) :
    (iprop(ownBufs (V d cc ss) ∗ ownSems0 (V d cc ss)) : sProp 𝕄)
      ⊢ iprop(((∃ f, (V d cc ss).loc a ↦{fullShare} f) ∗ (∃ f, (V d cc ss).loc b ↦{fullShare} f) ∗ bigSep Finset.univ fun k => semVal (V d cc ss, .dma (x k)) 0)
          ∗ (((∃ f, (V d cc ss).loc a ↦{fullShare} f) ∗ (∃ f, (V d cc ss).loc b ↦{fullShare} f) ∗ bigSep Finset.univ fun k => semVal (V d cc ss, .dma (x k)) 0)
              -∗ ownBufs (V d cc ss) ∗ ownSems0 (V d cc ss))) := by
  have e1 : (ownBufs (V d cc ss) : sProp 𝕄) = iprop((∃ f, (V d cc ss).loc a ↦{fullShare} f) ∗ (∃ f, (V d cc ss).loc b ↦{fullShare} f)
      ∗ bigSep (((ownRefs (τ := τ) (.scVector cc ss)).erase ((Proc.scVector cc ss).devRef a)).erase ((Proc.scVector cc ss).devRef b))
          fun r => iprop(∃ f, ((d, r) : Loc nD τ sig) ↦{fullShare} f)) := by
    unfold SparseCore.Cfg.ownBufs
    refine (SparseCore.bigSep_erase' (mem_ownRefs_of_owner (p := Proc.scVector cc ss) ha)).trans ?_
    rw [SparseCore.bigSep_erase' (Finset.mem_erase.mpr ⟨fun e => hab (Proc.devRef_injective _ e).symm, mem_ownRefs_of_owner (p := Proc.scVector cc ss) hb⟩)]
  have e2 : (ownSems0 (V d cc ss) : sProp 𝕄) = iprop((bigSep Finset.univ fun k => semVal (V d cc ss, .dma (x k)) 0)
      ∗ bigSep (ownCells (V d cc ss) \ Finset.univ.image fun k => ((V d cc ss, .dma (x k)) : GSem nD τ sig)) fun g => semVal g 0) := by
    unfold SparseCore.Cfg.ownSems0
    rw [SparseCore.bigSep_sdiff_split' (t := Finset.univ.image fun k => ((V d cc ss, .dma (x k)) : GSem nD τ sig)) ?_,
      SparseCore.bigSep_image_of_injOn (fun k _ k' _ e => hx (by injection (congrArg Prod.snd e)))]
    intro g hg
    obtain ⟨k, -, rfl⟩ := Finset.mem_image.mp hg
    exact mem_ownCells.mpr ⟨rfl, hs k⟩
  rw [e1, e2]
  iintro ⟨⟨Ha, Hb, Hr⟩, ⟨Hs, Hs'⟩⟩
  isplitl [Ha Hb Hs]
  · isplitl [Ha]; · iexact Ha
    isplitl [Hb]; · iexact Hb
    iexact Hs
  iintro ⟨Ha, Hb, Hs⟩
  isplitl [Ha Hb Hr]
  · isplitl [Ha]; · iexact Ha
    isplitl [Hb]; · iexact Hb
    iexact Hr
  isplitl [Hs]; · iexact Hs
  iexact Hs'
end

end Cert.Proof
-- ==== Proof.Gathered.lean ====
/- What a call's windows hold, together: row `j` of the output is the table's row that row number `j` names. -/
module

public import proofs.«01_k».proof.Proof.Cut

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (ownSems0 ownBufs ownCells ownRefs mem_ownCells mem_ownRefs_of_owner)

variable {F : FTy → Type} [FloatOps F]

local notation "𝕄" => MT nD τ sig (HIx 4) (Elt F) ℕ UU ℕ

/-- The index at coordinates `i`, `j`. -/
def at2 {a b : ℕ} (i : Fin a) (j : Fin b) : (⟨2, ![a, b]⟩ : Shape).Idx := fun x => match x with | 0 => i | 1 => j

/-- An index is its two coordinates. -/
theorem at2_ext {a b : ℕ} {x : (⟨2, ![a, b]⟩ : Shape).Idx} {i : Fin a} {j : Fin b} (h0 : (x 0).val = i.val) (h1 : (x 1).val = j.val) : x = at2 i j := by
  funext c
  match c with
  | 0 => exact Fin.ext h0
  | 1 => exact Fin.ext h1

/-- The rows of the table that the numbers name, one after another. -/
def rowsOf {n : ℕ} (tab : S100096x128.Idx → Elt F .f32) (ids : (SI n).Idx → Elt F .i32) : (SO n).Idx → Elt F .f32 :=
  fun x => tab (at2 (⟨(ids (at2 (0 : Fin 1) (x 0 : Fin n)) : BitVec 32).toNat % 100096, Nat.mod_lt _ (by decide)⟩ : Fin 100096) (x 1 : Fin 128))

/-- Entry `k` of a block's list stands at column `k` of the block. -/
theorem list_col : ∀ k : Fin 128, ((Shape.reshapeEquiv (Shape.Squeezes.numel_eq squeezes_S1x128_S128) (S128.rowMajor.symm (k.cast rfl))) 1).val = k.val := by
  decide +kernel

section
variable {n : ℕ} (tb : Memref sig .scVector .hbm S100096x128 .f32) (ids : Memref sig .scVector .hbm (SI n) .i32)
  (out : Memref sig .scVector .hbm (SO n) .f32) (al : Memref sig .scVector .vmem S2x1x128 .i32) (sI : DmaSems sig S2)
  (ao : Memref sig .scVector .vmem S2x128x128 .f32) (sO : DmaSems sig S2) (sG : DmaSems sig S_)
  (NB w : ℕ) (hw : 128 * (NB * w + NB) ≤ n) (d : Dev nD) (cc : Fin τ.nSC) (ss : Fin τ.nSub)
  (fI : Buf (Elt F) (ids.view.loc (V d cc ss))) (fT : Buf (Elt F) (tb.view.loc (V d cc ss)))

/-- Every number of the array in range, every list of a block is. -/
theorem lists_in (hid : ∀ j, (ids.view.read (Elt F) fI j : BitVec 32).toNat < 100096) :
    ∀ t x, (Ring.listOf (F := F) (((pieces tb ids out al sI ao sO sG NB w hw).iB t).view.read (Elt F) fI) x).toNat < S100096x128.size gathers_S100096x128_S128x128.axis :=
  fun _ _ => hid _

variable (hid : ∀ j, (ids.view.read (Elt F) fI j : BitVec 32).toNat < 100096)

/-- The rows gathered for window `t`, at their place in the whole. -/
theorem pay_eq (t : Fin NB) (x : S128x128.Idx) :
    (pieces tb ids out al sI ao sO sG NB w hw).pay d cc ss (fun _ => fI) fT (lists_in tb ids out al sI ao sO sG NB w hw d cc ss fI hid) t x
      = rowsOf (tb.view.read (Elt F) fT) (ids.view.read (Elt F) fI)
          ((Rect.unit (s := SO n) ![128 * (NB * w + t.val), 0] S128x128.size (inb_win (by have := t.isLt; omega))).emb x) := by
  unfold Ring.pay SparseCore.gatherPayload rowsOf
  refine congrArg (tb.view.read (Elt F) fT) (at2_ext ?_ ?_)
  · have hk : ∀ (r : Fin 128 → Fin 100096), (gathers_S100096x128_S128x128.idx r x gathers_S100096x128_S128x128.axis).val = (r (x 0)).val :=
      fun r => congrArg Fin.val (Shape.Gathers.idx_axis gathers_S100096x128_S128x128 r x)
    have hlt := hid (at2 (0 : Fin 1) ((Rect.unit (s := SO n) ![128 * (NB * w + t.val), 0] S128x128.size (inb_win (by have := t.isLt; omega))).emb x 0 : Fin n))
    refine Eq.trans (show _ = 0 + 1 * (gathers_S100096x128_S128x128.idx _ x gathers_S100096x128_S128x128.axis).val from rfl) ?_
    refine Eq.trans (congrArg (0 + 1 * ·) (hk _)) ?_
    refine Eq.trans ((Nat.zero_add _).trans (Nat.one_mul _)) ?_
    refine Eq.trans ?_ (Nat.mod_eq_of_lt hlt).symm
    refine congrArg (fun j => (ids.view.read (Elt F) fI j : BitVec 32).toNat) (at2_ext ?_ ?_)
    · have h0 := ((Rect.unit (s := SI n) ![0, 128 * (NB * w + t.val)] S1x128.size (inb_blk (by have := t.isLt; omega))).emb
        ((Rect.unit (s := S1x128) ![0, 0] S1x128.size inb_S1x128_S1x128_0_0).emb
          (Shape.reshapeEquiv (Shape.Squeezes.numel_eq squeezes_S1x128_S128) (S128.rowMajor.symm ((x 0).cast rfl)))) 0).isLt
      exact Nat.lt_one_iff.mp h0
    · change 128 * (NB * w + t.val) + 1 * (0 + 1 * ((Shape.reshapeEquiv (Shape.Squeezes.numel_eq squeezes_S1x128_S128) (S128.rowMajor.symm ((x 0).cast rfl))) 1).val)
        = 128 * (NB * w + t.val) + 1 * (x 0).val
      rw [list_col (x 0)]; omega
  · have h1 : ∀ (r : Fin 128 → Fin 100096), (gathers_S100096x128_S128x128.idx r x 1).val = (x 1).val :=
      fun r => Shape.Gathers.idx_of_ne gathers_S100096x128_S128x128 r x 1 (by decide)
    refine Eq.trans (show _ = 0 + 1 * (gathers_S100096x128_S128x128.idx _ x 1).val from rfl) ?_
    exact congrArg (0 + 1 * ·) (h1 _)

/-- A window gathered is the window of the whole output holding every row. -/
theorem done_eq (t : Fin NB) (f4 : Buf (Elt F) (out.view.loc (V d cc ss))) :
    (pieces tb ids out al sI ao sO sG NB w hw).done d cc ss (fun _ => fI) (fun _ => f4) fT (lists_in tb ids out al sI ao sO sG NB w hw d cc ss fI hid) t
      = (out.view.loc (V d cc ss) ↦[((pieces tb ids out al sI ao sO sG NB w hw).oB t).view.set]{fullShare}
          out.view.write (Elt F) f4 (rowsOf (tb.view.read (Elt F) fT) (ids.view.read (Elt F) fI)) Finset.univ : sProp 𝕄) := by
  refine pointsTo_congr fun i hi => ?_
  obtain ⟨x, -, rfl⟩ := Finset.mem_map.mp hi
  refine Eq.trans (View.write_emb_of_mem (v := ((pieces tb ids out al sI ao sO sG NB w hw).oB t).view) f4 _ (Finset.mem_univ x)) ?_
  rw [pay_eq tb ids out al sI ao sO sG NB w hw d cc ss fI fT hid t x]
  exact (View.write_emb_of_mem (v := out.view) f4 _ (Finset.mem_univ _)).symm
end

end Cert.Proof
-- ==== Proof.Call1.lean ====
/- The gather body of the first three calls: the printed trip is the trip of the pieces, at the counters its loop carries,
   and the whole body gathers every window of a tile. -/
module

public import proofs.«01_k».proof.Proof.Pieces

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

namespace C1

/-- The tile's number. -/
abbrev wid (i : grid1.Coords) : ℕ := (i 1).val + 16 * (i 0).val
/-- The blocks fetched, before trip `t`. -/
def wA (t : ℕ) : BitVec 32 := BitVec.ofNat 32 (min (t + 1) 13)
/-- The trips done. -/
def wB (t : ℕ) : BitVec 32 := BitVec.ofNat 32 t
/-- The stores waited for. -/
def wC (t : ℕ) : BitVec 32 := BitVec.ofNat 32 (t - 1)
/-- The window's number, wrapping at the end. -/
def wD (t : ℕ) : BitVec 32 := if t = 13 then 0#32 else BitVec.ofNat 32 t

theorem trips : k1_t1_loop.trips = 13 := by decide

variable (i : grid1.Coords) (t : Fin k1_t1_loop.trips)

theorem cond1 : ∀ i t, k1_cond1 i t (wD t.val) = 1#1 ↔ t.val + 1 < 13 := by decide +kernel
theorem cond2 : ∀ i t, k1_cond2 i t (wD t.val) = 1#1 := by decide +kernel
theorem cond5 : ∀ i t, k1_cond5 i t (wD t.val) = 1#1 := by decide +kernel
theorem cond7 : ∀ i t, k1_cond7 i t (wD t.val) = 1#1 ↔ 0 < t.val := by decide +kernel
theorem off4 : ∀ t : Fin k1_t1_loop.trips, t.val + 1 < 13 → k1_off4 (wA t.val) = ![(par (t.val + 1)).val, 0, 0] := by decide +kernel
theorem off5 : ∀ i (t : Fin k1_t1_loop.trips), t.val + 1 < 13 → k1_off5 i (wD t.val) = ![0, 128 * (13 * wid i + (t.val + 1))] := by decide +kernel
theorem off6 : ∀ t : Fin k1_t1_loop.trips, t.val + 1 < 13 → k1_off6 (wA t.val) = ![(par (t.val + 1)).val] := by decide +kernel
theorem off7 : ∀ t : Fin k1_t1_loop.trips, k1_off7 (wB t.val) = ![(par t.val).val, 0, 0] := by decide +kernel
theorem off8 : ∀ i (t : Fin k1_t1_loop.trips), k1_off8 i (wD t.val) = ![0, 128 * (13 * wid i + t.val)] := by decide +kernel
theorem off9 : ∀ t : Fin k1_t1_loop.trips, k1_off9 (wB t.val) = ![(par t.val).val] := by decide +kernel
theorem off10 : ∀ t : Fin k1_t1_loop.trips, k1_off10 (wB t.val) = ![(par t.val).val, 0, 0] := by decide +kernel
theorem off11 : ∀ t : Fin k1_t1_loop.trips, k1_off11 (wB t.val) = ![(par t.val).val, 0, 0] := by decide +kernel
theorem off12 : ∀ t : Fin k1_t1_loop.trips, k1_off12 (wB t.val) = ![(par t.val).val, 0, 0] := by decide +kernel
theorem off13 : ∀ i (t : Fin k1_t1_loop.trips), k1_off13 i (wD t.val) = ![128 * (13 * wid i + t.val), 0] := by decide +kernel
theorem off14 : ∀ t : Fin k1_t1_loop.trips, k1_off14 (wB t.val) = ![(par t.val).val] := by decide +kernel
theorem off15 : ∀ t : Fin k1_t1_loop.trips, 0 < t.val → k1_off15 (wC t.val) = ![(par (t.val - 1)).val, 0, 0] := by decide +kernel
theorem off16 : ∀ i (t : Fin k1_t1_loop.trips), 0 < t.val → k1_off16 i (wD t.val) = ![128 * (13 * wid i + (t.val - 1)), 0] := by decide +kernel
theorem off17 : ∀ t : Fin k1_t1_loop.trips, 0 < t.val → k1_off17 (wC t.val) = ![(par (t.val - 1)).val] := by decide +kernel
theorem off19 : ∀ i, k1_off19 i (wD 13) = ![128 * (13 * wid i + 12), 0] := by decide +kernel
theorem off20 : k1_off20 (wC 13) = ![(par 12).val] := by decide +kernel
theorem off21 : k1_off21 (wC 13) = ![(par 12).val, 0, 0] := by decide +kernel
theorem off2 : ∀ i, k1_off2 i = ![0, 128 * (13 * wid i + 0)] := by decide +kernel

theorem chk1 : ∀ i (t : Fin k1_t1_loop.trips), k1_chk1 i t (wA t.val) (wB t.val) (wB t.val) (wC t.val) (wD t.val) := by decide +kernel
theorem chk2 : ∀ t : Fin k1_t1_loop.trips, k1_chk2 (wB t.val) := by decide +kernel
theorem chk3 : ∀ t : Fin k1_t1_loop.trips, k1_chk3 (wB t.val) := by decide +kernel
theorem chk4 : k1_chk4 (wC 13) := by decide +kernel
theorem chk5 : ∀ i, k1_chk5 i (wD 13) := by decide +kernel

/-- The windows of a tile lie within the rows. -/
theorem hw (i : grid1.Coords) : 128 * (13 * wid i + 13) ≤ 53248 := by
  have h0 : (i 0).val < 2 := (i 0).isLt
  have h1 : (i 1).val < 16 := (i 1).isLt
  unfold wid; omega

/-- The counters before trip `t`. -/
def words (t : ℕ) : BitVec 32 × BitVec 32 × BitVec 32 × BitVec 32 × BitVec 32 := (wA t, wB t, wB t, wC t, wD t)

/-- The tile's number of windows before it, as the body computes it. -/
def v4 (i : grid1.Coords) : BitVec 32 :=
  Scalar.muli (Scalar.addi (Scalar.addi 0#32 (Scalar.muli (BitVec.ofNat 32 (i 1).val) 1#32)) (Scalar.muli (BitVec.ofNat 32 (i 0).val) 16#32)) 13#32

variable (i : grid1.Coords) (tb : Memref sig .scVector .hbm S100096x128 .f32) (htb : tb.IsWhole) (ids : Memref sig .scVector .hbm S1x53248 .i32) (hids : ids.IsWhole)
  (out : Memref sig .scVector .hbm S53248x128 .f32) (hout : out.IsWhole) (al : Memref sig .scVector .vmem S2x1x128 .i32) (hal : al.IsWhole) (sI : DmaSems sig S2)
  (ao : Memref sig .scVector .vmem S2x128x128 .f32) (hao : ao.IsWhole) (sO : DmaSems sig S2) (sG : DmaSems sig S_)

/-- The tile's pieces. -/
abbrev R (i : grid1.Coords) : Ring 13 := pieces (n := 53248) tb ids out al sI ao sO sG 13 (wid i) (hw i)

abbrev core (i : grid1.Coords) : Fin τ.nSC := (i 0).castLE hcore1
abbrev sub (i : grid1.Coords) : Fin τ.nSub := (i 1).castLE hsub1

/-- The counters after trip `t`, as the trip computes them. -/
def next (i : grid1.Coords) (t : Fin k1_t1_loop.trips) : BitVec 32 × BitVec 32 × BitVec 32 × BitVec 32 × BitVec 32 :=
  let x := Scf.iv 0#32 1#32 t.val
  let w := wD t.val
  let here := Scalar.addi w (v4 i)
  let p := Scalar.select 1#1 (Scalar.subi w 1#32) w
  let prev := Scalar.addi (Scalar.select (Scalar.cmpi .eq p 4294967295#32) 12#32 p) (v4 i)
  let n := Scalar.select 1#1 (Scalar.addi w 1#32) w
  let wrap := Scalar.select (Scalar.cmpi .eq n 13#32) 0#32 n
  let nxt := Scalar.addi wrap (v4 i)
  let last := Scalar.cmpi .eq x 12#32
  (Scalar.select (Scalar.andi (Scalar.andi (Scalar.cmpi .ne here nxt) (Scalar.xori (Scalar.cmpi .sge x 12#32) 1#1)) 1#1) (Scalar.addi (wA t.val) 1#32) (wA t.val),
    Scalar.select (Scalar.ori (Scalar.cmpi .ne here nxt) last) (Scalar.addi (wB t.val) 1#32) (wB t.val),
    Scalar.select (Scalar.andi (Scalar.ori (Scalar.cmpi .ne here nxt) last) 1#1) (Scalar.addi (wB t.val) 1#32) (wB t.val),
    Scalar.select (Scalar.andi (Scalar.andi (Scalar.cmpi .ne here prev) (Scalar.xori (Scalar.cmpi .eq x 0#32) 1#1)) 1#1) (Scalar.addi (wC t.val) 1#32) (wC t.val),
    wrap)

theorem next_eq : ∀ i t, next i t = words (t.val + 1) := by decide +kernel

set_option maxHeartbeats 4000000 in
/-- The printed trip, entered at trip `t`'s counters, is the pieces' trip and leaves the next trip's counters. -/
theorem wp_body (d : Dev nD) (t : Fin k1_t1_loop.trips) (Q : BitVec 32 × BitVec 32 × BitVec 32 × BitVec 32 × BitVec 32 → sProp 𝕄) :
    wp frame (wpE (defs₀ (F := F)) 𝒱₀ (V d (core i) (sub i)) none) Set.univ ((R tb ids out al sI ao sO sG i).trip (core i) (sub i) ⟨t.val, trips ▸ t.isLt⟩) (fun _ => Q (words (t.val + 1)))
      ⊢ wp frame (wpE (defs₀ (F := F)) 𝒱₀ (V d (core i) (sub i)) none) Set.univ
          (k1_t1_body i tb htb ids hids out hout al hal sI ao hao sO sG (v4 i) t (words t.val)) Q := by
  have h1 := chk1 i t
  have h2 := chk2 t
  have h3 := chk3 t
  have ht : t.val < 13 := trips ▸ t.isLt
  have c1 := cond1 i t
  have c2 := cond2 i t
  have c5 := cond5 i t
  have c7 := cond7 i t
  have eL := op_land (F := F) tb ids out al sI ao sO sG 13 (wid i) (hw i) (core i) (sub i) ⟨t.val, ht⟩ (off8 i t) (off7 t) (off9 t)
    (k1_off8_inb i t _ _ _ _ _ h1 c2) (k1_off7_inb i t _ _ _ _ _ h1 c2) (k1_off9_inb i t _ _ _ _ _ h1 c2)
  have eG := op_gather (F := F) tb ids out al sI ao sO sG 13 (wid i) (hw i) (core i) (sub i) ⟨t.val, ht⟩ (off11 t) (off10 t)
    (k1_off11_inb _ h3) (k1_off10_inb _ h2)
  have eW := op_gathered (F := F) tb ids out al sI ao sO sG 13 (wid i) (hw i) (core i) (sub i) ⟨t.val, ht⟩ (off10 t) (k1_off10_inb _ h2)
  have eS := op_store (F := F) tb ids out al sI ao sO sG 13 (wid i) (hw i) (core i) (sub i) ⟨t.val, ht⟩ (off13 i t) (off12 t) (off14 t)
    (k1_off13_inb i t _ _ _ _ _ h1 c5) (k1_off12_inb i t _ _ _ _ _ h1 c5) (k1_off14_inb i t _ _ _ _ _ h1 c5)
  have eF : (h : t.val + 1 < 13) → _ := fun h => op_fetch (F := F) tb ids out al sI ao sO sG 13 (wid i) (hw i) (core i) (sub i) ⟨t.val + 1, h⟩ (off5 i t h) (off4 t h) (off6 t h)
    (k1_off5_inb i t _ _ _ _ _ h1 (c1.mpr h)) (k1_off4_inb i t _ _ _ _ _ h1 (c1.mpr h)) (k1_off6_inb i t _ _ _ _ _ h1 (c1.mpr h))
  have eD : (h : 0 < t.val) → _ := fun h => op_drain (F := F) tb ids out al sI ao sO sG 13 (wid i) (hw i) (core i) (sub i) ⟨t.val - 1, by omega⟩ (off16 i t h) (off15 t h) (off17 t h)
    (k1_off16_inb i t _ _ _ _ _ h1 (c7.mpr h)) (k1_off15_inb i t _ _ _ _ _ h1 (c7.mpr h)) (k1_off17_inb i t _ _ _ _ _ h1 (c7.mpr h))
  rw [← next_eq i t]
  refine BIBase.Entails.trans (Q := wp frame (wpE (defs₀ (F := F)) 𝒱₀ (V d (core i) (sub i)) none) Set.univ
    ((R tb ids out al sI ao sO sG i).trip (core i) (sub i) ⟨t.val, ht⟩ >>= fun _ => pure (next i t)) Q) ?_ ?_
  · rw [wp_bind]
    refine wp_mono frame _ _ fun _ => ?_
    rw [wp_pure]
    iintro H; imodintro; iexact H
  unfold words k1_t1_body Ring.trip Ring.fetchNext Ring.drainPrev next
  simp only [k1_part1_eq_skeleton, k1_part2_eq_skeleton]
  unfold k1_part1_skel k1_part2_skel
  by_cases hf : t.val + 1 < 13 <;> by_cases hd : 0 < t.val
  all_goals
    simp only [c1, c7, hf, hd, dif_pos, c2, c5, ite_self, ↓reduceDIte]
    try rw [← eF hf]
    try rw [← eD hd]
    rw [← eL, ← eG, ← eW, ← eS]
    simp only [Prog.bind_lift, Prog.bind_op, Prog.bind_ret, bind_assoc, pure_bind, wp_assume_of 𝒱₀ (V d (core i) (sub i)) none Set.univ h1, wp_assume_of 𝒱₀ (V d (core i) (sub i)) none Set.univ h2, wp_assume_of 𝒱₀ (V d (core i) (sub i)) none Set.univ h3]
    exact Entails.of_eq rfl

section
variable (d : Dev nD) (fI : ∀ t, Buf (Elt F) (((R tb ids out al sI ao sO sG i).iB t).view.loc (V d (core i) (sub i))))
  (f4 : ∀ t, Buf (Elt F) (((R tb ids out al sI ao sO sG i).oB t).view.loc (V d (core i) (sub i))))
  (fT : Buf (Elt F) (tb.view.loc (V d (core i) (sub i)))) (q : PosShare TreeShare)
  (hin : ∀ t x, (Ring.listOf (((R tb ids out al sI ao sO sG i).iB t).view.read (Elt F) (fI t)) x).toNat < S100096x128.size gathers_S100096x128_S128x128.axis)

/-- The body over a tile's pieces: from its blocks of row numbers and its windows, every window holds the rows its block names. -/
theorem wp_kernel (O : CellTallies nD τ sig (HIx 4)) (W : Waits sig (HIx 4)) :
    iprop(Transfers.MayWaits (V d (core i) (sub i)) (none : HIx 4) O ∗ (R tb ids out al sI ao sO sG i).free (F := F) d (core i) (sub i)
        ∗ bigSep Finset.univ ((R tb ids out al sI ao sO sG i).blk d (core i) (sub i) fI) ∗ bigSep Finset.univ ((R tb ids out al sI ao sO sG i).win d (core i) (sub i) f4)
        ∗ (R tb ids out al sI ao sO sG i).tab d (core i) (sub i) fT q ∗ Ring.owed (F := F) d (core i) (sub i) O W)
      ⊢ wp frame (wpE (defs₀ (F := F)) 𝒱₀ (V d (core i) (sub i)) none) Set.univ (cc1_gather_kernel i tb htb ids hids out hout al hal sI ao hao sO sG)
          fun _ => iprop((R tb ids out al sI ao sO sG i).free (F := F) d (core i) (sub i)
            ∗ bigSep Finset.univ ((R tb ids out al sI ao sO sG i).blk d (core i) (sub i) fI) ∗ bigSep Finset.univ ((R tb ids out al sI ao sO sG i).done d (core i) (sub i) fI f4 fT hin)
            ∗ (R tb ids out al sI ao sO sG i).tab d (core i) (sub i) fT q ∗ Ring.owed (F := F) d (core i) (sub i) O W) := by
  rw [cc1_gather_kernel_eq_skeleton]
  unfold cc1_gather_kernel_skel
  simp only [k1_part3_eq_skeleton, k1_part4_eq_skeleton]
  unfold k1_part3_skel k1_part4_skel
  have eF := op_fetch (F := F) tb ids out al sI ao sO sG 13 (wid i) (hw i) (core i) (sub i) 0 (off2 i) (k1_off1_eq) (k1_off3_eq) (k1_off2_inb i) k1_off1_inb k1_off3_inb
  have eD := op_drain (F := F) tb ids out al sI ao sO sG 13 (wid i) (hw i) (core i) (sub i) 12 (off19 i) off21 off20 (k1_off19_inb i _ (chk5 i)) (k1_off21_inb _ chk4) (k1_off20_inb _ chk4)
  simp only [bind_assoc, pure_bind]
  rw [eF]
  refine Ring.wp_whole (R tb ids out al sI ao sO sG i) d (core i) (sub i) fI f4 fT q hin (fun s h => slotO_credit ao s h) (by decide) _ _ _ _ trips words
    (fun t Q => wp_body i tb htb ids hids out hout al hal sI ao hao sO sG d t Q) O W _ rfl fun Q => ?_
  unfold words
  simp only [Prog.bind_lift, wp_assume_of 𝒱₀ (V d (core i) (sub i)) none Set.univ (chk5 i), wp_assume_of 𝒱₀ (V d (core i) (sub i)) none Set.univ chk4]
  rw [← Prog.bind_lift]
  exact Entails.of_eq (congrArg (fun p => wp frame (wpE (defs₀ (F := F)) 𝒱₀ (V d (core i) (sub i)) none) Set.univ (p >>= fun _ => pure PUnit.unit) Q) eD.symm)
end

end C1

end Cert.Proof
-- ==== Proof.Call4.lean ====
/- The gather body of the last call, which has 11 windows a tile where the others have 13. -/
module

public import proofs.«01_k».proof.Proof.Pieces

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

namespace C4

/-- The tile's number. -/
abbrev wid (i : grid4.Coords) : ℕ := (i 1).val + 16 * (i 0).val
/-- The blocks fetched, before trip `t`. -/
def wA (t : ℕ) : BitVec 32 := BitVec.ofNat 32 (min (t + 1) 11)
/-- The trips done. -/
def wB (t : ℕ) : BitVec 32 := BitVec.ofNat 32 t
/-- The stores waited for. -/
def wC (t : ℕ) : BitVec 32 := BitVec.ofNat 32 (t - 1)
/-- The window's number, wrapping at the end. -/
def wD (t : ℕ) : BitVec 32 := if t = 11 then 0#32 else BitVec.ofNat 32 t

theorem trips : k4_t1_loop.trips = 11 := by decide

variable (i : grid4.Coords) (t : Fin k4_t1_loop.trips)

theorem cond1 : ∀ i t, k4_cond1 i t (wD t.val) = 1#1 ↔ t.val + 1 < 11 := by decide +kernel
theorem cond2 : ∀ i t, k4_cond2 i t (wD t.val) = 1#1 := by decide +kernel
theorem cond5 : ∀ i t, k4_cond5 i t (wD t.val) = 1#1 := by decide +kernel
theorem cond7 : ∀ i t, k4_cond7 i t (wD t.val) = 1#1 ↔ 0 < t.val := by decide +kernel
theorem off4 : ∀ t : Fin k4_t1_loop.trips, t.val + 1 < 11 → k4_off4 (wA t.val) = ![(par (t.val + 1)).val, 0, 0] := by decide +kernel
theorem off5 : ∀ i (t : Fin k4_t1_loop.trips), t.val + 1 < 11 → k4_off5 i (wD t.val) = ![0, 128 * (11 * wid i + (t.val + 1))] := by decide +kernel
theorem off6 : ∀ t : Fin k4_t1_loop.trips, t.val + 1 < 11 → k4_off6 (wA t.val) = ![(par (t.val + 1)).val] := by decide +kernel
theorem off7 : ∀ t : Fin k4_t1_loop.trips, k4_off7 (wB t.val) = ![(par t.val).val, 0, 0] := by decide +kernel
theorem off8 : ∀ i (t : Fin k4_t1_loop.trips), k4_off8 i (wD t.val) = ![0, 128 * (11 * wid i + t.val)] := by decide +kernel
theorem off9 : ∀ t : Fin k4_t1_loop.trips, k4_off9 (wB t.val) = ![(par t.val).val] := by decide +kernel
theorem off10 : ∀ t : Fin k4_t1_loop.trips, k4_off10 (wB t.val) = ![(par t.val).val, 0, 0] := by decide +kernel
theorem off11 : ∀ t : Fin k4_t1_loop.trips, k4_off11 (wB t.val) = ![(par t.val).val, 0, 0] := by decide +kernel
theorem off12 : ∀ t : Fin k4_t1_loop.trips, k4_off12 (wB t.val) = ![(par t.val).val, 0, 0] := by decide +kernel
theorem off13 : ∀ i (t : Fin k4_t1_loop.trips), k4_off13 i (wD t.val) = ![128 * (11 * wid i + t.val), 0] := by decide +kernel
theorem off14 : ∀ t : Fin k4_t1_loop.trips, k4_off14 (wB t.val) = ![(par t.val).val] := by decide +kernel
theorem off15 : ∀ t : Fin k4_t1_loop.trips, 0 < t.val → k4_off15 (wC t.val) = ![(par (t.val - 1)).val, 0, 0] := by decide +kernel
theorem off16 : ∀ i (t : Fin k4_t1_loop.trips), 0 < t.val → k4_off16 i (wD t.val) = ![128 * (11 * wid i + (t.val - 1)), 0] := by decide +kernel
theorem off17 : ∀ t : Fin k4_t1_loop.trips, 0 < t.val → k4_off17 (wC t.val) = ![(par (t.val - 1)).val] := by decide +kernel
theorem off19 : ∀ i, k4_off19 i (wD 11) = ![128 * (11 * wid i + 10), 0] := by decide +kernel
theorem off20 : k4_off20 (wC 11) = ![(par 10).val] := by decide +kernel
theorem off21 : k4_off21 (wC 11) = ![(par 10).val, 0, 0] := by decide +kernel
theorem off2 : ∀ i, k4_off2 i = ![0, 128 * (11 * wid i + 0)] := by decide +kernel

theorem chk1 : ∀ i (t : Fin k4_t1_loop.trips), k4_chk1 i t (wA t.val) (wB t.val) (wB t.val) (wC t.val) (wD t.val) := by decide +kernel
theorem chk2 : ∀ t : Fin k4_t1_loop.trips, k4_chk2 (wB t.val) := by decide +kernel
theorem chk3 : ∀ t : Fin k4_t1_loop.trips, k4_chk3 (wB t.val) := by decide +kernel
theorem chk4 : k4_chk4 (wC 11) := by decide +kernel
theorem chk5 : ∀ i, k4_chk5 i (wD 11) := by decide +kernel

/-- The windows of a tile lie within the rows. -/
theorem hw (i : grid4.Coords) : 128 * (11 * wid i + 11) ≤ 45056 := by
  have h0 : (i 0).val < 2 := (i 0).isLt
  have h1 : (i 1).val < 16 := (i 1).isLt
  unfold wid; omega

/-- The counters before trip `t`. -/
def words (t : ℕ) : BitVec 32 × BitVec 32 × BitVec 32 × BitVec 32 × BitVec 32 := (wA t, wB t, wB t, wC t, wD t)

/-- The tile's number of windows before it, as the body computes it. -/
def v4 (i : grid4.Coords) : BitVec 32 :=
  Scalar.muli (Scalar.addi (Scalar.addi 0#32 (Scalar.muli (BitVec.ofNat 32 (i 1).val) 1#32)) (Scalar.muli (BitVec.ofNat 32 (i 0).val) 16#32)) 11#32

variable (i : grid4.Coords) (tb : Memref sig .scVector .hbm S100096x128 .f32) (htb : tb.IsWhole) (ids : Memref sig .scVector .hbm S1x45056 .i32) (hids : ids.IsWhole)
  (out : Memref sig .scVector .hbm S45056x128 .f32) (hout : out.IsWhole) (al : Memref sig .scVector .vmem S2x1x128 .i32) (hal : al.IsWhole) (sI : DmaSems sig S2)
  (ao : Memref sig .scVector .vmem S2x128x128 .f32) (hao : ao.IsWhole) (sO : DmaSems sig S2) (sG : DmaSems sig S_)

/-- The tile's pieces. -/
abbrev R (i : grid4.Coords) : Ring 11 := pieces (n := 45056) tb ids out al sI ao sO sG 11 (wid i) (hw i)

abbrev core (i : grid4.Coords) : Fin τ.nSC := (i 0).castLE hcore4
abbrev sub (i : grid4.Coords) : Fin τ.nSub := (i 1).castLE hsub4

/-- The counters after trip `t`, as the trip computes them. -/
def next (i : grid4.Coords) (t : Fin k4_t1_loop.trips) : BitVec 32 × BitVec 32 × BitVec 32 × BitVec 32 × BitVec 32 :=
  let x := Scf.iv 0#32 1#32 t.val
  let w := wD t.val
  let here := Scalar.addi w (v4 i)
  let p := Scalar.select 1#1 (Scalar.subi w 1#32) w
  let prev := Scalar.addi (Scalar.select (Scalar.cmpi .eq p 4294967295#32) 10#32 p) (v4 i)
  let n := Scalar.select 1#1 (Scalar.addi w 1#32) w
  let wrap := Scalar.select (Scalar.cmpi .eq n 11#32) 0#32 n
  let nxt := Scalar.addi wrap (v4 i)
  let last := Scalar.cmpi .eq x 10#32
  (Scalar.select (Scalar.andi (Scalar.andi (Scalar.cmpi .ne here nxt) (Scalar.xori (Scalar.cmpi .sge x 10#32) 1#1)) 1#1) (Scalar.addi (wA t.val) 1#32) (wA t.val),
    Scalar.select (Scalar.ori (Scalar.cmpi .ne here nxt) last) (Scalar.addi (wB t.val) 1#32) (wB t.val),
    Scalar.select (Scalar.andi (Scalar.ori (Scalar.cmpi .ne here nxt) last) 1#1) (Scalar.addi (wB t.val) 1#32) (wB t.val),
    Scalar.select (Scalar.andi (Scalar.andi (Scalar.cmpi .ne here prev) (Scalar.xori (Scalar.cmpi .eq x 0#32) 1#1)) 1#1) (Scalar.addi (wC t.val) 1#32) (wC t.val),
    wrap)

theorem next_eq : ∀ i t, next i t = words (t.val + 1) := by decide +kernel

set_option maxHeartbeats 4000000 in
/-- The printed trip, entered at trip `t`'s counters, is the pieces' trip and leaves the next trip's counters. -/
theorem wp_body (d : Dev nD) (t : Fin k4_t1_loop.trips) (Q : BitVec 32 × BitVec 32 × BitVec 32 × BitVec 32 × BitVec 32 → sProp 𝕄) :
    wp frame (wpE (defs₀ (F := F)) 𝒱₀ (V d (core i) (sub i)) none) Set.univ ((R tb ids out al sI ao sO sG i).trip (core i) (sub i) ⟨t.val, trips ▸ t.isLt⟩) (fun _ => Q (words (t.val + 1)))
      ⊢ wp frame (wpE (defs₀ (F := F)) 𝒱₀ (V d (core i) (sub i)) none) Set.univ
          (k4_t1_body i tb htb ids hids out hout al hal sI ao hao sO sG (v4 i) t (words t.val)) Q := by
  have h1 := chk1 i t
  have h2 := chk2 t
  have h3 := chk3 t
  have ht : t.val < 11 := trips ▸ t.isLt
  have c1 := cond1 i t
  have c2 := cond2 i t
  have c5 := cond5 i t
  have c7 := cond7 i t
  have eL := op_land (F := F) tb ids out al sI ao sO sG 11 (wid i) (hw i) (core i) (sub i) ⟨t.val, ht⟩ (off8 i t) (off7 t) (off9 t)
    (k4_off8_inb i t _ _ _ _ _ h1 c2) (k4_off7_inb i t _ _ _ _ _ h1 c2) (k4_off9_inb i t _ _ _ _ _ h1 c2)
  have eG := op_gather (F := F) tb ids out al sI ao sO sG 11 (wid i) (hw i) (core i) (sub i) ⟨t.val, ht⟩ (off11 t) (off10 t)
    (k4_off11_inb _ h3) (k4_off10_inb _ h2)
  have eW := op_gathered (F := F) tb ids out al sI ao sO sG 11 (wid i) (hw i) (core i) (sub i) ⟨t.val, ht⟩ (off10 t) (k4_off10_inb _ h2)
  have eS := op_store (F := F) tb ids out al sI ao sO sG 11 (wid i) (hw i) (core i) (sub i) ⟨t.val, ht⟩ (off13 i t) (off12 t) (off14 t)
    (k4_off13_inb i t _ _ _ _ _ h1 c5) (k4_off12_inb i t _ _ _ _ _ h1 c5) (k4_off14_inb i t _ _ _ _ _ h1 c5)
  have eF : (h : t.val + 1 < 11) → _ := fun h => op_fetch (F := F) tb ids out al sI ao sO sG 11 (wid i) (hw i) (core i) (sub i) ⟨t.val + 1, h⟩ (off5 i t h) (off4 t h) (off6 t h)
    (k4_off5_inb i t _ _ _ _ _ h1 (c1.mpr h)) (k4_off4_inb i t _ _ _ _ _ h1 (c1.mpr h)) (k4_off6_inb i t _ _ _ _ _ h1 (c1.mpr h))
  have eD : (h : 0 < t.val) → _ := fun h => op_drain (F := F) tb ids out al sI ao sO sG 11 (wid i) (hw i) (core i) (sub i) ⟨t.val - 1, by omega⟩ (off16 i t h) (off15 t h) (off17 t h)
    (k4_off16_inb i t _ _ _ _ _ h1 (c7.mpr h)) (k4_off15_inb i t _ _ _ _ _ h1 (c7.mpr h)) (k4_off17_inb i t _ _ _ _ _ h1 (c7.mpr h))
  rw [← next_eq i t]
  refine BIBase.Entails.trans (Q := wp frame (wpE (defs₀ (F := F)) 𝒱₀ (V d (core i) (sub i)) none) Set.univ
    ((R tb ids out al sI ao sO sG i).trip (core i) (sub i) ⟨t.val, ht⟩ >>= fun _ => pure (next i t)) Q) ?_ ?_
  · rw [wp_bind]
    refine wp_mono frame _ _ fun _ => ?_
    rw [wp_pure]
    iintro H; imodintro; iexact H
  unfold words k4_t1_body Ring.trip Ring.fetchNext Ring.drainPrev next
  simp only [k4_part1_eq_skeleton, k4_part2_eq_skeleton]
  unfold k4_part1_skel k4_part2_skel
  by_cases hf : t.val + 1 < 11 <;> by_cases hd : 0 < t.val
  all_goals
    simp only [c1, c7, hf, hd, dif_pos, c2, c5, ite_self, ↓reduceDIte]
    try rw [← eF hf]
    try rw [← eD hd]
    rw [← eL, ← eG, ← eW, ← eS]
    simp only [Prog.bind_lift, Prog.bind_op, Prog.bind_ret, bind_assoc, pure_bind, wp_assume_of 𝒱₀ (V d (core i) (sub i)) none Set.univ h1, wp_assume_of 𝒱₀ (V d (core i) (sub i)) none Set.univ h2, wp_assume_of 𝒱₀ (V d (core i) (sub i)) none Set.univ h3]
    exact Entails.of_eq rfl

section
variable (d : Dev nD) (fI : ∀ t, Buf (Elt F) (((R tb ids out al sI ao sO sG i).iB t).view.loc (V d (core i) (sub i))))
  (f4 : ∀ t, Buf (Elt F) (((R tb ids out al sI ao sO sG i).oB t).view.loc (V d (core i) (sub i))))
  (fT : Buf (Elt F) (tb.view.loc (V d (core i) (sub i)))) (q : PosShare TreeShare)
  (hin : ∀ t x, (Ring.listOf (((R tb ids out al sI ao sO sG i).iB t).view.read (Elt F) (fI t)) x).toNat < S100096x128.size gathers_S100096x128_S128x128.axis)

/-- The body over a tile's pieces: from its blocks of row numbers and its windows, every window holds the rows its block names. -/
theorem wp_kernel (O : CellTallies nD τ sig (HIx 4)) (W : Waits sig (HIx 4)) :
    iprop(Transfers.MayWaits (V d (core i) (sub i)) (none : HIx 4) O ∗ (R tb ids out al sI ao sO sG i).free (F := F) d (core i) (sub i)
        ∗ bigSep Finset.univ ((R tb ids out al sI ao sO sG i).blk d (core i) (sub i) fI) ∗ bigSep Finset.univ ((R tb ids out al sI ao sO sG i).win d (core i) (sub i) f4)
        ∗ (R tb ids out al sI ao sO sG i).tab d (core i) (sub i) fT q ∗ Ring.owed (F := F) d (core i) (sub i) O W)
      ⊢ wp frame (wpE (defs₀ (F := F)) 𝒱₀ (V d (core i) (sub i)) none) Set.univ (cc4_gather_kernel i tb htb ids hids out hout al hal sI ao hao sO sG)
          fun _ => iprop((R tb ids out al sI ao sO sG i).free (F := F) d (core i) (sub i)
            ∗ bigSep Finset.univ ((R tb ids out al sI ao sO sG i).blk d (core i) (sub i) fI) ∗ bigSep Finset.univ ((R tb ids out al sI ao sO sG i).done d (core i) (sub i) fI f4 fT hin)
            ∗ (R tb ids out al sI ao sO sG i).tab d (core i) (sub i) fT q ∗ Ring.owed (F := F) d (core i) (sub i) O W) := by
  rw [cc4_gather_kernel_eq_skeleton]
  unfold cc4_gather_kernel_skel
  simp only [k4_part3_eq_skeleton, k4_part4_eq_skeleton]
  unfold k4_part3_skel k4_part4_skel
  have eF := op_fetch (F := F) tb ids out al sI ao sO sG 11 (wid i) (hw i) (core i) (sub i) 0 (off2 i) (k4_off1_eq) (k4_off3_eq) (k4_off2_inb i) k4_off1_inb k4_off3_inb
  have eD := op_drain (F := F) tb ids out al sI ao sO sG 11 (wid i) (hw i) (core i) (sub i) 10 (off19 i) off21 off20 (k4_off19_inb i _ (chk5 i)) (k4_off21_inb _ chk4) (k4_off20_inb _ chk4)
  simp only [bind_assoc, pure_bind]
  rw [eF]
  refine Ring.wp_whole (R tb ids out al sI ao sO sG i) d (core i) (sub i) fI f4 fT q hin (fun s h => slotO_credit ao s h) (by decide) _ _ _ _ trips words
    (fun t Q => wp_body i tb htb ids hids out hout al hal sI ao hao sO sG d t Q) O W _ rfl fun Q => ?_
  unfold words
  simp only [Prog.bind_lift, wp_assume_of 𝒱₀ (V d (core i) (sub i)) none Set.univ (chk5 i), wp_assume_of 𝒱₀ (V d (core i) (sub i)) none Set.univ chk4]
  rw [← Prog.bind_lift]
  exact Entails.of_eq (congrArg (fun p => wp frame (wpE (defs₀ (F := F)) 𝒱₀ (V d (core i) (sub i)) none) Set.univ (p >>= fun _ => pure PUnit.unit) Q) eD.symm)
end

end C4

end Cert.Proof
-- ==== Proof.Tile.lean ====
/- What a gather call hands its tiles and takes back, and a tile's run between the two. -/
module

public import proofs.«01_k».proof.Proof.Gathered
public import proofs.«01_k».proof.Proof.Call1
public import proofs.«01_k».proof.Proof.Call4
public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (ownSems0 ownBufs ownCells ownRefs mem_ownCells mem_ownRefs_of_owner)

variable {F : FTy → Type} [FloatOps F]

local notation "𝕄" => MT nD τ sig (HIx 4) (Elt F) ℕ UU ℕ

/-- Elements held can be stored. -/
theorem points_storable (ℓ : Loc nD τ sig) (I : Finset (Idx ℓ)) (q : PosShare TreeShare) (f : Buf (Elt F) ℓ) :
    BI.Storable (upEmb : UEmb _ 𝕄) (ℓ ↦[I]{q} f : sProp 𝕄) := inferInstance

section
variable {n : ℕ} (tb : Memref sig .scVector .hbm S100096x128 .f32) (ids : Memref sig .scVector .hbm (SI n) .i32)
  (out : Memref sig .scVector .hbm (SO n) .f32) (al : Memref sig .scVector .vmem S2x1x128 .i32) (sI : DmaSems sig S2)
  (ao : Memref sig .scVector .vmem S2x128x128 .f32) (sO : DmaSems sig S2) (sG : DmaSems sig S_)
  (NB : ℕ) (hn : n = 128 * (NB * 32)) (d : Dev nD) (cc : Fin τ.nSC) (ss : Fin τ.nSub)
  (fI : Buf (Elt F) (ids.view.loc (V d cc ss))) (f4 : Buf (Elt F) (out.view.loc (V d cc ss))) (fT : Buf (Elt F) (tb.view.loc (V d cc ss)))

include hn in
/-- A tile's windows lie within the array. -/
theorem tile_in : 128 * (NB * (ss.val + 16 * cc.val) + NB) ≤ n := by
  have h1 : ss.val + 16 * cc.val + 1 ≤ 32 := by
    have : ss.val < 16 := ss.isLt
    have : cc.val < 2 := cc.isLt
    omega
  have h2 := Nat.mul_le_mul_left NB h1
  rw [Nat.mul_add] at h2
  omega

/-- The pieces of tile `ss` of SparseCore `cc`. -/
abbrev ring : Ring NB := pieces tb ids out al sI ao sO sG NB (ss.val + 16 * cc.val) (tile_in NB hn cc ss)

/-- What a tile is handed: its blocks of row numbers, a share of the table, its windows. -/
def goOf : sProp 𝕄 :=
  iprop(bigSep Finset.univ ((ring tb ids out al sI ao sO sG NB hn cc ss).blk d cc ss fun _ => fI)
    ∗ (ring tb ids out al sI ao sO sG NB hn cc ss).tab d cc ss fT (shareOf cc ss)
    ∗ bigSep Finset.univ ((ring tb ids out al sI ao sO sG NB hn cc ss).win d cc ss fun _ => f4))

/-- What a call leaves in its output. -/
abbrev outOf : Buf (Elt F) (out.view.loc (V d cc ss)) :=
  out.view.write (Elt F) f4 (rowsOf (tb.view.read (Elt F) fT) (ids.view.read (Elt F) fI)) Finset.univ

/-- What a tile brings back: the same, its windows holding the rows. -/
def tdOf : sProp 𝕄 := goOf tb ids out al sI ao sO sG NB hn d cc ss fI (outOf tb ids out d cc ss fI f4 fT) fT

instance goOf_storable : BI.Storable (upEmb : UEmb _ 𝕄) (goOf tb ids out al sI ao sO sG NB hn d cc ss fI f4 fT) := by
  have hb : ∀ t, BI.Storable (upEmb : UEmb _ 𝕄) ((ring tb ids out al sI ao sO sG NB hn cc ss).blk d cc ss (fun _ => fI) t) := fun t => by
    exact points_storable _ _ _ _
  have hw : ∀ t, BI.Storable (upEmb : UEmb _ 𝕄) ((ring tb ids out al sI ao sO sG NB hn cc ss).win d cc ss (fun _ => f4) t) := fun t => by
    exact points_storable _ _ _ _
  have ht : BI.Storable (upEmb : UEmb _ 𝕄) ((ring tb ids out al sI ao sO sG NB hn cc ss).tab d cc ss fT (shareOf cc ss)) := by
    exact points_storable _ _ _ _
  unfold goOf; infer_instance
instance tdOf_storable : BI.Storable (upEmb : UEmb _ 𝕄) (tdOf tb ids out al sI ao sO sG NB hn d cc ss fI f4 fT) :=
  goOf_storable tb ids out al sI ao sO sG NB hn d cc ss fI _ fT

/-- A tile's scratch, as its pieces' slots and semaphores, and back. -/
theorem scratch_free (a b : Ref sig .scVector) (hab : a ≠ b) (ha : ((Proc.scVector cc ss).devRef a).owner = .proc (.scVector cc ss))
    (hb : ((Proc.scVector cc ss).devRef b).owner = .proc (.scVector cc ss))
    (hx : Function.Injective ![semAt sI 0, semAt sI 1, semAt sO 0, semAt sO 1, sG.sem])
    (hs : ∀ k, (SemLoc.dma (![semAt sI 0, semAt sI 1, semAt sO 0, semAt sO 1, sG.sem] k) : SemLoc sig).isScoped .scVector = true)
    (hA : (iprop(∃ f, (V d cc ss).loc a ↦{fullShare} f) : sProp 𝕄) = iprop(∃ f, al.view.loc (V d cc ss) ↦[al.view.set]{fullShare} f))
    (hB : (iprop(∃ f, (V d cc ss).loc b ↦{fullShare} f) : sProp 𝕄) = iprop(∃ f, ao.view.loc (V d cc ss) ↦[ao.view.set]{fullShare} f)) :
    (iprop(scopedBufs (V d cc ss) ∗ scopedSems0 (V d cc ss)) : sProp 𝕄)
      ⊢ iprop((ring tb ids out al sI ao sO sG NB hn cc ss).free (F := F) d cc ss
          ∗ ((ring tb ids out al sI ao sO sG NB hn cc ss).free (F := F) d cc ss -∗ scopedBufs (V d cc ss) ∗ scopedSems0 (V d cc ss))) := by
  rw [(K (F := F)).scopedBufs_V facts d cc ss, SparseCore.Cfg.scopedSems0_V (Val := Elt F) d cc ss]
  have e := scratch_take (F := F) d cc ss a b hab ha hb _ hx hs
  rw [hA, hB, cut_slotsI, cut_slotsO, bigSep_first, bigSep_first, bigSep_first, bigSep_first, bigSep_univ_of_subsingleton (0 : Fin 1)] at e
  refine BIBase.Entails.trans e ?_
  iintro ⟨⟨⟨A0, A1⟩, ⟨B0, B1⟩, S0, S1, S2, S3, S4⟩, Hback⟩
  isplitl [A0 A1 B0 B1 S0 S1 S2 S3 S4]
  · unfold Ring.free Ring.slotI Ring.slotO Ring.bufO
    isplitl [A0 S0]
    · isplitl [S0]; · iexact S0
      iexact A0
    isplitl [A1 S1]
    · isplitl [S1]; · iexact S1
      iexact A1
    isplitl [B0 S2]
    · isplitl [S2]; · iexact S2
      iexact B0
    isplitl [B1 S3]
    · isplitl [S3]; · iexact S3
      iexact B1
    iexact S4
  unfold Ring.free Ring.slotI Ring.slotO Ring.bufO
  iintro ⟨⟨S0, A0⟩, ⟨S1, A1⟩, ⟨S2, B0⟩, ⟨S3, B1⟩, S4⟩
  iapply Hback
  isplitl [A0 A1]
  · isplitl [A0]; · iexact A0
    iexact A1
  isplitl [B0 B1]
  · isplitl [B0]; · iexact B0
    iexact B1
  isplitl [S0]; · iexact S0
  isplitl [S1]; · iexact S1
  isplitl [S2]; · iexact S2
  isplitl [S3]; · iexact S3
  iexact S4

variable (hid : ∀ j, (ids.view.read (Elt F) fI j : BitVec 32).toNat < 100096)

/-- A tile's run, from what the launch hands it to what it brings back. -/
theorem tile_run (prog : Prog (TpuEff nD τ sig (Elt F) Λ₀ (.scVector cc ss)) PUnit)
    (hfree : (iprop(scopedBufs (V d cc ss) ∗ scopedSems0 (V d cc ss)) : sProp 𝕄)
      ⊢ iprop((ring tb ids out al sI ao sO sG NB hn cc ss).free (F := F) d cc ss
          ∗ ((ring tb ids out al sI ao sO sG NB hn cc ss).free (F := F) d cc ss -∗ scopedBufs (V d cc ss) ∗ scopedSems0 (V d cc ss))))
    (O : CellTallies nD τ sig (HIx 4)) (W : Waits sig (HIx 4)) (hO : ∀ g, O g none = 0)
    (hprog : iprop(Transfers.MayWaits (V d cc ss) (none : HIx 4) O ∗ (ring tb ids out al sI ao sO sG NB hn cc ss).free (F := F) d cc ss
        ∗ bigSep Finset.univ ((ring tb ids out al sI ao sO sG NB hn cc ss).blk d cc ss fun _ => fI)
        ∗ bigSep Finset.univ ((ring tb ids out al sI ao sO sG NB hn cc ss).win d cc ss fun _ => f4)
        ∗ (ring tb ids out al sI ao sO sG NB hn cc ss).tab d cc ss fT (shareOf cc ss) ∗ Ring.owed (F := F) d cc ss O W)
      ⊢ wp frame (wpE (defs₀ (F := F)) 𝒱₀ (V d cc ss) none) Set.univ prog fun _ => iprop((ring tb ids out al sI ao sO sG NB hn cc ss).free (F := F) d cc ss
        ∗ bigSep Finset.univ ((ring tb ids out al sI ao sO sG NB hn cc ss).blk d cc ss fun _ => fI)
        ∗ bigSep Finset.univ ((ring tb ids out al sI ao sO sG NB hn cc ss).done d cc ss (fun _ => fI) (fun _ => f4) fT
            (lists_in tb ids out al sI ao sO sG NB (ss.val + 16 * cc.val) (tile_in NB hn cc ss) d cc ss fI hid))
        ∗ (ring tb ids out al sI ao sO sG NB hn cc ss).tab d cc ss fT (shareOf cc ss) ∗ Ring.owed (F := F) d cc ss O W)) :
    iprop(levAts (K (F := F)).L (K (F := F)).lev ∗ emp ∗ goOf tb ids out al sI ao sO sG NB hn d cc ss fI f4 fT
        ∗ scopedBufs (V d cc ss) ∗ scopedSems0 (V d cc ss) ∗ owes (V d cc ss) O W)
      ⊢ wp frame (wpE (defs₀ (F := F)) 𝒱₀ (V d cc ss) none) Set.univ prog fun _ => iprop(tdOf tb ids out al sI ao sO sG NB hn d cc ss fI f4 fT
        ∗ scopedBufs (V d cc ss) ∗ scopedSems0 (V d cc ss) ∗ ∃ W', ⌜∀ p ∈ W', p ∈ W ∨ p.2 = none⌝ ∗ owes (V d cc ss) O W') := by
  iintro ⟨#Hlv, -, Hgo, Hb, Hs, HO⟩
  ihave Hmw := (show levAts (K (F := F)).L (K (F := F)).lev ⊢ Transfers.MayWaits (V d cc ss) (default : HIx 4) O from
    (K (F := F)).mayWaits_none (thr := V d cc ss) hO) $$ Hlv
  ihave Hf := hfree $$ [Hb Hs]
  · isplitl [Hb]; · iexact Hb
    iexact Hs
  icases Hf with ⟨Hf, Hback⟩
  unfold goOf
  icases Hgo with ⟨Hi, Ht, Ho⟩
  ihave Hwp := hprog $$ [Hmw Hf Hi Ho Ht HO]
  · isplitl [Hmw]; · iexact Hmw
    isplitl [Hf]; · iexact Hf
    isplitl [Hi]; · iexact Hi
    isplitl [Ho]; · iexact Ho
    isplitl [Ht]; · iexact Ht
    unfold Ring.owed
    iexists W
    isplitr [HO]
    · ipureintro; exact fun p hp => .inl hp
    iexact HO
  iapply (wp_wand frame (wpE (defs₀ (F := F)) 𝒱₀ (V d cc ss) none)) $$ Hwp
  iintro %a ⟨Hf, Hi, Ho, Ht, HO⟩
  ihave Hbs := Hback $$ Hf
  icases Hbs with ⟨Hb, Hs⟩
  unfold Ring.owed
  isplitl [Hi Ho Ht]
  · unfold tdOf goOf
    isplitl [Hi]; · iexact Hi
    isplitl [Ht]; · iexact Ht
    iapply (Entails.of_eq (bigSep_congr fun t _ => done_eq tb ids out al sI ao sO sG NB (ss.val + 16 * cc.val) (tile_in NB hn cc ss) d cc ss fI fT hid t f4)) $$ Ho
  isplitl [Hb]; · iexact Hb
  isplitl [Hs]; · iexact Hs
  iexact HO
end

/-- Three families of parts, tile by tile. -/
theorem join3 {NB : ℕ} {A T O : sProp 𝕄} {a o : Fin 2 → Fin 16 → Fin NB → sProp 𝕄} {t : Fin 2 → Fin 16 → sProp 𝕄}
    (hA : A = bigSep Finset.univ fun c => bigSep Finset.univ fun s => bigSep Finset.univ (a c s))
    (hT : T = bigSep Finset.univ fun c => bigSep Finset.univ fun s => t c s)
    (hO : O = bigSep Finset.univ fun c => bigSep Finset.univ fun s => bigSep Finset.univ (o c s)) :
    iprop(A ∗ T ∗ O) = bigSep Finset.univ fun c => bigSep Finset.univ fun s => iprop(bigSep Finset.univ (a c s) ∗ t c s ∗ bigSep Finset.univ (o c s)) := by
  rw [hA, hT, hO, ← bigSep_sep', ← bigSep_sep']
  refine bigSep_congr fun c _ => ?_
  rw [← bigSep_sep', ← bigSep_sep']

end Cert.Proof
-- ==== Proof.Calls.lean ====
/- The four gather calls: what each hands its tiles and takes back, its tiles' runs, and its arrays cut for them. -/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (ownSems0 ownBufs ownCells ownRefs mem_ownCells mem_ownRefs_of_owner)

variable {F : FTy → Type} [FloatOps F]

local notation "𝕄" => MT nD τ sig (HIx 4) (Elt F) ℕ UU ℕ

/-- What the gather calls start from: the table, each call's row numbers, and what its output held. -/
structure Cont (F : FTy → Type) where
  tab : Dev nD → S100096x128.Idx → Elt F .f32
  i0 : Dev nD → (SI 53248).Idx → Elt F .i32
  i1 : Dev nD → (SI 53248).Idx → Elt F .i32
  i2 : Dev nD → (SI 53248).Idx → Elt F .i32
  i3 : Dev nD → (SI 45056).Idx → Elt F .i32
  o0 : Dev nD → (SO 53248).Idx → Elt F .f32
  o1 : Dev nD → (SO 53248).Idx → Elt F .f32
  o2 : Dev nD → (SO 53248).Idx → Elt F .f32
  o3 : Dev nD → (SO 45056).Idx → Elt F .f32

/-- Every row number names a row of the table. -/
structure Cont.Ok (X : Cont F) : Prop where
  i0 : ∀ d j, (X.i0 d j : BitVec 32).toNat < 100096
  i1 : ∀ d j, (X.i1 d j : BitVec 32).toNat < 100096
  i2 : ∀ d j, (X.i2 d j : BitVec 32).toNat < 100096
  i3 : ∀ d j, (X.i3 d j : BitVec 32).toNat < 100096

theorem hn13 : 53248 = 128 * (13 * 32) := rfl
theorem hn11 : 45056 = 128 * (11 * 32) := rfl

/-- What a tile of call `q` is handed. -/
def goQ (X : Cont F) (q : Fin 4) (d : Dev nD) (cc : Fin τ.nSC) (ss : Fin τ.nSub) : sProp 𝕄 :=
  match q with
  | 0 => goOf (Memref.whole main_v6_scv) (Memref.whole main_v7_scv) (Memref.whole main_v8_scv) (Memref.whole cc1_scoped0) cc1_scoped1 (Memref.whole cc1_scoped2) cc1_scoped3 cc1_scoped4 13 hn13 d cc ss (X.i0 d) (X.o0 d) (X.tab d)
  | 1 => goOf (Memref.whole main_v6_scv) (Memref.whole main_v10_scv) (Memref.whole main_v11_scv) (Memref.whole cc2_scoped0) cc2_scoped1 (Memref.whole cc2_scoped2) cc2_scoped3 cc2_scoped4 13 hn13 d cc ss (X.i1 d) (X.o1 d) (X.tab d)
  | 2 => goOf (Memref.whole main_v6_scv) (Memref.whole main_v13_scv) (Memref.whole main_v14_scv) (Memref.whole cc3_scoped0) cc3_scoped1 (Memref.whole cc3_scoped2) cc3_scoped3 cc3_scoped4 13 hn13 d cc ss (X.i2 d) (X.o2 d) (X.tab d)
  | 3 => goOf (Memref.whole main_v6_scv) (Memref.whole main_v16_scv) (Memref.whole main_v17_scv) (Memref.whole cc4_scoped0) cc4_scoped1 (Memref.whole cc4_scoped2) cc4_scoped3 cc4_scoped4 11 hn11 d cc ss (X.i3 d) (X.o3 d) (X.tab d)

/-- What a tile of call `q` brings back. -/
def tdQ (X : Cont F) (q : Fin 4) (d : Dev nD) (cc : Fin τ.nSC) (ss : Fin τ.nSub) : sProp 𝕄 :=
  match q with
  | 0 => tdOf (Memref.whole main_v6_scv) (Memref.whole main_v7_scv) (Memref.whole main_v8_scv) (Memref.whole cc1_scoped0) cc1_scoped1 (Memref.whole cc1_scoped2) cc1_scoped3 cc1_scoped4 13 hn13 d cc ss (X.i0 d) (X.o0 d) (X.tab d)
  | 1 => tdOf (Memref.whole main_v6_scv) (Memref.whole main_v10_scv) (Memref.whole main_v11_scv) (Memref.whole cc2_scoped0) cc2_scoped1 (Memref.whole cc2_scoped2) cc2_scoped3 cc2_scoped4 13 hn13 d cc ss (X.i1 d) (X.o1 d) (X.tab d)
  | 2 => tdOf (Memref.whole main_v6_scv) (Memref.whole main_v13_scv) (Memref.whole main_v14_scv) (Memref.whole cc3_scoped0) cc3_scoped1 (Memref.whole cc3_scoped2) cc3_scoped3 cc3_scoped4 13 hn13 d cc ss (X.i2 d) (X.o2 d) (X.tab d)
  | 3 => tdOf (Memref.whole main_v6_scv) (Memref.whole main_v16_scv) (Memref.whole main_v17_scv) (Memref.whole cc4_scoped0) cc4_scoped1 (Memref.whole cc4_scoped2) cc4_scoped3 cc4_scoped4 11 hn11 d cc ss (X.i3 d) (X.o3 d) (X.tab d)

instance goQ_storable (X : Cont F) (q : Fin 4) (d : Dev nD) (cc : Fin τ.nSC) (ss : Fin τ.nSub) : BI.Storable (upEmb : UEmb _ 𝕄) (goQ X q d cc ss) := by
  unfold goQ; split <;> exact goOf_storable ..
instance tdQ_storable (X : Cont F) (q : Fin 4) (d : Dev nD) (cc : Fin τ.nSC) (ss : Fin τ.nSub) : BI.Storable (upEmb : UEmb _ 𝕄) (tdQ X q d cc ss) := by
  unfold tdQ; split <;> exact tdOf_storable ..

/-- What the handshakes carry: a call to its SparseCores and back, and a SparseCore to its tiles and back. -/
def P (X : Cont F) : (K (F := F)).Pay (nD := nD) (Val := Elt F) (Name := ℕ) (U := UU) where
  st := fun q d c => bigSep Finset.univ fun i : Fin ((K (F := F)).nSub q) => goQ X q d ((K (F := F)).core q c) ((K (F := F)).sub q i)
  dn := fun q d c => bigSep Finset.univ fun i : Fin ((K (F := F)).nSub q) => tdQ X q d ((K (F := F)).core q c) ((K (F := F)).sub q i)
  go := fun q d c i => goQ X q d ((K (F := F)).core q c) ((K (F := F)).sub q i)
  td := fun q d c i => tdQ X q d ((K (F := F)).core q c) ((K (F := F)).sub q i)
  x := fun _ _ => iprop(emp)

instance P_storable (X : Cont F) : (P X).IsStorable where
  st q d c := (inferInstance : BI.Storable (upEmb : UEmb _ 𝕄) (bigSep Finset.univ fun i : Fin ((K (F := F)).nSub q) => goQ X q d ((K (F := F)).core q c) ((K (F := F)).sub q i)))
  dn q d c := (inferInstance : BI.Storable (upEmb : UEmb _ 𝕄) (bigSep Finset.univ fun i : Fin ((K (F := F)).nSub q) => tdQ X q d ((K (F := F)).core q c) ((K (F := F)).sub q i)))
  go q d c i := goQ_storable X q d _ _
  td q d c i := tdQ_storable X q d _ _

/-- A SparseCore hands its tiles all it was handed, and brings back all they bring. -/
theorem vecSplit (X : Cont F) (q : Fin 4) : (K (F := F)).VecSplit' (P X) q := by
  intro d c
  change (P X).st q d c ⊢ |={Set.univ}=> iprop((P X).st q d c ∗ ((P X).dn q d c -∗ (P X).dn q d c))
  iintro H
  imodintro
  isplitl [H]; · iexact H
  iintro H; iexact H

/-! ## The tiles' runs -/

section
variable (tb : Memref sig .scVector .hbm S100096x128 .f32) (htb : tb.IsWhole)
  (al : Memref sig .scVector .vmem S2x1x128 .i32) (hal : al.IsWhole) (sI : DmaSems sig S2)
  (ao : Memref sig .scVector .vmem S2x128x128 .f32) (hao : ao.IsWhole) (sO : DmaSems sig S2) (sG : DmaSems sig S_) (d : Dev nD)
  (O : CellTallies nD τ sig (HIx 4)) (W : Waits sig (HIx 4)) (hO : ∀ g, O g none = 0)

include hO in
/-- A tile of one of the first three calls. -/
theorem tile13 (i : grid1.Coords) (ids : Memref sig .scVector .hbm (SI 53248) .i32) (hids : ids.IsWhole) (out : Memref sig .scVector .hbm (SO 53248) .f32) (hout : out.IsWhole)
    (fI : Buf (Elt F) (ids.view.loc (V d (C1.core i) (C1.sub i)))) (f4 : Buf (Elt F) (out.view.loc (V d (C1.core i) (C1.sub i)))) (fT : Buf (Elt F) (tb.view.loc (V d (C1.core i) (C1.sub i))))
    (hid : ∀ j, (ids.view.read (Elt F) fI j : BitVec 32).toNat < 100096)
    (hfree : (iprop(scopedBufs (V d (C1.core i) (C1.sub i)) ∗ scopedSems0 (V d (C1.core i) (C1.sub i))) : sProp 𝕄)
      ⊢ iprop((ring tb ids out al sI ao sO sG 13 hn13 (C1.core i) (C1.sub i)).free (F := F) d (C1.core i) (C1.sub i)
          ∗ ((ring tb ids out al sI ao sO sG 13 hn13 (C1.core i) (C1.sub i)).free (F := F) d (C1.core i) (C1.sub i) -∗ scopedBufs (V d (C1.core i) (C1.sub i)) ∗ scopedSems0 (V d (C1.core i) (C1.sub i))))) :
    iprop(levAts (K (F := F)).L (K (F := F)).lev ∗ emp ∗ goOf tb ids out al sI ao sO sG 13 hn13 d (C1.core i) (C1.sub i) fI f4 fT
        ∗ scopedBufs (V d (C1.core i) (C1.sub i)) ∗ scopedSems0 (V d (C1.core i) (C1.sub i)) ∗ owes (V d (C1.core i) (C1.sub i)) O W)
      ⊢ wp frame (wpE (defs₀ (F := F)) 𝒱₀ (V d (C1.core i) (C1.sub i)) none) Set.univ (cc1_gather_kernel i tb htb ids hids out hout al hal sI ao hao sO sG)
          fun _ => iprop(tdOf tb ids out al sI ao sO sG 13 hn13 d (C1.core i) (C1.sub i) fI f4 fT
        ∗ scopedBufs (V d (C1.core i) (C1.sub i)) ∗ scopedSems0 (V d (C1.core i) (C1.sub i)) ∗ ∃ W', ⌜∀ p ∈ W', p ∈ W ∨ p.2 = none⌝ ∗ owes (V d (C1.core i) (C1.sub i)) O W') :=
  tile_run tb ids out al sI ao sO sG 13 hn13 d (C1.core i) (C1.sub i) fI f4 fT hid _ hfree O W hO
    (C1.wp_kernel i tb htb ids hids out hout al hal sI ao hao sO sG d (fun _ => fI) (fun _ => f4) fT (shareOf (C1.core i) (C1.sub i)) _ O W)

include hO in
/-- A tile of the last call. -/
theorem tile11 (i : grid4.Coords) (ids : Memref sig .scVector .hbm (SI 45056) .i32) (hids : ids.IsWhole) (out : Memref sig .scVector .hbm (SO 45056) .f32) (hout : out.IsWhole)
    (fI : Buf (Elt F) (ids.view.loc (V d (C4.core i) (C4.sub i)))) (f4 : Buf (Elt F) (out.view.loc (V d (C4.core i) (C4.sub i)))) (fT : Buf (Elt F) (tb.view.loc (V d (C4.core i) (C4.sub i))))
    (hid : ∀ j, (ids.view.read (Elt F) fI j : BitVec 32).toNat < 100096)
    (hfree : (iprop(scopedBufs (V d (C4.core i) (C4.sub i)) ∗ scopedSems0 (V d (C4.core i) (C4.sub i))) : sProp 𝕄)
      ⊢ iprop((ring tb ids out al sI ao sO sG 11 hn11 (C4.core i) (C4.sub i)).free (F := F) d (C4.core i) (C4.sub i)
          ∗ ((ring tb ids out al sI ao sO sG 11 hn11 (C4.core i) (C4.sub i)).free (F := F) d (C4.core i) (C4.sub i) -∗ scopedBufs (V d (C4.core i) (C4.sub i)) ∗ scopedSems0 (V d (C4.core i) (C4.sub i))))) :
    iprop(levAts (K (F := F)).L (K (F := F)).lev ∗ emp ∗ goOf tb ids out al sI ao sO sG 11 hn11 d (C4.core i) (C4.sub i) fI f4 fT
        ∗ scopedBufs (V d (C4.core i) (C4.sub i)) ∗ scopedSems0 (V d (C4.core i) (C4.sub i)) ∗ owes (V d (C4.core i) (C4.sub i)) O W)
      ⊢ wp frame (wpE (defs₀ (F := F)) 𝒱₀ (V d (C4.core i) (C4.sub i)) none) Set.univ (cc4_gather_kernel i tb htb ids hids out hout al hal sI ao hao sO sG)
          fun _ => iprop(tdOf tb ids out al sI ao sO sG 11 hn11 d (C4.core i) (C4.sub i) fI f4 fT
        ∗ scopedBufs (V d (C4.core i) (C4.sub i)) ∗ scopedSems0 (V d (C4.core i) (C4.sub i)) ∗ ∃ W', ⌜∀ p ∈ W', p ∈ W ∨ p.2 = none⌝ ∗ owes (V d (C4.core i) (C4.sub i)) O W') :=
  tile_run tb ids out al sI ao sO sG 11 hn11 d (C4.core i) (C4.sub i) fI f4 fT hid _ hfree O W hO
    (C4.wp_kernel i tb htb ids hids out hout al hal sI ao hao sO sG d (fun _ => fI) (fun _ => f4) fT (shareOf (C4.core i) (C4.sub i)) _ O W)
end

/-- A tile's recorded waits, as the launch counts them. -/
theorem post_weaken {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr [HO]
  · ipureintro; exact fun p hp => (h p hp).imp_right Or.inl
  iexact HO

/-- A tile's coordinates. -/
def at1 (c : Fin (grid1.bound 0)) (s : Fin (grid1.bound 1)) : grid1.Coords :=
  fun | 0 => c | 1 => s | ⟨_ + 2, h⟩ => absurd h (Nat.not_lt.2 (Nat.le_add_left _ _))
def at4 (c : Fin (grid4.bound 0)) (s : Fin (grid4.bound 1)) : grid4.Coords :=
  fun | 0 => c | 1 => s | ⟨_ + 2, h⟩ => absurd h (Nat.not_lt.2 (Nat.le_add_left _ _))

variable (X : Cont F)

/-- Call `0`'s tiles. -/
theorem tileObl0 (ok : X.Ok) : (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 1 ()
    = SparseCore.onTile hcore1 hsub1 (fun c s => cc1_gather_kernel (at1 c s) (Memref.whole main_v6_scv) (Memref.isWhole_whole _) (Memref.whole main_v7_scv) (Memref.isWhole_whole _) (Memref.whole main_v8_scv) (Memref.isWhole_whole _) (Memref.whole cc1_scoped0) (Memref.isWhole_whole _) cc1_scoped1 (Memref.whole cc1_scoped2) (Memref.isWhole_whole _) cc1_scoped3 cc1_scoped4) ⟨⟩ ((K (F := F)).core 0 c) ((K (F := F)).sub 0 i) from rfl]
  simp only [SparseCore.onTile, hci, and_self, ↓reduceDIte]
  exact (tile13 (F := F) (Memref.whole main_v6_scv) (Memref.isWhole_whole _) (Memref.whole cc1_scoped0) (Memref.isWhole_whole _) cc1_scoped1 (Memref.whole cc1_scoped2) (Memref.isWhole_whole _) cc1_scoped3 cc1_scoped4
    d O W hO (at1 ⟨_, hci.1⟩ ⟨_, hci.2⟩) (Memref.whole main_v7_scv) (Memref.isWhole_whole _) (Memref.whole main_v8_scv) (Memref.isWhole_whole _) (X.i0 d) (X.o0 d) (X.tab d) (ok.i0 d)
    (scratch_free (Memref.whole main_v6_scv) (Memref.whole main_v7_scv) (Memref.whole main_v8_scv) (Memref.whole cc1_scoped0) cc1_scoped1 (Memref.whole cc1_scoped2) cc1_scoped3 cc1_scoped4 13 hn13 d _ _ cc1_scoped0 cc1_scoped2 (by decide) rfl rfl (by decide) (by decide)
      (by rw [Memref.view_whole, View.set_whole]) (by rw [Memref.view_whole, View.set_whole]))).trans (wp_mono frame _ _ fun _ => post_weaken)

/-- Call `1`'s tiles. -/
theorem tileObl1 (ok : X.Ok) : (K (F := F)).TileObl (D (F := F)) 𝒱 (P X) v₀ 1 := by
  intro d c i O W hO _ _
  simp only [show (P X).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [show defs₀ (F := F) (.scVector ((K (F := F)).core 1 c) ((K (F := F)).sub 1 i)) 2 ()
    = SparseCore.onTile hcore2 hsub2 (fun c s => cc2_gather_kernel (at1 c s) (Memref.whole main_v6_scv) (Memref.isWhole_whole _) (Memref.whole main_v10_scv) (Memref.isWhole_whole _) (Memref.whole main_v11_scv) (Memref.isWhole_whole _) (Memref.whole cc2_scoped0) (Memref.isWhole_whole _) cc2_scoped1 (Memref.whole cc2_scoped2) (Memref.isWhole_whole _) cc2_scoped3 cc2_scoped4) ⟨⟩ ((K (F := F)).core 1 c) ((K (F := F)).sub 1 i) from rfl]
  simp only [SparseCore.onTile, hci, and_self, ↓reduceDIte]
  exact (tile13 (F := F) (Memref.whole main_v6_scv) (Memref.isWhole_whole _) (Memref.whole cc2_scoped0) (Memref.isWhole_whole _) cc2_scoped1 (Memref.whole cc2_scoped2) (Memref.isWhole_whole _) cc2_scoped3 cc2_scoped4
    d O W hO (at1 ⟨_, hci.1⟩ ⟨_, hci.2⟩) (Memref.whole main_v10_scv) (Memref.isWhole_whole _) (Memref.whole main_v11_scv) (Memref.isWhole_whole _) (X.i1 d) (X.o1 d) (X.tab d) (ok.i1 d)
    (scratch_free (Memref.whole main_v6_scv) (Memref.whole main_v10_scv) (Memref.whole main_v11_scv) (Memref.whole cc2_scoped0) cc2_scoped1 (Memref.whole cc2_scoped2) cc2_scoped3 cc2_scoped4 13 hn13 d _ _ cc2_scoped0 cc2_scoped2 (by decide) rfl rfl (by decide) (by decide)
      (by rw [Memref.view_whole, View.set_whole]) (by rw [Memref.view_whole, View.set_whole]))).trans (wp_mono frame _ _ fun _ => post_weaken)

/-- Call `2`'s tiles. -/
theorem tileObl2 (ok : X.Ok) : (K (F := F)).TileObl (D (F := F)) 𝒱 (P X) v₀ 2 := by
  intro d c i O W hO _ _
  simp only [show (P X).ox = fun _ _ => 0 from rfl, add_zero]
  have hci : ((K (F := F)).core 2 c).val < grid3.bound 0 ∧ ((K (F := F)).sub 2 i).val < grid3.bound 1 := ⟨c.isLt, i.isLt⟩
  change _ ⊢ wp _ _ _ (Pipeline.liftProg (defs₀ (F := F) (.scVector ((K (F := F)).core 2 c) ((K (F := F)).sub 2 i)) 3 ())) _
  refine BI.Entails.trans ?_ (Pipeline.wp_liftProg (D (F := F)) (Pipeline.defs_kernel pcfgs defs₀) 𝒱₀ _ Set.univ none _ _)
  rw [show defs₀ (F := F) (.scVector ((K (F := F)).core 2 c) ((K (F := F)).sub 2 i)) 3 ()
    = SparseCore.onTile hcore3 hsub3 (fun c s => cc3_gather_kernel (at1 c s) (Memref.whole main_v6_scv) (Memref.isWhole_whole _) (Memref.whole main_v13_scv) (Memref.isWhole_whole _) (Memref.whole main_v14_scv) (Memref.isWhole_whole _) (Memref.whole cc3_scoped0) (Memref.isWhole_whole _) cc3_scoped1 (Memref.whole cc3_scoped2) (Memref.isWhole_whole _) cc3_scoped3 cc3_scoped4) ⟨⟩ ((K (F := F)).core 2 c) ((K (F := F)).sub 2 i) from rfl]
  simp only [SparseCore.onTile, hci, and_self, ↓reduceDIte]
  exact (tile13 (F := F) (Memref.whole main_v6_scv) (Memref.isWhole_whole _) (Memref.whole cc3_scoped0) (Memref.isWhole_whole _) cc3_scoped1 (Memref.whole cc3_scoped2) (Memref.isWhole_whole _) cc3_scoped3 cc3_scoped4
    d O W hO (at1 ⟨_, hci.1⟩ ⟨_, hci.2⟩) (Memref.whole main_v13_scv) (Memref.isWhole_whole _) (Memref.whole main_v14_scv) (Memref.isWhole_whole _) (X.i2 d) (X.o2 d) (X.tab d) (ok.i2 d)
    (scratch_free (Memref.whole main_v6_scv) (Memref.whole main_v13_scv) (Memref.whole main_v14_scv) (Memref.whole cc3_scoped0) cc3_scoped1 (Memref.whole cc3_scoped2) cc3_scoped3 cc3_scoped4 13 hn13 d _ _ cc3_scoped0 cc3_scoped2 (by decide) rfl rfl (by decide) (by decide)
      (by rw [Memref.view_whole, View.set_whole]) (by rw [Memref.view_whole, View.set_whole]))).trans (wp_mono frame _ _ fun _ => post_weaken)

/-- Call `3`'s tiles. -/
theorem tileObl3 (ok : X.Ok) : (K (F := F)).TileObl (D (F := F)) 𝒱 (P X) v₀ 3 := by
  intro d c i O W hO _ _
  simp only [show (P X).ox = fun _ _ => 0 from rfl, add_zero]
  have hci : ((K (F := F)).core 3 c).val < grid4.bound 0 ∧ ((K (F := F)).sub 3 i).val < grid4.bound 1 := ⟨c.isLt, i.isLt⟩
  change _ ⊢ wp _ _ _ (Pipeline.liftProg (defs₀ (F := F) (.scVector ((K (F := F)).core 3 c) ((K (F := F)).sub 3 i)) 4 ())) _
  refine BI.Entails.trans ?_ (Pipeline.wp_liftProg (D (F := F)) (Pipeline.defs_kernel pcfgs defs₀) 𝒱₀ _ Set.univ none _ _)
  rw [show defs₀ (F := F) (.scVector ((K (F := F)).core 3 c) ((K (F := F)).sub 3 i)) 4 ()
    = SparseCore.onTile hcore4 hsub4 (fun c s => cc4_gather_kernel (at4 c s) (Memref.whole main_v6_scv) (Memref.isWhole_whole _) (Memref.whole main_v16_scv) (Memref.isWhole_whole _) (Memref.whole main_v17_scv) (Memref.isWhole_whole _) (Memref.whole cc4_scoped0) (Memref.isWhole_whole _) cc4_scoped1 (Memref.whole cc4_scoped2) (Memref.isWhole_whole _) cc4_scoped3 cc4_scoped4) ⟨⟩ ((K (F := F)).core 3 c) ((K (F := F)).sub 3 i) from rfl]
  simp only [SparseCore.onTile, hci, and_self, ↓reduceDIte]
  exact (tile11 (F := F) (Memref.whole main_v6_scv) (Memref.isWhole_whole _) (Memref.whole cc4_scoped0) (Memref.isWhole_whole _) cc4_scoped1 (Memref.whole cc4_scoped2) (Memref.isWhole_whole _) cc4_scoped3 cc4_scoped4
    d O W hO (at4 ⟨_, hci.1⟩ ⟨_, hci.2⟩) (Memref.whole main_v16_scv) (Memref.isWhole_whole _) (Memref.whole main_v17_scv) (Memref.isWhole_whole _) (X.i3 d) (X.o3 d) (X.tab d) (ok.i3 d)
    (scratch_free (Memref.whole main_v6_scv) (Memref.whole main_v16_scv) (Memref.whole main_v17_scv) (Memref.whole cc4_scoped0) cc4_scoped1 (Memref.whole cc4_scoped2) cc4_scoped3 cc4_scoped4 11 hn11 d _ _ cc4_scoped0 cc4_scoped2 (by decide) rfl rfl (by decide) (by decide)
      (by rw [Memref.view_whole, View.set_whole]) (by rw [Memref.view_whole, View.set_whole]))).trans (wp_mono frame _ _ fun _ => post_weaken)

end Cert.Proof
-- ==== Proof.Whole.lean ====
/- The gather calls' arrays, whole, are their tiles' parts. -/
module

public import proofs.«01_k».proof.Proof.Calls

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (ownSems0 ownBufs ownCells ownRefs mem_ownCells mem_ownRefs_of_owner)

variable {F : FTy → Type} [FloatOps F]

local notation "𝕄" => MT nD τ sig (HIx 4) (Elt F) ℕ UU ℕ

/-- A buffer of the TensorCore's. -/
abbrev tcLoc (d : Dev nD) (b : Ref sig .tc) : Loc nD τ sig := (SparseCore.T d).loc b

/-! ## The arrays cut and joined -/

/-- The table's slice is all of it. -/
theorem all_rows : (Rect.unit (s := S100096x128) ![0, 0] S100096x128.size inb_S100096x128_S100096x128_0_0).set = Finset.univ :=
  Finset.eq_univ_of_forall fun i => Rect.mem_set_unit.mpr (Fin.forall_fin_two.mpr
    ⟨⟨Nat.zero_le _, by rw [show (![0, 0] : Fin 2 → ℕ) 0 = 0 from rfl, Nat.zero_add]; exact (i 0).isLt⟩,
      ⟨Nat.zero_le _, by rw [show (![0, 0] : Fin 2 → ℕ) 1 = 0 from rfl, Nat.zero_add]; exact (i 1).isLt⟩⟩)

/-- The elements a gather's table slice goes through. -/
abbrev tableSet : Finset (Idx (tcLoc (0 : Dev nD) main_v6)) :=
  ((Memref.whole main_v6_scv : Memref sig .scVector .hbm S100096x128 .f32).slice (Rect.unit (s := S100096x128) ![0, 0] S100096x128.size inb_S100096x128_S100096x128_0_0) (fun _ => rfl)).view.set

theorem table_set : tableSet = Finset.univ := (Ring.set_slice_all (View.whole main_v6_scv) _ all_rows).trans (View.set_whole main_v6_scv)

/-- A whole buffer's elements are all there are. -/
theorem whole_set (b : Ref sig .scVector) : (Memref.whole b).view.set = Finset.univ := View.set_whole b

/-- Call 0's arrays are its tiles' parts of them. -/
theorem cut0 (d : Dev nD) (fI : (SI 53248).Idx → Elt F .i32) (fT : S100096x128.Idx → Elt F .f32) (f : (SO 53248).Idx → Elt F .f32) :
    (iprop((tcLoc d main_v7 ↦{fullShare} fI) ∗ (tcLoc d main_v6 ↦{fullShare} fT) ∗ (tcLoc d main_v8 ↦{fullShare} f)) : sProp 𝕄)
      = bigSep Finset.univ fun c : Fin ((K (F := F)).nCore 0) => bigSep Finset.univ fun i : Fin ((K (F := F)).nSub 0) =>
          goOf (Memref.whole main_v6_scv) (Memref.whole main_v7_scv) (Memref.whole main_v8_scv) (Memref.whole cc1_scoped0) cc1_scoped1 (Memref.whole cc1_scoped2) cc1_scoped3 cc1_scoped4 13 hn13 d ((K (F := F)).core 0 c) ((K (F := F)).sub 0 i) fI f fT := by
  have e1 := cut_blocks (F := F) (NB := 13) hn13 d 0 0 (Memref.whole main_v7_scv) fI
  have e2 := pointsTo_shares (F := F) (ℓ := tcLoc d main_v6) tableSet fT
  have e3 := cut_windows (F := F) (NB := 13) hn13 d 0 0 (Memref.whole main_v8_scv) f
  rw [whole_set] at e1 e3
  exact join3 e1 ((congrArg (fun I => (tcLoc d main_v6 ↦[I]{fullShare} fT : sProp 𝕄)) table_set.symm).trans e2) e3

/-- Call 1's arrays are its tiles' parts of them. -/
theorem cut1 (d : Dev nD) (fI : (SI 53248).Idx → Elt F .i32) (fT : S100096x128.Idx → Elt F .f32) (f : (SO 53248).Idx → Elt F .f32) :
    (iprop((tcLoc d main_v10 ↦{fullShare} fI) ∗ (tcLoc d main_v6 ↦{fullShare} fT) ∗ (tcLoc d main_v11 ↦{fullShare} f)) : sProp 𝕄)
      = bigSep Finset.univ fun c : Fin ((K (F := F)).nCore 1) => bigSep Finset.univ fun i : Fin ((K (F := F)).nSub 1) =>
          goOf (Memref.whole main_v6_scv) (Memref.whole main_v10_scv) (Memref.whole main_v11_scv) (Memref.whole cc2_scoped0) cc2_scoped1 (Memref.whole cc2_scoped2) cc2_scoped3 cc2_scoped4 13 hn13 d ((K (F := F)).core 1 c) ((K (F := F)).sub 1 i) fI f fT := by
  have e1 := cut_blocks (F := F) (NB := 13) hn13 d 0 0 (Memref.whole main_v10_scv) fI
  have e2 := pointsTo_shares (F := F) (ℓ := tcLoc d main_v6) tableSet fT
  have e3 := cut_windows (F := F) (NB := 13) hn13 d 0 0 (Memref.whole main_v11_scv) f
  rw [whole_set] at e1 e3
  exact join3 e1 ((congrArg (fun I => (tcLoc d main_v6 ↦[I]{fullShare} fT : sProp 𝕄)) table_set.symm).trans e2) e3

/-- Call 2's arrays are its tiles' parts of them. -/
theorem cut2 (d : Dev nD) (fI : (SI 53248).Idx → Elt F .i32) (fT : S100096x128.Idx → Elt F .f32) (f : (SO 53248).Idx → Elt F .f32) :
    (iprop((tcLoc d main_v13 ↦{fullShare} fI) ∗ (tcLoc d main_v6 ↦{fullShare} fT) ∗ (tcLoc d main_v14 ↦{fullShare} f)) : sProp 𝕄)
      = bigSep Finset.univ fun c : Fin ((K (F := F)).nCore 2) => bigSep Finset.univ fun i : Fin ((K (F := F)).nSub 2) =>
          goOf (Memref.whole main_v6_scv) (Memref.whole main_v13_scv) (Memref.whole main_v14_scv) (Memref.whole cc3_scoped0) cc3_scoped1 (Memref.whole cc3_scoped2) cc3_scoped3 cc3_scoped4 13 hn13 d ((K (F := F)).core 2 c) ((K (F := F)).sub 2 i) fI f fT := by
  have e1 := cut_blocks (F := F) (NB := 13) hn13 d 0 0 (Memref.whole main_v13_scv) fI
  have e2 := pointsTo_shares (F := F) (ℓ := tcLoc d main_v6) tableSet fT
  have e3 := cut_windows (F := F) (NB := 13) hn13 d 0 0 (Memref.whole main_v14_scv) f
  rw [whole_set] at e1 e3
  exact join3 e1 ((congrArg (fun I => (tcLoc d main_v6 ↦[I]{fullShare} fT : sProp 𝕄)) table_set.symm).trans e2) e3

/-- Call 3's arrays are its tiles' parts of them. -/
theorem cut3 (d : Dev nD) (fI : (SI 45056).Idx → Elt F .i32) (fT : S100096x128.Idx → Elt F .f32) (f : (SO 45056).Idx → Elt F .f32) :
    (iprop((tcLoc d main_v16 ↦{fullShare} fI) ∗ (tcLoc d main_v6 ↦{fullShare} fT) ∗ (tcLoc d main_v17 ↦{fullShare} f)) : sProp 𝕄)
      = bigSep Finset.univ fun c : Fin ((K (F := F)).nCore 3) => bigSep Finset.univ fun i : Fin ((K (F := F)).nSub 3) =>
          goOf (Memref.whole main_v6_scv) (Memref.whole main_v16_scv) (Memref.whole main_v17_scv) (Memref.whole cc4_scoped0) cc4_scoped1 (Memref.whole cc4_scoped2) cc4_scoped3 cc4_scoped4 11 hn11 d ((K (F := F)).core 3 c) ((K (F := F)).sub 3 i) fI f fT := by
  have e1 := cut_blocks (F := F) (NB := 11) hn11 d 0 0 (Memref.whole main_v16_scv) fI
  have e2 := pointsTo_shares (F := F) (ℓ := tcLoc d main_v6) tableSet fT
  have e3 := cut_windows (F := F) (NB := 11) hn11 d 0 0 (Memref.whole main_v17_scv) f
  rw [whole_set] at e1 e3
  exact join3 e1 ((congrArg (fun I => (tcLoc d main_v6 ↦[I]{fullShare} fT : sProp 𝕄)) table_set.symm).trans e2) e3

end Cert.Proof
-- ==== Proof.Steps.lean ====
/- The program's host operations and the buffers' contents after each of its steps; each kind of step's rule. -/
module

public import proofs.«01_k».proof.Proof.Sums
public import proofs.«01_k».proof.Proof.Whole

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.StableHlo (held)
open Idealize.ShloMosaic.Pipeline (Dat)

variable {F : FTy → Type} [FloatOps F] [∀ e, Nonempty (Elt F e)]

local notation "𝕄" => MT nD τ sig (HIx 4) (Elt F) ℕ UU ℕ

/-! ## The host operations -/

abbrev opTok : HloOp τ sig (Elt F) := StableHlo.unary main_arg0 main_v0 ((transpose S200x64x1024 [1, 2, 0] · transposes_S1024x200x64_S200x64x1024_1_2_0) : (⟨S1024x200x64, .f32⟩ : BufTy).Contents (Elt F) → (⟨S200x64x1024, .f32⟩ : BufTy).Contents (Elt F))
abbrev opTopo : HloOp τ sig (Elt F) := StableHlo.unary main_arg2 main_v1 ((transpose S200x16x1024 [1, 2, 0] · transposes_S1024x200x16_S200x16x1024_1_2_0) : (⟨S1024x200x16, .f32⟩ : BufTy).Contents (Elt F) → (⟨S200x16x1024, .f32⟩ : BufTy).Contents (Elt F))
abbrev opIdsT : HloOp τ sig (Elt F) := StableHlo.unary main_arg1 main_v2 ((transpose S200x1024 [1, 0] · transposes_S1024x200_S200x1024_1_0) : (⟨S1024x200, .i32⟩ : BufTy).Contents (Elt F) → (⟨S200x1024, .i32⟩ : BufTy).Contents (Elt F))
abbrev opIds : HloOp τ sig (Elt F) := StableHlo.reshape main_v2 main_v3 (rfl : (.i32 : EltTy) = .i32) shapeCasts_S200x1024_S1x204800
abbrev opTabT : HloOp τ sig (Elt F) := StableHlo.unary main_arg3 main_v4 ((transpose S64x100000 [1, 0] · transposes_S100000x64_S64x100000_1_0) : (⟨S100000x64, .f32⟩ : BufTy).Contents (Elt F) → (⟨S64x100000, .f32⟩ : BufTy).Contents (Elt F))
abbrev opZero : HloOp τ sig (Elt F) := StableHlo.nullary main_c (constantI S_ 32 0#32)
abbrev opZeroF : HloOp τ sig (Elt F) := StableHlo.TRef.unary (.of main_c : StableHlo.TRef sig ⟨S_, .i32⟩) main_call0.v0 (sitofp .f32)
abbrev opPad : HloOp τ sig (Elt F) := StableHlo.TRef.binary (.of main_v4 : StableHlo.TRef sig ⟨S64x100000, .f32⟩) main_call0.v0 main_call0.v1 (fun x v => pad S64x100096 ![0, 0] ![0, 96] ![0, 0] x v pads_S64x100000_S64x100096_000_0960 h_S_)
abbrev opS0 : HloOp τ sig (Elt F) := StableHlo.unary main_v3 main_v7 ((extractStridedSlice S1x53248 ![0, 0] · slices_S1x204800_S1x53248_0_0) : (⟨S1x204800, .i32⟩ : BufTy).Contents (Elt F) → (⟨S1x53248, .i32⟩ : BufTy).Contents (Elt F))
abbrev opR0 : HloOp τ sig (Elt F) := StableHlo.reshape main_v8 main_v9 (rfl : (.f32 : EltTy) = .f32) shapeCasts_S53248x128_S52x1024x128
abbrev opS1 : HloOp τ sig (Elt F) := StableHlo.unary main_v3 main_v10 ((extractStridedSlice S1x53248 ![0, 53248] · slices_S1x204800_S1x53248_0_53248) : (⟨S1x204800, .i32⟩ : BufTy).Contents (Elt F) → (⟨S1x53248, .i32⟩ : BufTy).Contents (Elt F))
abbrev opR1 : HloOp τ sig (Elt F) := StableHlo.reshape main_v11 main_v12 (rfl : (.f32 : EltTy) = .f32) shapeCasts_S53248x128_S52x1024x128
abbrev opS2 : HloOp τ sig (Elt F) := StableHlo.unary main_v3 main_v13 ((extractStridedSlice S1x53248 ![0, 106496] · slices_S1x204800_S1x53248_0_106496) : (⟨S1x204800, .i32⟩ : BufTy).Contents (Elt F) → (⟨S1x53248, .i32⟩ : BufTy).Contents (Elt F))
abbrev opR2 : HloOp τ sig (Elt F) := StableHlo.reshape main_v14 main_v15 (rfl : (.f32 : EltTy) = .f32) shapeCasts_S53248x128_S52x1024x128
abbrev opS3 : HloOp τ sig (Elt F) := StableHlo.unary main_v3 main_v16 ((extractStridedSlice S1x45056 ![0, 159744] · slices_S1x204800_S1x45056_0_159744) : (⟨S1x204800, .i32⟩ : BufTy).Contents (Elt F) → (⟨S1x45056, .i32⟩ : BufTy).Contents (Elt F))
abbrev opR3 : HloOp τ sig (Elt F) := StableHlo.reshape main_v17 main_v18 (rfl : (.f32 : EltTy) = .f32) shapeCasts_S45056x128_S44x1024x128
abbrev opC1 : HloOp τ sig (Elt F) := StableHlo.unary main_v19 main_v20 id
abbrev opC2 : HloOp τ sig (Elt F) := StableHlo.unary main_v20 main_v21 id
abbrev opC3 : HloOp τ sig (Elt F) := StableHlo.unary main_v21 main_v22 id
abbrev opOut : HloOp τ sig (Elt F) := StableHlo.unary main_v22 main_v23 ((transpose S1024x200x64 [2, 0, 1] · transposes_S200x64x1024_S1024x200x64_2_0_1) : (⟨S200x64x1024, .f32⟩ : BufTy).Contents (Elt F) → (⟨S1024x200x64, .f32⟩ : BufTy).Contents (Elt F))

/-! ## The buffers' contents after each step -/

abbrev dr (b : Ref sig .tc) : DevRef τ sig := Proc.devRef .tc b

/-- After the operations before the table's call. -/
def A1 (W : Valuation τ sig (Elt F)) : Valuation τ sig (Elt F) :=
  opPad.result (opZeroF.result (opZero.result (opTabT.result (opIds.result (opIdsT.result (opTopo.result (opTok.result W)))))))
/-- After the table's call, and the first call's row numbers. -/
def A2 (W : Valuation τ sig (Elt F)) : Valuation τ sig (Elt F) := Pipeline.afterRegion (dats (fun _ => A1 W) 0 0) (A1 W)
def A3 (W : Valuation τ sig (Elt F)) : Valuation τ sig (Elt F) := opS0.result (A2 W)
/-- After each gather call, and up to the next. -/
def A4 (W : Valuation τ sig (Elt F)) : Valuation τ sig (Elt F) :=
  Function.update (A3 W) (dr main_v8) (rowsOf (n := 53248) (A3 W (dr main_v6)) (A3 W (dr main_v7)))
def A5 (W : Valuation τ sig (Elt F)) : Valuation τ sig (Elt F) := opS1.result (opR0.result (A4 W))
def A6 (W : Valuation τ sig (Elt F)) : Valuation τ sig (Elt F) :=
  Function.update (A5 W) (dr main_v11) (rowsOf (n := 53248) (A3 W (dr main_v6)) (A5 W (dr main_v10)))
def A7 (W : Valuation τ sig (Elt F)) : Valuation τ sig (Elt F) := opS2.result (opR1.result (A6 W))
def A8 (W : Valuation τ sig (Elt F)) : Valuation τ sig (Elt F) :=
  Function.update (A7 W) (dr main_v14) (rowsOf (n := 53248) (A3 W (dr main_v6)) (A7 W (dr main_v13)))
def A9 (W : Valuation τ sig (Elt F)) : Valuation τ sig (Elt F) := opS3.result (opR2.result (A8 W))
def A10 (W : Valuation τ sig (Elt F)) : Valuation τ sig (Elt F) :=
  Function.update (A9 W) (dr main_v17) (rowsOf (n := 45056) (A3 W (dr main_v6)) (A9 W (dr main_v16)))
def A11 (W : Valuation τ sig (Elt F)) : Valuation τ sig (Elt F) := opR3.result (A10 W)
/-- After each sum's call, and up to the next. -/
def A12 (W : Valuation τ sig (Elt F)) : Valuation τ sig (Elt F) := Pipeline.afterRegion (dats (fun _ => A11 W) 1 0) (A11 W)
def A13 (W : Valuation τ sig (Elt F)) : Valuation τ sig (Elt F) := opC1.result (A12 W)
def A14 (W : Valuation τ sig (Elt F)) : Valuation τ sig (Elt F) := Pipeline.afterRegion (dats (fun _ => A13 W) 2 0) (A13 W)
def A15 (W : Valuation τ sig (Elt F)) : Valuation τ sig (Elt F) := opC2.result (A14 W)
def A16 (W : Valuation τ sig (Elt F)) : Valuation τ sig (Elt F) := Pipeline.afterRegion (dats (fun _ => A15 W) 3 0) (A15 W)
def A17 (W : Valuation τ sig (Elt F)) : Valuation τ sig (Elt F) := opC3.result (A16 W)
def A18 (W : Valuation τ sig (Elt F)) : Valuation τ sig (Elt F) := Pipeline.afterRegion (dats (fun _ => A17 W) 4 0) (A17 W)
/-- At the end. -/
def A19 (W : Valuation τ sig (Elt F)) : Valuation τ sig (Elt F) := opOut.result (A18 W)

/-! ## The steps' rules -/

/-- A host operation over the unscoped buffers. -/
theorem host_run (op : HloOp τ sig (Elt F)) (hop : op.bufs ⊆ StableHlo.tcRefs τ sig) (hf : op.fresh = ∅) (V : Valuation τ sig (Elt F)) (d : Dev nD) (Q : PUnit → sProp 𝕄) :
    iprop(boundary (SparseCore.T d) ∗ held (SparseCore.T d) openRefs V
      ∗ ((boundary (SparseCore.T d) ∗ held (SparseCore.T d) openRefs (op.result V)) -∗ Q ⟨⟩))
    ⊢ wp frame (wpE ((K (F := F)).defs (D (F := F))) 𝒱 (SparseCore.T d) none) Set.univ (hlo rfl op (fun _ => .ret ⟨⟩)) Q := by
  have H := StableHlo.wp_hlo_within (defs := (K (F := F)).defs (D (F := F))) 𝒱 (SparseCore.T d) none Set.univ (hp := rfl) (op := op) (k := fun _ => .ret ⟨⟩) (S := openRefs) (op_open op hop) (V := V) (Q := Q) hf
  iintro ⟨Hb, Hh, Hk⟩
  iapply H $$ [Hb Hh]
  · isplitl [Hb] <;> iassumption
  iintro H'
  rw [wp_ret]
  imodintro
  iapply Hk; iexact H'

/-- A TensorCore call between the SparseCore's. -/
theorem call_run (X : Cont F) (κ : GSem nD τ sig → ℕ) {p : Fin 5} {n : ℕ} {V : Dev nD → Valuation τ sig (Elt F)} (fit : Fits (F := F) (dats V) p n V)
    (kit : Pipeline.PLaunchFacts (nD := nD) (τ := τ) (pcfgs (F := F)) p)
    (hS : Pipeline.arrRefs (τ := τ) (pcfgs (F := F) p).spec ⊆ openRefs) (d : Dev nD) (Q : PUnit → sProp 𝕄) :
    iprop((K (F := F)).ctx EH (P X) κ ∗ (Pipeline.cellsGhost (Pipeline.pin (pcfgs (F := F)) adm) EP p d ∗ Pipeline.toksInit (Pipeline.pin (pcfgs (F := F)) adm) EP p d)
      ∗ boundary (SparseCore.T d) ∗ held (SparseCore.T d) openRefs (V d) ∗ (K (F := F)).tcSt EH d n
      ∗ ((boundary (SparseCore.T d) ∗ held (SparseCore.T d) openRefs (Pipeline.afterRegion (dats V p d) (V d)) ∗ (K (F := F)).tcSt EH d n) -∗ Q ⟨⟩))
    ⊢ wp frame (wpE ((K (F := F)).defs (D (F := F))) 𝒱 (SparseCore.T d) none) Set.univ
          (Prog.lift (.customCall (SparseCore.inner (Pipeline.entry p)) ())) Q := by
  unfold SparseCore.Cfg.tcSt
  iintro ⟨#Hctx, ⟨Hg, Htk⟩, Hb, Hh, ⟨HO, Hrest⟩, Hk⟩
  ihave Hlev := ((K (F := F)).ctx_levAts κ) $$ Hctx
  iapply (region fit kit hS d)
  isplitl [Hk Hrest]
  · iintro ⟨Hb, Hh, HO⟩
    iapply Hk
    isplitl [Hb]; · iexact Hb
    isplitl [Hh]; · iexact Hh
    isplitl [HO]; · iexact HO
    iexact Hrest
  isplitl [Hb]; · iexact Hb
  isplitl [Hh HO]
  · isplitl [Hh]; · iexact Hh
    iexact HO
  isplitl [Hlev]; · iexact Hlev
  isplitl [Hg]; · iexact Hg
  iexact Htk

omit [∀ e, Nonempty (Elt F e)] in
/-- Three unscoped buffers taken out of them all. -/
theorem held_three (d : Dev nD) (V : Valuation τ sig (Elt F)) (bi bt bo : Ref sig .tc)
    (h : ({dr bi, dr bt, dr bo} : Finset (DevRef τ sig)) ⊆ openRefs) (h1 : dr bi ≠ dr bt) (h2 : dr bi ≠ dr bo) (h3 : dr bt ≠ dr bo) :
    (held (SparseCore.T d) openRefs V : sProp 𝕄)
      = iprop(((tcLoc d bi ↦{fullShare} V (dr bi)) ∗ (tcLoc d bt ↦{fullShare} V (dr bt)) ∗ (tcLoc d bo ↦{fullShare} V (dr bo)))
          ∗ held (SparseCore.T d) (openRefs \ {dr bi, dr bt, dr bo}) V) := by
  rw [StableHlo.held_sub_split (SparseCore.T d) h V]
  congr 1
  unfold held
  rw [SparseCore.bigSep_insert' (by simp [h1, h2]), SparseCore.bigSep_insert' (by simp [h3]), bigSep_singleton]

/-- A gather call, from the unscoped buffers. -/
theorem gather_run (X : Cont F) (κ : GSem nD τ sig → ℕ) (q : Fin 4) (d : Dev nD) (V : Valuation τ sig (Elt F)) (bi bt bo : Ref sig .tc)
    (h : ({dr bi, dr bt, dr bo} : Finset (DevRef τ sig)) ⊆ openRefs) (h1 : dr bi ≠ dr bt) (h2 : dr bi ≠ dr bo) (h3 : dr bt ≠ dr bo)
    (out : Buf (Elt F) (tcLoc d bo))
    (hst : (iprop((tcLoc d bi ↦{fullShare} V (dr bi)) ∗ (tcLoc d bt ↦{fullShare} V (dr bt)) ∗ (tcLoc d bo ↦{fullShare} V (dr bo))) : sProp 𝕄)
      = bigSep Finset.univ fun c : Fin ((K (F := F)).nCore q) => (P X).st q d c)
    (hdn : (iprop((tcLoc d bi ↦{fullShare} V (dr bi)) ∗ (tcLoc d bt ↦{fullShare} V (dr bt)) ∗ (tcLoc d bo ↦{fullShare} out)) : sProp 𝕄)
      = bigSep Finset.univ fun c : Fin ((K (F := F)).nCore q) => (P X).dn q d c) (Q : PUnit → sProp 𝕄) :
    iprop((K (F := F)).ctx EH (P X) κ ∗ held (SparseCore.T d) openRefs V ∗ (K (F := F)).tcSt EH d q.val
      ∗ ((held (SparseCore.T d) openRefs (Function.update V (dr bo) out) ∗ (K (F := F)).tcSt EH d (q.val + 1)) -∗ Q ⟨⟩))
    ⊢ wp frame (wpE ((K (F := F)).defs (D (F := F))) 𝒱 (SparseCore.T d) none) Set.univ ((K (F := F)).run d q) Q := by
  have e : (held (SparseCore.T d) (openRefs \ {dr bi, dr bt, dr bo}) (Function.update V (dr bo) out) : sProp 𝕄)
      = held (SparseCore.T d) (openRefs \ {dr bi, dr bt, dr bo}) V :=
    StableHlo.held_congr (SparseCore.T d) fun b hb => Function.update_of_ne (fun hbo => (Finset.mem_sdiff.mp hb).2 (by rw [hbo]; simp)) _ _
  rw [held_three d V bi bt bo h h1 h2 h3, held_three d (Function.update V (dr bo) out) bi bt bo h h1 h2 h3, e,
    Function.update_of_ne h2, Function.update_of_ne h3, Function.update_self, hst, hdn]
  iintro ⟨#Hctx, ⟨Hst, Hrest⟩, Htc, Hk⟩
  iapply ((K (F := F)).wp_run (D (F := F)) 𝒱 (EH := EH) (P := P X) κ d q)
  isplitr; · iexact Hctx
  isplitl [Htc]; · iexact Htc
  isplitl [Hst]; · iexact Hst
  iintro ⟨Htc, Hdn⟩
  iapply Hk
  isplitl [Hdn Hrest]
  · isplitl [Hdn]; · iexact Hdn
    iexact Hrest
  iexact Htc

end Cert.Proof
-- ==== Proof.Main.lean ====
/- The program's run on each device's TensorCore: every step by its rule, the buffers' contents followed through. -/
module

public import proofs.«01_k».proof.Proof.Steps

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.StableHlo (held)
open Idealize.ShloMosaic.Pipeline (Dat)

variable {F : FTy → Type} [FloatOps F] [∀ e, Nonempty (Elt F e)]

local notation "𝕄" => MT nD τ sig (HIx 4) (Elt F) ℕ UU ℕ

/-- Distinct buffers are distinct on a device. -/
theorem dr_ne {a b : Ref sig .tc} (h : a ≠ b) : dr a ≠ dr b := StableHlo.devRef_ne_of_ne h

omit [FloatOps F] [∀ e, Nonempty (Elt F e)] in
/-- An operation leaves every buffer but its result's. -/
theorem op_keeps (op : HloOp τ sig (Elt F)) {b y : Ref sig .tc} (hw : op.writes = {dr y}) (h : b ≠ y) (V : Valuation τ sig (Elt F)) :
    op.result V (dr b) = V (dr b) :=
  op.result_of_not_mem _ (by rw [hw, Finset.mem_singleton]; exact dr_ne h)

/-- The table stays as its call leaves it up to the last gather call. -/
theorem tab5 (W : Valuation τ sig (Elt F)) : A5 W (dr main_v6) = A3 W (dr main_v6) := by
  unfold A5 A4
  rw [op_keeps opS1 (y := main_v10) rfl (by decide), op_keeps opR0 (y := main_v9) rfl (by decide), Function.update_of_ne (dr_ne (by decide))]
theorem tab7 (W : Valuation τ sig (Elt F)) : A7 W (dr main_v6) = A3 W (dr main_v6) := by
  unfold A7 A6
  rw [op_keeps opS2 (y := main_v13) rfl (by decide), op_keeps opR1 (y := main_v12) rfl (by decide), Function.update_of_ne (dr_ne (by decide)), tab5]
theorem tab9 (W : Valuation τ sig (Elt F)) : A9 W (dr main_v6) = A3 W (dr main_v6) := by
  unfold A9 A8
  rw [op_keeps opS3 (y := main_v16) rfl (by decide), op_keeps opR2 (y := main_v15) rfl (by decide), Function.update_of_ne (dr_ne (by decide)), tab7]

/-- What the gather calls start from, on devices whose buffers hold `W` at the launch. -/
def contOf (W : Dev nD → Valuation τ sig (Elt F)) : Cont F where
  tab d := A3 (W d) (dr main_v6)
  i0 d := A3 (W d) (dr main_v7)
  i1 d := A5 (W d) (dr main_v10)
  i2 d := A7 (W d) (dr main_v13)
  i3 d := A9 (W d) (dr main_v16)
  o0 d := A3 (W d) (dr main_v8)
  o1 d := A5 (W d) (dr main_v11)
  o2 d := A7 (W d) (dr main_v14)
  o3 d := A9 (W d) (dr main_v17)

/-- The pipelines' ghost state of a device. -/
def G (d : Dev nD) : sProp 𝕄 :=
  iprop((bigSep Finset.univ fun p : Fin 5 => Pipeline.cellsGhost (Pipeline.pin (pcfgs (F := F)) adm) EP p d)
    ∗ bigSep Finset.univ fun p : Fin 5 => Pipeline.toksInit (Pipeline.pin (pcfgs (F := F)) adm) EP p d)

variable (W : Dev nD → Valuation τ sig (Elt F))

attribute [local irreducible] A1 A2 A3 A5 A7 A9 A11 A12 A13 A14 A15 A16 A17 A18 A19

/-- What a call's SparseCores are handed, and what they bring back, tile by tile. -/
theorem st_eq (X : Cont F) (q : Fin 4) (d : Dev nD) : (bigSep Finset.univ fun c : Fin ((K (F := F)).nCore q) => (P X).st q d c)
    = bigSep Finset.univ fun c : Fin ((K (F := F)).nCore q) => bigSep Finset.univ fun i : Fin ((K (F := F)).nSub q) => goQ X q d ((K (F := F)).core q c) ((K (F := F)).sub q i) := by
  dsimp only [P]
theorem dn_eq (X : Cont F) (q : Fin 4) (d : Dev nD) : (bigSep Finset.univ fun c : Fin ((K (F := F)).nCore q) => (P X).dn q d c)
    = bigSep Finset.univ fun c : Fin ((K (F := F)).nCore q) => bigSep Finset.univ fun i : Fin ((K (F := F)).nSub q) => tdQ X q d ((K (F := F)).core q c) ((K (F := F)).sub q i) := by
  dsimp only [P]

/-- Each gather call from the buffers' contents before it to those after. -/
theorem gather0 (κ : GSem nD τ sig → ℕ) (d : Dev nD) (Q : PUnit → sProp 𝕄) :
    iprop((K (F := F)).ctx EH (P (contOf W)) κ ∗ held (SparseCore.T d) openRefs (A3 (W d)) ∗ (K (F := F)).tcSt EH d 0
      ∗ ((held (SparseCore.T d) openRefs (A4 (W d)) ∗ (K (F := F)).tcSt EH d 1) -∗ Q ⟨⟩))
    ⊢ wp frame (wpE ((K (F := F)).defs (D (F := F))) 𝒱 (SparseCore.T d) none) Set.univ ((K (F := F)).run d 0) Q := by
  rw [A4]
  refine gather_run (contOf W) κ 0 d (A3 (W d)) main_v7 main_v6 main_v8 (by decide) (dr_ne (by decide)) (dr_ne (by decide)) (dr_ne (by decide))
    (rowsOf (n := 53248) (A3 (W d) (dr main_v6)) (A3 (W d) (dr main_v7))) ?_ ?_ Q
  · rw [st_eq, cut0]
    dsimp only [goQ, contOf]
  · rw [dn_eq, cut0]
    dsimp only [tdQ, tdOf, outOf, contOf]
    simp only [Memref.view_whole, View.read_whole]
    erw [View.write_whole_univ (Val := Elt F) main_v8_scv (A3 (W d) (dr main_v8)) (rowsOf (n := 53248) (A3 (W d) (dr main_v6)) (A3 (W d) (dr main_v7)))]

theorem gather1 (κ : GSem nD τ sig → ℕ) (d : Dev nD) (Q : PUnit → sProp 𝕄) :
    iprop((K (F := F)).ctx EH (P (contOf W)) κ ∗ held (SparseCore.T d) openRefs (A5 (W d)) ∗ (K (F := F)).tcSt EH d 1
      ∗ ((held (SparseCore.T d) openRefs (A6 (W d)) ∗ (K (F := F)).tcSt EH d 2) -∗ Q ⟨⟩))
    ⊢ wp frame (wpE ((K (F := F)).defs (D (F := F))) 𝒱 (SparseCore.T d) none) Set.univ ((K (F := F)).run d 1) Q := by
  rw [A6]
  refine gather_run (contOf W) κ 1 d (A5 (W d)) main_v10 main_v6 main_v11 (by decide) (dr_ne (by decide)) (dr_ne (by decide)) (dr_ne (by decide))
    (rowsOf (n := 53248) (A3 (W d) (dr main_v6)) (A5 (W d) (dr main_v10))) ?_ ?_ Q
  · rw [st_eq, tab5, cut1]
    dsimp only [goQ, contOf]
  · rw [dn_eq, tab5, cut1]
    dsimp only [tdQ, tdOf, outOf, contOf]
    simp only [Memref.view_whole, View.read_whole]
    erw [View.write_whole_univ (Val := Elt F) main_v11_scv (A5 (W d) (dr main_v11)) (rowsOf (n := 53248) (A3 (W d) (dr main_v6)) (A5 (W d) (dr main_v10)))]

theorem gather2 (κ : GSem nD τ sig → ℕ) (d : Dev nD) (Q : PUnit → sProp 𝕄) :
    iprop((K (F := F)).ctx EH (P (contOf W)) κ ∗ held (SparseCore.T d) openRefs (A7 (W d)) ∗ (K (F := F)).tcSt EH d 2
      ∗ ((held (SparseCore.T d) openRefs (A8 (W d)) ∗ (K (F := F)).tcSt EH d 3) -∗ Q ⟨⟩))
    ⊢ wp frame (wpE ((K (F := F)).defs (D (F := F))) 𝒱 (SparseCore.T d) none) Set.univ ((K (F := F)).run d 2) Q := by
  rw [A8]
  refine gather_run (contOf W) κ 2 d (A7 (W d)) main_v13 main_v6 main_v14 (by decide) (dr_ne (by decide)) (dr_ne (by decide)) (dr_ne (by decide))
    (rowsOf (n := 53248) (A3 (W d) (dr main_v6)) (A7 (W d) (dr main_v13))) ?_ ?_ Q
  · rw [st_eq, tab7, cut2]
    dsimp only [goQ, contOf]
  · rw [dn_eq, tab7, cut2]
    dsimp only [tdQ, tdOf, outOf, contOf]
    simp only [Memref.view_whole, View.read_whole]
    erw [View.write_whole_univ (Val := Elt F) main_v14_scv (A7 (W d) (dr main_v14)) (rowsOf (n := 53248) (A3 (W d) (dr main_v6)) (A7 (W d) (dr main_v13)))]

theorem gather3 (κ : GSem nD τ sig → ℕ) (d : Dev nD) (Q : PUnit → sProp 𝕄) :
    iprop((K (F := F)).ctx EH (P (contOf W)) κ ∗ held (SparseCore.T d) openRefs (A9 (W d)) ∗ (K (F := F)).tcSt EH d 3
      ∗ ((held (SparseCore.T d) openRefs (A10 (W d)) ∗ (K (F := F)).tcSt EH d 4) -∗ Q ⟨⟩))
    ⊢ wp frame (wpE ((K (F := F)).defs (D (F := F))) 𝒱 (SparseCore.T d) none) Set.univ ((K (F := F)).run d 3) Q := by
  rw [A10]
  refine gather_run (contOf W) κ 3 d (A9 (W d)) main_v16 main_v6 main_v17 (by decide) (dr_ne (by decide)) (dr_ne (by decide)) (dr_ne (by decide))
    (rowsOf (n := 45056) (A3 (W d) (dr main_v6)) (A9 (W d) (dr main_v16))) ?_ ?_ Q
  · rw [st_eq, tab9, cut3]
    dsimp only [goQ, contOf]
  · rw [dn_eq, tab9, cut3]
    dsimp only [tdQ, tdOf, outOf, contOf]
    simp only [Memref.view_whole, View.read_whole]
    erw [View.write_whole_univ (Val := Elt F) main_v17_scv (A9 (W d) (dr main_v17)) (rowsOf (n := 45056) (A3 (W d) (dr main_v6)) (A9 (W d) (dr main_v16)))]

/-- The pipelines' ghost state, one call's at a time. -/
theorem G_eq (d : Dev nD) : (G d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)
      ∗ (Pipeline.cellsGhost (Pipeline.pin (pcfgs (F := F)) adm) EP 2 d ∗ Pipeline.toksInit (Pipeline.pin (pcfgs (F := F)) adm) EP 2 d)
      ∗ (Pipeline.cellsGhost (Pipeline.pin (pcfgs (F := F)) adm) EP 3 d ∗ Pipeline.toksInit (Pipeline.pin (pcfgs (F := F)) adm) EP 3 d)
      ∗ (Pipeline.cellsGhost (Pipeline.pin (pcfgs (F := F)) adm) EP 4 d ∗ Pipeline.toksInit (Pipeline.pin (pcfgs (F := F)) adm) EP 4 d)) := by
  unfold G
  rw [← bigSep_sep', bigSep_W5]

/-- The five TensorCore calls' arrays are unscoped. -/
theorem spec_open (p : Fin 5) : Pipeline.arrRefs (τ := τ) (pcfgs (F := F) p).spec ⊆ openRefs := by
  fin_cases p
  · exact arrs_open _ (show ∀ w, (Pipeline.arrRef spec0 w).isScoped = false by decide)
  · exact arrs_open _ (show ∀ w, (Pipeline.arrRef spec5 w).isScoped = false by decide)
  · exact arrs_open _ (show ∀ w, (Pipeline.arrRef spec6 w).isScoped = false by decide)
  · exact arrs_open _ (show ∀ w, (Pipeline.arrRef spec7 w).isScoped = false by decide)
  · exact arrs_open _ (show ∀ w, (Pipeline.arrRef spec8 w).isScoped = false by decide)

/-- The five TensorCore calls, each from the buffers' contents before it to those after. -/
theorem call0 (κ : GSem nD τ sig → ℕ) (d : Dev nD) (Q : PUnit → sProp 𝕄) :
    iprop((K (F := F)).ctx EH (P (contOf W)) κ ∗ (Pipeline.cellsGhost (Pipeline.pin (pcfgs (F := F)) adm) EP 0 d ∗ Pipeline.toksInit (Pipeline.pin (pcfgs (F := F)) adm) EP 0 d)
      ∗ boundary (SparseCore.T d) ∗ held (SparseCore.T d) openRefs (A1 (W d)) ∗ (K (F := F)).tcSt EH d 0
      ∗ ((boundary (SparseCore.T d) ∗ held (SparseCore.T d) openRefs (A2 (W d)) ∗ (K (F := F)).tcSt EH d 0) -∗ Q ⟨⟩))
    ⊢ wp frame (wpE ((K (F := F)).defs (D (F := F))) 𝒱 (SparseCore.T d) none) Set.univ
          (Prog.lift (.customCall (SparseCore.inner (Pipeline.entry 0)) ())) Q := by
  obtain rfl : d = 0 := Subsingleton.elim _ _
  rw [A2]
  exact call_run (contOf W) κ (V := fun _ => A1 (W 0)) (fits0 _) launch0.toP (spec_open 0) 0 Q
theorem call1 (κ : GSem nD τ sig → ℕ) (d : Dev nD) (Q : PUnit → sProp 𝕄) :
    iprop((K (F := F)).ctx EH (P (contOf W)) κ ∗ (Pipeline.cellsGhost (Pipeline.pin (pcfgs (F := F)) adm) EP 1 d ∗ Pipeline.toksInit (Pipeline.pin (pcfgs (F := F)) adm) EP 1 d)
      ∗ boundary (SparseCore.T d) ∗ held (SparseCore.T d) openRefs (A11 (W d)) ∗ (K (F := F)).tcSt EH d 4
      ∗ ((boundary (SparseCore.T d) ∗ held (SparseCore.T d) openRefs (A12 (W d)) ∗ (K (F := F)).tcSt EH d 4) -∗ Q ⟨⟩))
    ⊢ wp frame (wpE ((K (F := F)).defs (D (F := F))) 𝒱 (SparseCore.T d) none) Set.univ
          (Prog.lift (.customCall (SparseCore.inner (Pipeline.entry 1)) ())) Q := by
  obtain rfl : d = 0 := Subsingleton.elim _ _
  rw [A12]
  exact call_run (contOf W) κ (V := fun _ => A11 (W 0)) (fits5 _) launch5.toP (spec_open 1) 0 Q
theorem call2 (κ : GSem nD τ sig → ℕ) (d : Dev nD) (Q : PUnit → sProp 𝕄) :
    iprop((K (F := F)).ctx EH (P (contOf W)) κ ∗ (Pipeline.cellsGhost (Pipeline.pin (pcfgs (F := F)) adm) EP 2 d ∗ Pipeline.toksInit (Pipeline.pin (pcfgs (F := F)) adm) EP 2 d)
      ∗ boundary (SparseCore.T d) ∗ held (SparseCore.T d) openRefs (A13 (W d)) ∗ (K (F := F)).tcSt EH d 4
      ∗ ((boundary (SparseCore.T d) ∗ held (SparseCore.T d) openRefs (A14 (W d)) ∗ (K (F := F)).tcSt EH d 4) -∗ Q ⟨⟩))
    ⊢ wp frame (wpE ((K (F := F)).defs (D (F := F))) 𝒱 (SparseCore.T d) none) Set.univ
          (Prog.lift (.customCall (SparseCore.inner (Pipeline.entry 2)) ())) Q := by
  obtain rfl : d = 0 := Subsingleton.elim _ _
  rw [A14]
  exact call_run (contOf W) κ (V := fun _ => A13 (W 0)) (fits6 _) launch6.toP (spec_open 2) 0 Q
theorem call3 (κ : GSem nD τ sig → ℕ) (d : Dev nD) (Q : PUnit → sProp 𝕄) :
    iprop((K (F := F)).ctx EH (P (contOf W)) κ ∗ (Pipeline.cellsGhost (Pipeline.pin (pcfgs (F := F)) adm) EP 3 d ∗ Pipeline.toksInit (Pipeline.pin (pcfgs (F := F)) adm) EP 3 d)
      ∗ boundary (SparseCore.T d) ∗ held (SparseCore.T d) openRefs (A15 (W d)) ∗ (K (F := F)).tcSt EH d 4
      ∗ ((boundary (SparseCore.T d) ∗ held (SparseCore.T d) openRefs (A16 (W d)) ∗ (K (F := F)).tcSt EH d 4) -∗ Q ⟨⟩))
    ⊢ wp frame (wpE ((K (F := F)).defs (D (F := F))) 𝒱 (SparseCore.T d) none) Set.univ
          (Prog.lift (.customCall (SparseCore.inner (Pipeline.entry 3)) ())) Q := by
  obtain rfl : d = 0 := Subsingleton.elim _ _
  rw [A16]
  exact call_run (contOf W) κ (V := fun _ => A15 (W 0)) (fits7 _) launch7.toP (spec_open 3) 0 Q
theorem call4 (κ : GSem nD τ sig → ℕ) (d : Dev nD) (Q : PUnit → sProp 𝕄) :
    iprop((K (F := F)).ctx EH (P (contOf W)) κ ∗ (Pipeline.cellsGhost (Pipeline.pin (pcfgs (F := F)) adm) EP 4 d ∗ Pipeline.toksInit (Pipeline.pin (pcfgs (F := F)) adm) EP 4 d)
      ∗ boundary (SparseCore.T d) ∗ held (SparseCore.T d) openRefs (A17 (W d)) ∗ (K (F := F)).tcSt EH d 4
      ∗ ((boundary (SparseCore.T d) ∗ held (SparseCore.T d) openRefs (A18 (W d)) ∗ (K (F := F)).tcSt EH d 4) -∗ Q ⟨⟩))
    ⊢ wp frame (wpE ((K (F := F)).defs (D (F := F))) 𝒱 (SparseCore.T d) none) Set.univ
          (Prog.lift (.customCall (SparseCore.inner (Pipeline.entry 4)) ())) Q := by
  obtain rfl : d = 0 := Subsingleton.elim _ _
  rw [A18]
  exact call_run (contOf W) κ (V := fun _ => A17 (W 0)) (fits8 _) launch8.toP (spec_open 4) 0 Q

attribute [local irreducible] A4 A6 A8 A10

/-- What a device's buffers hold at the launch. -/
abbrev V0 (m : (ℓ : Loc nD τ sig) → Buf (Elt F) ℓ) (d : Dev nD) : Valuation τ sig (Elt F) := fun b => m (d, b)

/-- The program on a device's TensorCore: from its buffers at the launch to their contents at the end. -/
theorem hmain (m : (ℓ : Loc nD τ sig) → Buf (Elt F) ℓ) (ρ : Dev nD → PrngReg) (κ : GSem nD τ sig → ℕ) (d : Dev nD) :
    iprop((K (F := F)).ctx EH (P (contOf (V0 m))) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 4 ∗ held (SparseCore.T d) openRefs (A19 (V0 m d)) ∗ (K (F := F)).tcEnd d) := by
  unfold SparseCore.Cfg.tcRes SparseCore.Cfg.tcEnd
  rw [show (unscopedBufs d (fun b => m ((SparseCore.T d).loc b)) : sProp 𝕄) = held (SparseCore.T d) openRefs (V0 m d) from unscoped_open d (V0 m d), G_eq]
  simp only [main, fn_pad.body, wp_bind, wp_pure]
  iintro ⟨#Hctx, Hst, ⟨Hb, Hh, Hts, -⟩, Hg0, Hg1, Hg2, Hg3, Hg4⟩
  iapply (host_run opTok (StableHlo.unary_bufs_sub _ _ _ _ _) rfl _ d)
  isplitl [Hb]; · iexact Hb
  isplitl [Hh]; · iexact Hh
  iintro ⟨Hb, Hh⟩
  iapply (host_run opTopo (StableHlo.unary_bufs_sub _ _ _ _ _) rfl _ d)
  isplitl [Hb]; · iexact Hb
  isplitl [Hh]; · iexact Hh
  iintro ⟨Hb, Hh⟩
  iapply (host_run opIdsT (StableHlo.unary_bufs_sub _ _ _ _ _) rfl _ d)
  isplitl [Hb]; · iexact Hb
  isplitl [Hh]; · iexact Hh
  iintro ⟨Hb, Hh⟩
  iapply (host_run opIds (StableHlo.reshape_bufs_sub _ _ _ _ _ _) rfl _ d)
  isplitl [Hb]; · iexact Hb
  isplitl [Hh]; · iexact Hh
  iintro ⟨Hb, Hh⟩
  iapply (host_run opTabT (StableHlo.unary_bufs_sub _ _ _ _ _) rfl _ d)
  isplitl [Hb]; · iexact Hb
  isplitl [Hh]; · iexact Hh
  iintro ⟨Hb, Hh⟩
  iapply (host_run opZero (StableHlo.nullary_bufs_sub _ _ _) rfl _ d)
  isplitl [Hb]; · iexact Hb
  isplitl [Hh]; · iexact Hh
  iintro ⟨Hb, Hh⟩
  iapply (host_run opZeroF (StableHlo.unary_bufs_sub _ _ _ _ _) rfl _ d)
  isplitl [Hb]; · iexact Hb
  isplitl [Hh]; · iexact Hh
  iintro ⟨Hb, Hh⟩
  iapply (host_run opPad (StableHlo.binary_bufs_sub _ _ _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A1 (V0 m d)) by rw [A1])) $$ Hh
  imodintro
  iapply (call0 (V0 m) κ d)
  isplitr; · iexact Hctx
  isplitl [Hg0]; · iexact Hg0
  isplitl [Hb]; · iexact Hb
  isplitl [Hh]; · iexact Hh
  isplitl [Hst]; · iexact Hst
  iintro ⟨Hb, Hh, Hst⟩
  iapply (host_run opS0 (StableHlo.unary_bufs_sub _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A3 (V0 m d)) by rw [A3])) $$ Hh
  iapply (gather0 (V0 m) κ d)
  isplitr; · iexact Hctx
  isplitl [Hh]; · iexact Hh
  isplitl [Hst]; · iexact Hst
  iintro ⟨Hh, Hst⟩
  iapply (host_run opR0 (StableHlo.reshape_bufs_sub _ _ _ _ _ _) rfl _ d)
  isplitl [Hb]; · iexact Hb
  isplitl [Hh]; · iexact Hh
  iintro ⟨Hb, Hh⟩
  iapply (host_run opS1 (StableHlo.unary_bufs_sub _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A5 (V0 m d)) by rw [A5])) $$ Hh
  iapply (gather1 (V0 m) κ d)
  isplitr; · iexact Hctx
  isplitl [Hh]; · iexact Hh
  isplitl [Hst]; · iexact Hst
  iintro ⟨Hh, Hst⟩
  iapply (host_run opR1 (StableHlo.reshape_bufs_sub _ _ _ _ _ _) rfl _ d)
  isplitl [Hb]; · iexact Hb
  isplitl [Hh]; · iexact Hh
  iintro ⟨Hb, Hh⟩
  iapply (host_run opS2 (StableHlo.unary_bufs_sub _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A7 (V0 m d)) by rw [A7])) $$ Hh
  iapply (gather2 (V0 m) κ d)
  isplitr; · iexact Hctx
  isplitl [Hh]; · iexact Hh
  isplitl [Hst]; · iexact Hst
  iintro ⟨Hh, Hst⟩
  iapply (host_run opR2 (StableHlo.reshape_bufs_sub _ _ _ _ _ _) rfl _ d)
  isplitl [Hb]; · iexact Hb
  isplitl [Hh]; · iexact Hh
  iintro ⟨Hb, Hh⟩
  iapply (host_run opS3 (StableHlo.unary_bufs_sub _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A9 (V0 m d)) by rw [A9])) $$ Hh
  iapply (gather3 (V0 m) κ d)
  isplitr; · iexact Hctx
  isplitl [Hh]; · iexact Hh
  isplitl [Hst]; · iexact Hst
  iintro ⟨Hh, Hst⟩
  iapply (host_run opR3 (StableHlo.reshape_bufs_sub _ _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A11 (V0 m d)) by rw [A11])) $$ Hh
  iapply (call1 (V0 m) κ d)
  isplitr; · iexact Hctx
  isplitl [Hg1]; · iexact Hg1
  isplitl [Hb]; · iexact Hb
  isplitl [Hh]; · iexact Hh
  isplitl [Hst]; · iexact Hst
  iintro ⟨Hb, Hh, Hst⟩
  iapply (host_run opC1 (StableHlo.unary_bufs_sub _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A13 (V0 m d)) by rw [A13])) $$ Hh
  iapply (call2 (V0 m) κ d)
  isplitr; · iexact Hctx
  isplitl [Hg2]; · iexact Hg2
  isplitl [Hb]; · iexact Hb
  isplitl [Hh]; · iexact Hh
  isplitl [Hst]; · iexact Hst
  iintro ⟨Hb, Hh, Hst⟩
  iapply (host_run opC2 (StableHlo.unary_bufs_sub _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A15 (V0 m d)) by rw [A15])) $$ Hh
  iapply (call3 (V0 m) κ d)
  isplitr; · iexact Hctx
  isplitl [Hg3]; · iexact Hg3
  isplitl [Hb]; · iexact Hb
  isplitl [Hh]; · iexact Hh
  isplitl [Hst]; · iexact Hst
  iintro ⟨Hb, Hh, Hst⟩
  iapply (host_run opC3 (StableHlo.unary_bufs_sub _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A17 (V0 m d)) by rw [A17])) $$ Hh
  iapply (call4 (V0 m) κ d)
  isplitr; · iexact Hctx
  isplitl [Hg4]; · iexact Hg4
  isplitl [Hb]; · iexact Hb
  isplitl [Hh]; · iexact Hh
  isplitl [Hst]; · iexact Hst
  iintro ⟨Hb, Hh, Hst⟩
  iapply (host_run opOut (StableHlo.unary_bufs_sub _ _ _ _ _) rfl _ d)
  isplitl [Hb]; · iexact Hb
  isplitl [Hh]; · iexact Hh
  iintro ⟨Hb, Hh⟩
  ihave Hh := (Entails.of_eq (show held (SparseCore.T d) openRefs _ = held (SparseCore.T d) openRefs (A19 (V0 m d)) by rw [A19])) $$ Hh
  imodintro
  isplitl [Hst]; · iexact Hst
  isplitl [Hh]; · iexact Hh
  isplitl [Hb]; · iexact Hb
  iexact Hts

end Cert.Proof
-- ==== Proof.Follow.lean ====
/- What each step of the program leaves as it was, and what the calls' operands hold by the program's own arguments. -/
module

public import proofs.«01_k».proof.Proof.Main

@[expose] public section

noncomputable section

namespace Cert.Proof

open Cert.KernelIdeal Cert.KernelIdeal.Gen

open Idealize.ShloMosaic Idealize.ShloMosaic.TcCoe
open Idealize.ShloMosaic.Tactic

variable {F : FTy → Type} [FloatOps F] [∀ e, Nonempty (Elt F e)]

variable (W : Valuation τ sig (Elt F))

/-- The operations before the table's call write these buffers only. -/
theorem keep1 {b : Ref sig .tc} (h : b ∉ [main_v0, main_v1, main_v2, main_v3, main_v4, main_c, main_call0_v0, main_v5]) :
    A1 W (dr b) = W (dr b) := by
  simp only [List.mem_cons, List.not_mem_nil, or_false, not_or] at h
  obtain ⟨h0, h1, h2, h3, h4, hc, hz, h5⟩ := h
  unfold A1
  rw [op_keeps opPad rfl h5, op_keeps opZeroF rfl hz, op_keeps opZero rfl hc, op_keeps opTabT rfl h4, op_keeps opIds rfl h3,
    op_keeps opIdsT rfl h2, op_keeps opTopo rfl h1, op_keeps opTok rfl h0]

/-- The table's call writes the table only. -/
theorem keep2 {b : Ref sig .tc} (h : b ≠ main_v6) : A2 W (dr b) = A1 W (dr b) := by
  unfold A2
  refine Pipeline.afterRegion_keeps _ _ winFacts0.arr_inj (fun w => rfl) b fun w e => ?_
  match w with
  | ⟨0, _⟩ => rfl
  | ⟨1, _⟩ => exact absurd e.symm h

/-- The gather calls and the operations between them write these buffers only. -/
theorem keep11 {b : Ref sig .tc} (h : b ∉ [main_v7, main_v8, main_v9, main_v10, main_v11, main_v12, main_v13, main_v14, main_v15, main_v16, main_v17, main_v18]) :
    A11 W (dr b) = A2 W (dr b) := by
  simp only [List.mem_cons, List.not_mem_nil, or_false, not_or] at h
  obtain ⟨h7, h8, h9, h10, h11, h12, h13, h14, h15, h16, h17, h18⟩ := h
  unfold A11 A10 A9 A8 A7 A6 A5 A4 A3
  rw [op_keeps opR3 rfl h18, Function.update_of_ne (dr_ne h17), op_keeps opS3 rfl h16, op_keeps opR2 rfl h15, Function.update_of_ne (dr_ne h14),
    op_keeps opS2 rfl h13, op_keeps opR1 rfl h12, Function.update_of_ne (dr_ne h11), op_keeps opS1 rfl h10, op_keeps opR0 rfl h9,
    Function.update_of_ne (dr_ne h8), op_keeps opS0 rfl h7]

/-- Each sum's call writes its result only. -/
theorem keep12 {b : Ref sig .tc} (h : b ≠ main_v19) : A12 W (dr b) = A11 W (dr b) := by
  unfold A12
  refine Pipeline.afterRegion_keeps _ _ winFacts5.arr_inj (fun w => by dsimp only [dats, dat5]; rfl) b fun w e => ?_
  match w with
  | ⟨0, _⟩ => rfl
  | ⟨1, _⟩ => rfl
  | ⟨2, _⟩ => rfl
  | ⟨3, _⟩ => rfl
  | ⟨4, _⟩ => exact absurd e.symm h

theorem keep14 {b : Ref sig .tc} (h : b ≠ main_v20) : A14 W (dr b) = A13 W (dr b) := by
  unfold A14
  refine Pipeline.afterRegion_keeps _ _ winFacts6.arr_inj (fun w => by dsimp only [dats, dat6]; rfl) b fun w e => ?_
  match w with
  | ⟨0, _⟩ => rfl
  | ⟨1, _⟩ => rfl
  | ⟨2, _⟩ => rfl
  | ⟨3, _⟩ => rfl
  | ⟨4, _⟩ => exact absurd e.symm h

theorem keep16 {b : Ref sig .tc} (h : b ≠ main_v21) : A16 W (dr b) = A15 W (dr b) := by
  unfold A16
  refine Pipeline.afterRegion_keeps _ _ winFacts7.arr_inj (fun w => by dsimp only [dats, dat7]; rfl) b fun w e => ?_
  match w with
  | ⟨0, _⟩ => rfl
  | ⟨1, _⟩ => rfl
  | ⟨2, _⟩ => rfl
  | ⟨3, _⟩ => rfl
  | ⟨4, _⟩ => exact absurd e.symm h

theorem keep18 {b : Ref sig .tc} (h : b ≠ main_v22) : A18 W (dr b) = A17 W (dr b) := by
  unfold A18
  refine Pipeline.afterRegion_keeps _ _ winFacts8.arr_inj (fun w => by dsimp only [dats, dat8]; rfl) b fun w e => ?_
  match w with
  | ⟨0, _⟩ => rfl
  | ⟨1, _⟩ => rfl
  | ⟨2, _⟩ => rfl
  | ⟨3, _⟩ => rfl
  | ⟨4, _⟩ => exact absurd e.symm h

/-- The sums' calls and the operations between and after them write these buffers only. -/
theorem keep19 {b : Ref sig .tc} (h : b ∉ [main_v19, main_v20, main_v21, main_v22, main_v23]) : A19 W (dr b) = A11 W (dr b) := by
  simp only [List.mem_cons, List.not_mem_nil, or_false, not_or] at h
  obtain ⟨h19, h20, h21, h22, h23⟩ := h
  rw [A19, op_keeps opOut rfl h23, keep18 W h22, A17, op_keeps opC3 rfl h22, keep16 W h21, A15, op_keeps opC2 rfl h21, keep14 W h20, A13,
    op_keeps opC1 rfl h20, keep12 W h19]

/-- The program writes none of its arguments. -/
theorem keep_arg {b : Ref sig .tc} (h : b ∈ [main_arg0, main_arg1, main_arg2, main_arg3, main_arg4]) : A19 W (dr b) = W (dr b) := by
  simp only [List.mem_cons, List.not_mem_nil, or_false] at h
  rcases h with rfl | rfl | rfl | rfl | rfl <;>
    rw [keep19 W (by decide), keep11 W (by decide), keep2 W (by decide), keep1 W (by decide)]

/-! ## The calls' operands -/

/-- The sums' first operand: the tokens, batch last. -/
theorem tok_eq : A1 W (dr main_v0) = transpose S200x64x1024 [1, 2, 0] (W (dr main_arg0)) transposes_S1024x200x64_S200x64x1024_1_2_0 := by
  unfold A1
  rw [op_keeps opPad (y := main_v5) rfl (by decide), op_keeps opZeroF (y := main_call0_v0) rfl (by decide), op_keeps opZero (y := main_c) rfl (by decide),
    op_keeps opTabT (y := main_v4) rfl (by decide), op_keeps opIds (y := main_v3) rfl (by decide), op_keeps opIdsT (y := main_v2) rfl (by decide),
    op_keeps opTopo (y := main_v1) rfl (by decide)]
  exact StableHlo.unary_result _ _ _ _ _ _

/-- The sums' features, batch last. -/
theorem topo_eq : A1 W (dr main_v1) = transpose S200x16x1024 [1, 2, 0] (W (dr main_arg2)) transposes_S1024x200x16_S200x16x1024_1_2_0 := by
  unfold A1
  rw [op_keeps opPad (y := main_v5) rfl (by decide), op_keeps opZeroF (y := main_call0_v0) rfl (by decide), op_keeps opZero (y := main_c) rfl (by decide),
    op_keeps opTabT (y := main_v4) rfl (by decide), op_keeps opIds (y := main_v3) rfl (by decide), op_keeps opIdsT (y := main_v2) rfl (by decide)]
  refine (StableHlo.unary_result _ _ _ _ _ _).trans ?_
  rw [op_keeps opTok (y := main_v0) rfl (by decide)]

/-- The row numbers, all in one row. -/
theorem ids_row : A1 W (dr main_v3) = shapeCast S1x204800 (transpose S200x1024 [1, 0] (W (dr main_arg1)) transposes_S1024x200_S200x1024_1_0) shapeCasts_S200x1024_S1x204800 := by
  unfold A1
  rw [op_keeps opPad (y := main_v5) rfl (by decide), op_keeps opZeroF (y := main_call0_v0) rfl (by decide), op_keeps opZero (y := main_c) rfl (by decide),
    op_keeps opTabT (y := main_v4) rfl (by decide)]
  refine (StableHlo.reshape_result _ _ _ _ _ _ _).trans ?_
  rw [show opIdsT.result (opTopo.result (opTok.result W)) (dr main_v2) = transpose S200x1024 [1, 0] (W (dr main_arg1)) transposes_S1024x200_S200x1024_1_0 from by
    refine (StableHlo.unary_result _ _ _ _ _ _).trans ?_
    rw [op_keeps opTopo (y := main_v1) rfl (by decide), op_keeps opTok (y := main_v0) rfl (by decide)]]
  rfl

/-- The table's operand: the embedding, number last, padded with zeros to whole blocks. -/
theorem pad_eq : A1 W (dr main_v5) = pad S64x100096 ![0, 0] ![0, 96] ![0, 0]
    (transpose S64x100000 [1, 0] (W (dr main_arg3)) transposes_S100000x64_S64x100000_1_0) (sitofp .f32 (constantI S_ 32 0#32)) pads_S64x100000_S64x100096_000_0960 h_S_ := by
  unfold A1
  refine (StableHlo.binary_result _ _ _ _ _ _ _ _).trans ?_
  have e4 : opZeroF.result (opZero.result (opTabT.result (opIds.result (opIdsT.result (opTopo.result (opTok.result W)))))) (dr main_v4)
      = transpose S64x100000 [1, 0] (W (dr main_arg3)) transposes_S100000x64_S64x100000_1_0 := by
    rw [op_keeps opZeroF (y := main_call0_v0) rfl (by decide), op_keeps opZero (y := main_c) rfl (by decide)]
    refine (StableHlo.unary_result _ _ _ _ _ _).trans ?_
    rw [op_keeps opIds (y := main_v3) rfl (by decide), op_keeps opIdsT (y := main_v2) rfl (by decide), op_keeps opTopo (y := main_v1) rfl (by decide),
      op_keeps opTok (y := main_v0) rfl (by decide)]
  have ez : opZeroF.result (opZero.result (opTabT.result (opIds.result (opIdsT.result (opTopo.result (opTok.result W)))))) (dr main_call0_v0)
      = (sitofp .f32 (constantI S_ 32 0#32) : S_.Idx → Elt F .f32) := by
    refine (StableHlo.unary_result _ _ _ _ _ _).trans ?_
    rw [show opZero.result (opTabT.result (opIds.result (opIdsT.result (opTopo.result (opTok.result W))))) (dr main_c) = constantI S_ 32 0#32 from
      StableHlo.nullary_result _ _ _ _]
    rfl
  exact congrArg₂ (fun x v => pad S64x100096 ![0, 0] ![0, 96] ![0, 0] x v pads_S64x100000_S64x100096_000_0960 h_S_) e4 ez

/-- Each gather call's row numbers. -/
theorem ids0_eq : A3 W (dr main_v7) = extractStridedSlice S1x53248 ![0, 0] (A1 W (dr main_v3)) slices_S1x204800_S1x53248_0_0 := by
  unfold A3
  refine (StableHlo.unary_result _ _ _ _ _ _).trans ?_
  rw [keep2 W (by decide)]

theorem ids1_eq : A5 W (dr main_v10) = extractStridedSlice S1x53248 ![0, 53248] (A1 W (dr main_v3)) slices_S1x204800_S1x53248_0_53248 := by
  unfold A5 A4 A3
  refine (StableHlo.unary_result _ _ _ _ _ _).trans ?_
  rw [op_keeps opR0 (y := main_v9) rfl (by decide), Function.update_of_ne (dr_ne (by decide)), op_keeps opS0 (y := main_v7) rfl (by decide), keep2 W (by decide)]

theorem ids2_eq : A7 W (dr main_v13) = extractStridedSlice S1x53248 ![0, 106496] (A1 W (dr main_v3)) slices_S1x204800_S1x53248_0_106496 := by
  unfold A7 A6 A5 A4 A3
  refine (StableHlo.unary_result _ _ _ _ _ _).trans ?_
  rw [op_keeps opR1 (y := main_v12) rfl (by decide), Function.update_of_ne (dr_ne (by decide)), op_keeps opS1 (y := main_v10) rfl (by decide), op_keeps opR0 (y := main_v9) rfl (by decide), Function.update_of_ne (dr_ne (by decide)), op_keeps opS0 (y := main_v7) rfl (by decide), keep2 W (by decide)]

theorem ids3_eq : A9 W (dr main_v16) = extractStridedSlice S1x45056 ![0, 159744] (A1 W (dr main_v3)) slices_S1x204800_S1x45056_0_159744 := by
  unfold A9 A8 A7 A6 A5 A4 A3
  refine (StableHlo.unary_result _ _ _ _ _ _).trans ?_
  rw [op_keeps opR2 (y := main_v15) rfl (by decide), Function.update_of_ne (dr_ne (by decide)), op_keeps opS2 (y := main_v13) rfl (by decide), op_keeps opR1 (y := main_v12) rfl (by decide), Function.update_of_ne (dr_ne (by decide)), op_keeps opS1 (y := main_v10) rfl (by decide), op_keeps opR0 (y := main_v9) rfl (by decide), Function.update_of_ne (dr_ne (by decide)), op_keeps opS0 (y := main_v7) rfl (by decide), keep2 W (by decide)]

/-- Each sum's gathered rows. -/
theorem rows0_eq : A11 W (dr main_v9) = shapeCast S52x1024x128 (rowsOf (n := 53248) (A2 W (dr main_v6)) (A3 W (dr main_v7))) shapeCasts_S53248x128_S52x1024x128 := by
  have e : A4 W (dr main_v8) = rowsOf (n := 53248) (A2 W (dr main_v6)) (A3 W (dr main_v7)) := by
    rw [A4, Function.update_self, A3, op_keeps opS0 (y := main_v7) rfl (by decide)]
  unfold A11 A10 A9 A8 A7 A6 A5
  rw [op_keeps opR3 (y := main_v18) rfl (by decide), Function.update_of_ne (dr_ne (by decide)), op_keeps opS3 (y := main_v16) rfl (by decide), op_keeps opR2 (y := main_v15) rfl (by decide), Function.update_of_ne (dr_ne (by decide)), op_keeps opS2 (y := main_v13) rfl (by decide), op_keeps opR1 (y := main_v12) rfl (by decide), Function.update_of_ne (dr_ne (by decide)), op_keeps opS1 (y := main_v10) rfl (by decide)]
  refine (StableHlo.reshape_result _ _ _ _ _ _ _).trans ?_
  rw [e]
  rfl

theorem rows1_eq : A11 W (dr main_v12) = shapeCast S52x1024x128 (rowsOf (n := 53248) (A2 W (dr main_v6)) (A5 W (dr main_v10))) shapeCasts_S53248x128_S52x1024x128 := by
  have e : A6 W (dr main_v11) = rowsOf (n := 53248) (A2 W (dr main_v6)) (A5 W (dr main_v10)) := by
    rw [A6, Function.update_self, A3, op_keeps opS0 (y := main_v7) rfl (by decide)]
  unfold A11 A10 A9 A8 A7
  rw [op_keeps opR3 (y := main_v18) rfl (by decide), Function.update_of_ne (dr_ne (by decide)), op_keeps opS3 (y := main_v16) rfl (by decide), op_keeps opR2 (y := main_v15) rfl (by decide), Function.update_of_ne (dr_ne (by decide)), op_keeps opS2 (y := main_v13) rfl (by decide)]
  refine (StableHlo.reshape_result _ _ _ _ _ _ _).trans ?_
  rw [e]
  rfl

theorem rows2_eq : A11 W (dr main_v15) = shapeCast S52x1024x128 (rowsOf (n := 53248) (A2 W (dr main_v6)) (A7 W (dr main_v13))) shapeCasts_S53248x128_S52x1024x128 := by
  have e : A8 W (dr main_v14) = rowsOf (n := 53248) (A2 W (dr main_v6)) (A7 W (dr main_v13)) := by
    rw [A8, Function.update_self, A3, op_keeps opS0 (y := main_v7) rfl (by decide)]
  unfold A11 A10 A9
  rw [op_keeps opR3 (y := main_v18) rfl (by decide), Function.update_of_ne (dr_ne (by decide)), op_keeps opS3 (y := main_v16) rfl (by decide)]
  refine (StableHlo.reshape_result _ _ _ _ _ _ _).trans ?_
  rw [e]
  rfl

theorem rows3_eq : A11 W (dr main_v18) = shapeCast S44x1024x128 (rowsOf (n := 45056) (A2 W (dr main_v6)) (A9 W (dr main_v16))) shapeCasts_S45056x128_S44x1024x128 := by
  have e : A10 W (dr main_v17) = rowsOf (n := 45056) (A2 W (dr main_v6)) (A9 W (dr main_v16)) := by
    rw [A10, Function.update_self, A3, op_keeps opS0 (y := main_v7) rfl (by decide)]
  unfold A11
  refine (StableHlo.reshape_result _ _ _ _ _ _ _).trans ?_
  rw [e]
  rfl

/-- Every row number of the one row is one of the argument's. -/
theorem row_bound (h : ∀ j, (W (dr main_arg1) j : BitVec 32).toNat < 100000) (j : S1x204800.Idx) : (A1 W (dr main_v3) j : BitVec 32).toNat < 100000 := by
  rw [ids_row]
  exact h _

/-- So is every call's. -/
theorem ids0_bound (h : ∀ j, (W (dr main_arg1) j : BitVec 32).toNat < 100000) (j : S1x53248.Idx) : (A3 W (dr main_v7) j : BitVec 32).toNat < 100000 := by
  rw [ids0_eq]
  exact row_bound W h _

theorem ids1_bound (h : ∀ j, (W (dr main_arg1) j : BitVec 32).toNat < 100000) (j : S1x53248.Idx) : (A5 W (dr main_v10) j : BitVec 32).toNat < 100000 := by
  rw [ids1_eq]
  exact row_bound W h _

theorem ids2_bound (h : ∀ j, (W (dr main_arg1) j : BitVec 32).toNat < 100000) (j : S1x53248.Idx) : (A7 W (dr main_v13) j : BitVec 32).toNat < 100000 := by
  rw [ids2_eq]
  exact row_bound W h _

theorem ids3_bound (h : ∀ j, (W (dr main_arg1) j : BitVec 32).toNat < 100000) (j : S1x45056.Idx) : (A9 W (dr main_v16) j : BitVec 32).toNat < 100000 := by
  rw [ids3_eq]
  exact row_bound W h _

/-- So the contents of the memory at the calls are in order. -/
theorem cont_ok (V : Dev nD → Valuation τ sig (Elt F)) (h : ∀ d j, (V d (dr main_arg1) j : BitVec 32).toNat < 100000) : Cont.Ok (contOf V) :=
  ⟨fun d j => lt_trans (ids0_bound (V d) (h d) j) (by norm_num), fun d j => lt_trans (ids1_bound (V d) (h d) j) (by norm_num),
    fun d j => lt_trans (ids2_bound (V d) (h d) j) (by norm_num), fun d j => lt_trans (ids3_bound (V d) (h d) j) (by norm_num)⟩

end Cert.Proof
-- ==== Proof.Run.lean ====
/- The whole run, launched: every buffer of the TensorCore ends as the steps leave it, and the frames. -/
module

public import proofs.«01_k».proof.Proof.Follow
public import proofs.«01_k».proof.Proof.Gen.Kernel
public import proofs.«01_k».proof.Proof.Gen.Pre_ids_in_range
public import Idealize.ShloMosaic.Lib.ReduceAll

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.StableHlo (held)
open Idealize.ShloMosaic.Pipeline (Dat)

variable {F : FTy → Type} [FloatOps F] [∀ e, Nonempty (Elt F e)]

local notation "𝕄" => MT nD τ sig (HIx 4) (Elt F) ℕ UU ℕ

/-- The launch's ghost state: the handshakes' rounds and the pipelines' rounds. -/
def u₀ : UU := (initOf (K (F := F)).hsCells (K (F := F)).hsToks,
  (initOf (Pipeline.cells (Pipeline.pin (pcfgs (F := F)) adm) (launch0.toP.cellOf_inj adm)) (Pipeline.launchToks (Pipeline.pin (pcfgs (F := F)) adm) (launch0.toP.cellOf_inj adm)), 1))

set_option backward.isDefEq.respectTransparency.types false in
/-- It pays for the handshakes' state, each device's pipelines, and the calls' tasks, which take nothing of it. -/
theorem hu₀ (X : Cont F) : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 4 => (P X).x q thr) := by
  unfold u₀
  iintro Hu
  ihave H := (ownU_pair _ _) $$ Hu
  icases H with ⟨HH, HR⟩
  ihave H := (own_pair_emb embR _ _) $$ HR
  icases H with ⟨HP, -⟩
  ihave HP' := (Entails.of_eq (show (BI.own (((Emb.inl : Emb UP (UP × Counters)).trans embR) (initOf (Pipeline.cells (Pipeline.pin (pcfgs (F := F)) adm) (launch0.toP.cellOf_inj adm)) (Pipeline.launchToks (Pipeline.pin (pcfgs (F := F)) adm) (launch0.toP.cellOf_inj adm)))) : sProp 𝕄)
    = BI.own (EP (initOf (Pipeline.cells (Pipeline.pin (pcfgs (F := F)) adm) (launch0.toP.cellOf_inj adm)) (Pipeline.launchToks (Pipeline.pin (pcfgs (F := F)) adm) (launch0.toP.cellOf_inj adm)))) from rfl)) $$ HP
  imod (Pipeline.fund_ghost (Pipeline.pin (pcfgs (F := F)) adm) EP (launch0.toP.cellOf_inj adm)) $$ HP' with ⟨Hc, Ht⟩
  imodintro
  isplitl [HH]; · iexact HH
  isplitl [Hc Ht]
  · rw [show (G (F := F)) = fun d => iprop((bigSep Finset.univ fun p : Fin 5 => Pipeline.cellsGhost (Pipeline.pin (pcfgs (F := F)) adm) EP p d)
      ∗ bigSep Finset.univ fun p : Fin 5 => Pipeline.toksInit (Pipeline.pin (pcfgs (F := F)) adm) EP p d) from rfl, bigSep_sep']
    isplitl [Hc]; · iexact Hc
    iexact Ht
  rw [show (bigSep Finset.univ fun thr : Thread nD τ => bigSep Finset.univ fun q : Fin 4 => (P X).x q thr) = bigSep Finset.univ fun _ => iprop(emp) from
    bigSep_congr fun _ _ => bigSep_emp_const _, show (bigSep Finset.univ fun _ : Thread nD τ => (iprop(emp) : sProp 𝕄)) = iprop(emp) from bigSep_emp_const _]
  iempintro

/-- What every buffer of a device's TensorCore holds at the end. -/
def fq (m : (ℓ : Loc nD τ sig) → Buf (Elt F) ℓ) (d : Dev nD) (s' : Phys nD τ sig (Elt F)) : Prop :=
  ∀ b ∈ openRefs, s'.mem.mem (d, b) = A19 (V0 m d) b

attribute [local irreducible] A1 A2 A3 A5 A7 A9 A11 A12 A13 A14 A15 A16 A17 A18 A19

/-- The buffers held at the end say so of the memory. -/
theorem hfin (m : (ℓ : Loc nD τ sig) → Buf (Elt F) ℓ) (d : Dev nD) (s' : Phys nD τ sig (Elt F)) :
    iprop(held (SparseCore.T d) openRefs (A19 (V0 m d)) ∗ Idealize.ShloMosaic.SI s') ⊢ (⌜fq m d s'⌝ : sProp 𝕄) := by
  unfold fq
  refine BIBase.Entails.trans (forall_intro fun b => ?_) (pure_forall (φ := fun b => b ∈ openRefs → s'.mem.mem (d, b) = A19 (V0 m d) b)).2
  refine BIBase.Entails.trans (forall_intro fun hb => ?_) (pure_forall (φ := fun _ : b ∈ openRefs => s'.mem.mem (d, b) = A19 (V0 m d) b)).2
  have h1 : (held (SparseCore.T d) openRefs (A19 (V0 m d)) : sProp 𝕄) ⊢ ((d, b) : Loc nD τ sig) ↦{fullShare} A19 (V0 m d) b := bigSep_elim hb
  iintro ⟨H, HSI⟩
  ihave Hb := h1 $$ H
  ihave H := (SI_pointsTo_agree (st := s') (ℓ := (d, b)) (I := Finset.univ) (q := fullShare) (f := A19 (V0 m d) b)) $$ [HSI Hb]
  · isplitl [HSI] <;> iassumption
  icases H with %h
  ipureintro
  exact funext fun i => h i (Finset.mem_univ i)

/-- The run of the whole program, from any memory whose row numbers are in range: it ends, every counter at zero, every buffer of
    each TensorCore as the steps leave it. -/
theorem run_main (m : (ℓ : Loc nD τ sig) → Buf (Elt F) ℓ) (ρ : Dev nD → PrngReg) (h : ∀ (d : Dev nD) j, (V0 m d (dr main_arg1) j : BitVec 32).toNat < 100000) :
    θ_run (Cert.KernelIdeal.defs (F := F)) (Cert.KernelIdeal.threads (F := F)) ⟨m, fun _ => 0, ρ⟩
      (fun r => (∀ (d : Dev nD), ∀ b ∈ openRefs, r.2.mem (d, b) = A19 (V0 m d) b) ∧ r.2.sem = fun _ => 0) :=
  have ok : Cont.Ok (contOf (V0 m)) := cont_ok (V0 m) h
  SparseCore.Cfg.θ_run_sc_quiescent (K := K (F := F)) (D := D (F := F)) (𝒱 := 𝒱) (EH := EH) (P := P (contOf (V0 m))) (A := ∅) facts v₀
    (fun q hq => match q with | 0 => nomatch hq | 1 => nomatch hq | 2 => nomatch hq | 3 => nomatch hq)
    (fun q _ => match q with | 0 => tileObl0 _ ok | 1 => tileObl1 _ ok | 2 => tileObl2 _ ok | 3 => tileObl3 _ ok)
    (fun q _ => SparseCore.Cfg.VecSplit.of_plain (vecSplit _ q))
    m ρ main (G (F := F)) (fun d => held (SparseCore.T d) openRefs (A19 (V0 m d))) (u₀ (F := F)) (sep_elim_left.trans (hu₀ _)) (hmain m ρ) (fq m) (hfin m) _ (fun _ h hz => ⟨h, hz⟩)

omit [FloatOps F] [∀ e, Nonempty (Elt F e)] in
/-- A word from 0 to 99999, as the signed comparisons have it, is its own value. -/
theorem small_word (v : BitVec 32) (h0 : IntOp.cmpi .sge v 0#32 = 1#1) (h1 : IntOp.cmpi .slt v 100000#32 = 1#1) : v.toNat < 100000 := by
  have a := IntOp.cmpi_sge.1 h0
  have b := IntOp.cmpi_slt.1 h1
  simp only [BitVec.toInt_eq_toNat_cond, BitVec.toNat_ofNat, Nat.reducePow, Nat.reduceMod] at a b
  omega

omit [∀ e, Nonempty (Elt F e)] in
/-- The precondition bounds every row number. -/
theorem ids_of_pre (a0 : FVec F Cert.Pre_ids_in_range.S1024x200x64 .f32) (a1 : IVec Cert.Pre_ids_in_range.S1024x200 32) (a2 : FVec F Cert.Pre_ids_in_range.S1024x200x16 .f32)
    (a3 : FVec F Cert.Pre_ids_in_range.S100000x64 .f32) (a4 : FVec F Cert.Pre_ids_in_range.S64x16 .f32)
    (h : Cert.Pre_ids_in_range.fn a0 a1 a2 a3 a4 = fun _ => 1#1) (j : Cert.Pre_ids_in_range.S1024x200.Idx) : (a1 j).toNat < 100000 := by
  have e := congrFun h (fun a => a.elim0 : Cert.Pre_ids_in_range.S_.Idx)
  simp only [Cert.Pre_ids_in_range.fn, andi] at e
  obtain ⟨e0, e1⟩ := IntOp.andi_eq_one.1 e
  exact small_word _ (Host.reduce_andi_all _ _ _ _ _ e0 j) (Host.reduce_andi_all _ _ _ _ _ e1 j)

/-- The run ends with the last step's buffer in the result, and the arguments as they were. -/
theorem run_result (m : (ℓ : Loc nD τ sig) → Buf (Elt F) ℓ) (ρ : Dev nD → PrngReg) (h : ∀ (d : Dev nD) j, (V0 m d (dr main_arg1) j : BitVec 32).toNat < 100000) :
    θ_run (Cert.KernelIdeal.defs (F := F)) (Cert.KernelIdeal.threads (F := F)) ⟨m, fun _ => 0, ρ⟩ (fun r => (∀ c : Dev nD,
      r.2.mem ((c.tc : Thread nD τ).loc main_v23) = A19 (V0 m c) (dr main_v23)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run Cert.KernelIdeal.defs _ _).mono (fun r h => ⟨fun c => ⟨h.1 c (dr main_v23) (by decide), (h.1 c (dr main_arg0) (by decide)).trans (keep_arg (V0 m c) (b := main_arg0) (by decide)),
    (h.1 c (dr main_arg1) (by decide)).trans (keep_arg (V0 m c) (b := main_arg1) (by decide)), (h.1 c (dr main_arg2) (by decide)).trans (keep_arg (V0 m c) (b := main_arg2) (by decide)),
    (h.1 c (dr main_arg3) (by decide)).trans (keep_arg (V0 m c) (b := main_arg3) (by decide)), (h.1 c (dr main_arg4) (by decide)).trans (keep_arg (V0 m c) (b := main_arg4) (by decide))⟩, h.2⟩)
    (run_main m ρ h)

/-- The run leaves the arguments as they were. -/
theorem run_frame (m : (ℓ : Loc nD τ sig) → Buf (Elt F) ℓ) (ρ : Dev nD → PrngReg) (h : ∀ (d : Dev nD) j, (V0 m d (dr main_arg1) j : BitVec 32).toNat < 100000) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run Cert.KernelIdeal.defs _ _).mono (fun r h => ⟨fun c => (h.1 c).2, h.2⟩) (run_result m ρ h)

/-- The frame of the idealised program. -/
theorem frame_ideal : Cert.quiescent_KernelIdeal := fun m ρ hpre =>
  run_frame (F := Ideal) m ρ fun d j => ids_of_pre _ _ _ _ _ (hpre d) j

end Cert.Proof
-- ==== Proof.Frames.lean ====
/- The frame of the program as printed. -/
module

public import proofs.«01_k».proof.Proof.Run
public import proofs.«01_k».proof.Proof.Gen.Kernel
public import proofs.«01_k».proof.Proof.Gen.Pre_ids_in_range
public import Idealize.ShloMosaic.Lib.ReduceAll

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.StableHlo (held)
open Idealize.ShloMosaic.Pipeline (Dat)

variable {F : FTy → Type} [FloatOps F] [∀ e, Nonempty (Elt F e)]

set_option maxHeartbeats 8000000 in
/-- The two programs' kernels are the same text, case by case. -/
theorem defs₀_same : (Cert.Kernel.defs₀ (F := F) : Defs nD τ sig (Elt F) Λ₀) = Cert.KernelIdeal.defs₀ := by
  funext p l a
  match p, l, a with
  | .tc, 0, (t, s) => rfl
  | .scVector c s, 1, _ => rfl
  | .scVector c s, 2, _ => rfl
  | .scVector c s, 3, _ => rfl
  | .scVector c s, 4, _ => rfl
  | .tc, 5, (t, s) => rfl
  | .tc, 6, (t, s) => rfl
  | .tc, 7, (t, s) => rfl
  | .tc, 8, (t, s) => rfl
  | .tc, 1, _ => rfl
  | .tc, 2, _ => rfl
  | .tc, 3, _ => rfl
  | .tc, 4, _ => rfl
  | .scVector _ _, 0, _ => rfl
  | .scVector _ _, 5, _ => rfl
  | .scVector _ _, 6, _ => rfl
  | .scVector _ _, 7, _ => rfl
  | .scVector _ _, 8, _ => rfl
  | .scScalar _, _, _ => rfl

set_option maxHeartbeats 8000000 in
/-- So are the programs' bodies under the launch. -/
theorem defs_same : (Cert.Kernel.defs (F := F) : Defs nD τ sig (Elt F) (SparseCore.Sig (Pipeline.Sig Λ₀ (Fin 5) fun p => (pcfgs (F := F) p).Adm) 4)) = Cert.KernelIdeal.defs :=
  congrArg (fun x : Defs nD τ sig (Elt F) Λ₀ => (sc (F := F)).defs (Pipeline.defs pcfgs x)) defs₀_same

set_option maxHeartbeats 8000000 in
/-- The frame of the program as printed: the same run, over its bits. -/
theorem frame_kernel : Cert.quiescent_Kernel := fun m ρ hpre =>
  (congrArg (fun x => θ_run x (Cert.KernelIdeal.threads (F := Bits)) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0)) (defs_same (F := Bits))).mpr
  (run_frame (F := Bits) m ρ fun d j => ids_of_pre _ _ _ _ _ (hpre d) j)

end Cert.Proof
-- ==== Proof.Parts.lean ====
/- The two TensorCore bodies' payloads over the extended reals, read at one index. -/
module

public import proofs.«01_k».proof.Proof.Bodies
public import Idealize.ShloMosaic.Lib.Pointwise
public import Idealize.ShloMosaic.Lib.WordCmp
public import Idealize.ShloMosaic.Lib.Pipeline.ValueKit

@[expose] public section

set_option maxRecDepth 16384

noncomputable section

namespace Cert.Proof

open Cert.KernelIdeal Cert.KernelIdeal.Gen

open Idealize.ShloMosaic Idealize.ShloMosaic.TcCoe
open Idealize.ShloMosaic.Tactic

/-- An entry of the identity matrix that both bodies build from two index vectors: one on the diagonal, nothing elsewhere. -/
theorem eye_entry (i j : Fin 64) :
    (FloatOps.sitofp (F := Ideal) .f32 (BitVec.setWidth 32 (IntOp.cmpi .eq (BitVec.ofNat 32 i.val) (BitVec.ofNat 32 j.val))) : EReal)
      = if i = j then 1 else 0 := by
  rw [WordCmp.cmpi_eq_ofNat (by omega) (by omega)]
  by_cases h : i = j
  · subst h
    rw [if_pos rfl]
    simp [FloatOps.sitofp]
  · rw [if_neg h]
    have h' : ¬ i.val = j.val := fun e => h (Fin.ext e)
    simp [h', FloatOps.sitofp]

/-- The table body's result at a column that holds the table: the block, transposed. -/
theorem table_entry (X : FVec Ideal S64x4352 .f32) (r : Fin 4352) (k : Fin 128) (h : k.val < 64) :
    k0_pay1 (F := Ideal) X (ix2 r k) = X (ix2 (⟨k.val, h⟩ : Fin 64) r) := by
  pointwise [k0_pay1]
  rw [dif_pos h, Finset.sum_eq_single (⟨k.val, h⟩ : Fin 64)]
  · rw [eye_entry ⟨k.val, h⟩ ⟨k.val, h⟩, if_pos rfl, mul_one]
  · intro x _ hx
    rw [eye_entry x ⟨k.val, h⟩, if_neg hx, mul_zero]
  · intro hx
    exact absurd (Finset.mem_univ _) hx

/-- One row of a block's sum. -/
theorem sum_entry (pe : FVec Ideal S1x1024x64 .f32) (w : FVec Ideal S64x16 .f32) (top : FVec Ideal S1x16x1024 .f32) (tok : FVec Ideal S1x64x1024 .f32)
    (d : Fin 64) (b : Fin 1024) :
    k5_pay2 (F := Ideal) pe w top tok (ix3 0 d b) = tok (ix3 0 d b) + pe (ix3 0 b d) + ∑ f : Fin 16, w (ix2 d f) * top (ix3 0 f b) := by
  pointwise [k5_pay2]
  rw [Finset.sum_eq_single d]
  · rw [eye_entry d d, if_pos rfl, one_mul]
  · intro x _ hx
    rw [eye_entry d x, if_neg (Ne.symm hx), zero_mul]
  · intro hx
    exact absurd (Finset.mem_univ _) hx

/-- The sum that one row's store holds, over the staged blocks. -/
theorem row_entry (tok : FVec Ideal S4x64x1024 .f32) (pe : FVec Ideal S4x1024x128 .f32) (top : FVec Ideal S4x16x1024 .f32) (w : FVec Ideal S64x16 .f32)
    (r q : Fin 4) (d : Fin 64) (b : Fin 1024) (x : S1x64x1024.Idx) (h0 : r.val = q.val + (x 0).val) (h1 : d.val = (x 1).val) (h2 : b.val = (x 2).val) :
    rowSum (F := Ideal) tok pe top w q x
      = tok (ix3 r d b) + pe (ix3 r b (d.castLE (by decide) : Fin 128)) + ∑ f : Fin 16, w (ix2 d f) * top (ix3 r f b) := by
  have hx0 : (x 0).val < 1 := (x 0).isLt
  have hx : x = ix3 0 d b := by
    funext a
    apply Fin.ext
    match a with
    | ⟨0, _⟩ => show (x 0).val = 0; omega
    | ⟨1, _⟩ => exact h1.symm
    | ⟨2, _⟩ => exact h2.symm
  have hr : r = q := Fin.ext (by omega)
  subst hx hr
  unfold rowSum
  rw [sum_entry]
  pointwise
  rfl

/-- A block of four's sum at an index. -/
theorem comb_entry (tok : FVec Ideal S4x64x1024 .f32) (pe : FVec Ideal S4x1024x128 .f32) (top : FVec Ideal S4x16x1024 .f32) (w : FVec Ideal S64x16 .f32)
    (r : Fin 4) (d : Fin 64) (b : Fin 1024) :
    comb (F := Ideal) tok pe top w (ix3 r d b)
      = tok (ix3 r d b) + pe (ix3 r b (d.castLE (by decide) : Fin 128)) + ∑ f : Fin 16, w (ix2 d f) * top (ix3 r f b) := by
  unfold comb
  canon_tiles x h
  · exact row_entry tok pe top w r 3 d b x h0 h1 h2
  · exact row_entry tok pe top w r 2 d b x h0 h1 h2
  · exact row_entry tok pe top w r 1 d b x h0 h1 h2
  · exact row_entry tok pe top w r 0 d b x (h0.trans (Nat.zero_add _).symm) h1 h2

end Cert.Proof
-- ==== Proof.Table.lean ====
/- The table's call: a row of what it leaves is a row of the table it was given, transposed. -/
module

public import proofs.«01_k».proof.Proof.Parts
public import proofs.«01_k».proof.Proof.Follow

@[expose] public section

set_option maxRecDepth 16384

noncomputable section

namespace Cert.Proof

open Cert.KernelIdeal Cert.KernelIdeal.Gen

open Idealize.ShloMosaic Idealize.ShloMosaic.TcCoe
open Idealize.ShloMosaic.Tactic

/-- Where the table call's windows stand at a grid point: the same block of the columns in, of the rows out. -/
theorem table_idx : ∀ t : Fin grid0.N, win0_0.index t 0 = 0 ∧ win0_0.index t 1 = win0_1.index t 0 ∧ win0_1.index t 1 = 0 := by
  decide +kernel

/-- The table's result in a column that holds the table, by the padded transpose the call reads. -/
theorem table_arr (V : Valuation τ sig (Elt Ideal)) (c : Dev nD) (i : Fin 100096) (k : Fin 128) (h : k.val < 64) :
    (dat0 V c).arrAt 1 cfg0.N (ix2 i k) = V (dr main_v5) (ix2 (⟨k.val, h⟩ : Fin 64) i) := by
  refine (dat0 V c).arrAt_forall_of_covers 1 (fun (i : S100096x128.Idx) v => ∀ h : (i 1).val < 64, v = V (dr main_v5) (ix2 (⟨(i 1).val, h⟩ : Fin 64) (i 0))) (by decide +kernel) (fun t hf y => ?_) (ix2 i k) (Memref.isWhole_whole _) h
  intro h
  obtain ⟨e0, e1, e2⟩ := table_idx t
  have h1 : ((y 1 : Fin 128)).val < 64 := by
    have := h
    blk_simp [e2] at this
    omega
  refine (show (dat0 V c).after 1 t y = k0_pay1 (F := Ideal) (blkOf cfg0 V 0 t) (ix2 (y 0 : Fin 4352) (y 1 : Fin 128)) from
    congrArg (k0_pay1 (F := Ideal) (blkOf cfg0 V 0 t)) (eq_ix2 (n0 := 4352) (n1 := 128) y)).trans ((table_entry _ (y 0 : Fin 4352) (y 1 : Fin 128) h1).trans ?_)
  show V (dr main_v5) (((cfg0.win 0).blk t).view.emb (ix2 (⟨(y 1 : Fin 128).val, h1⟩ : Fin 64) (y 0 : Fin 4352))) = _
  refine congrArg (V (dr main_v5)) (funext fun a => Fin.ext ?_)
  match a with
  | ⟨0, _⟩ =>
    blk_simp [e0, e2]
  | ⟨1, _⟩ =>
    blk_simp [e1]

/-- The padded transpose, inside the table. -/
theorem pad_entry (X : S100000x64.Idx → EReal) (p : S_.Idx → EReal) (r : Fin 100096) (k : Fin 64) (h : r.val < 100000) :
    pad S64x100096 ![0, 0] ![0, 96] ![0, 0] (transpose S64x100000 [1, 0] X transposes_S100000x64_S64x100000_1_0) p pads_S64x100000_S64x100096_000_0960 h_S_ (ix2 k r)
      = X (ix2 (⟨r.val, h⟩ : Fin 100000) k) := by
  pointwise
  rw [dif_pos h]

/-- What the gathers read: a row of the table is a row of the embedding, in its first 64 columns. -/
theorem table_read (W : Valuation τ sig (Elt Ideal)) (r : Fin 100096) (k : Fin 128) (hr : r.val < 100000) (hk : k.val < 64) :
    A2 W (dr main_v6) (ix2 r k) = W (dr main_arg3) (ix2 (⟨r.val, hr⟩ : Fin 100000) (⟨k.val, hk⟩ : Fin 64)) := by
  unfold A2
  rw [show Pipeline.afterRegion (dats (fun _ => A1 W) 0 0) (A1 W) (dr main_v6) = (dat0 (A1 W) 0).arrAt 1 cfg0.N from
    Pipeline.afterRegion_arr (dat0 (A1 W) 0) (A1 W) winFacts0.arr_inj 1, table_arr (A1 W) 0 r k hk, pad_eq]
  exact pad_entry _ _ r _ hr

end Cert.Proof
-- ==== Proof.Totals.lean ====
/- The sums' calls: what each leaves in its own rows of its result, over the extended reals, and that it leaves the other rows as they were. -/
module

public import proofs.«01_k».proof.Proof.Parts
public import proofs.«01_k».proof.Proof.Follow

@[expose] public section

set_option maxRecDepth 16384

noncomputable section

namespace Cert.Proof

open Cert.KernelIdeal Cert.KernelIdeal.Gen

open Idealize.ShloMosaic Idealize.ShloMosaic.TcCoe
open Idealize.ShloMosaic.Tactic

/-- One entry of the result, in the kernel's layout: a token's entry, plus its gathered row's, plus its projection's. -/
def total {n : ℕ} (T : S200x64x1024.Idx → EReal) (P : (⟨3, ![n, 1024, 128]⟩ : Shape).Idx → EReal) (Q : S200x16x1024.Idx → EReal)
    (M : S64x16.Idx → EReal) (j : Fin 200) (i : Fin n) (d : Fin 64) (b : Fin 1024) : EReal :=
  T (ix3 j d b) + P (ix3 i b (d.castLE (by decide) : Fin 128)) + ∑ f : Fin 16, M (ix2 d f) * Q (ix3 j f b)

/-- A staged block's sum is that entry, when the staged blocks are the arrays' at the entry's place. -/
theorem comb_total {n : ℕ} {T : S200x64x1024.Idx → EReal} {P : (⟨3, ![n, 1024, 128]⟩ : Shape).Idx → EReal} {Q : S200x16x1024.Idx → EReal}
    {M : S64x16.Idx → EReal} {t : FVec Ideal S4x64x1024 .f32} {p : FVec Ideal S4x1024x128 .f32} {q : FVec Ideal S4x16x1024 .f32} {m : FVec Ideal S64x16 .f32}
    {j : Fin 200} {i : Fin n} {d : Fin 64} {b : Fin 1024} (y : S4x64x1024.Idx) (h1 : d.val = (y 1).val) (h2 : b.val = (y 2).val)
    (ht : t (ix3 (y 0 : Fin 4) d b) = T (ix3 j d b))
    (hp : p (ix3 (y 0 : Fin 4) b (d.castLE (by decide) : Fin 128)) = P (ix3 i b (d.castLE (by decide) : Fin 128)))
    (hq : ∀ f, q (ix3 (y 0 : Fin 4) f b) = Q (ix3 j f b)) (hm : ∀ f, m (ix2 d f) = M (ix2 d f)) :
    comb (F := Ideal) t p q m y = total T P Q M j i d b := by
  have hy : y = (ix3 (y 0 : Fin 4) d b : S4x64x1024.Idx) := by
    funext a
    apply Fin.ext
    match a with
    | ⟨0, _⟩ => rfl
    | ⟨1, _⟩ => exact h1.symm
    | ⟨2, _⟩ => exact h2.symm
  refine (congrArg (comb (F := Ideal) t p q m) hy).trans ((comb_entry t p q m (y 0) d b).trans ?_)
  refine congrArg₂ (· + ·) (congrArg₂ (· + ·) ht hp) (Finset.sum_congr rfl fun f _ => congrArg₂ (· * ·) (hm f) (hq f))

/-- What a sum's call leaves at one entry `x` holding `v`: in its `n` rows from `o` the sum, elsewhere what was there. -/
def Left (o n : ℕ) (T : S200x64x1024.Idx → EReal) (P : (⟨3, ![n, 1024, 128]⟩ : Shape).Idx → EReal) (Q : S200x16x1024.Idx → EReal)
    (M : S64x16.Idx → EReal) (A : S200x64x1024.Idx → EReal) (x : S200x64x1024.Idx) (v : EReal) : Prop :=
  (∀ i : Fin n, (x 0).val = o + i.val → v = total T P Q M (x 0) i (x 1) (x 2))
    ∧ ((x 0).val < o ∨ o + n ≤ (x 0).val → v = A x)

/-- Where the first sum's windows stand at a grid point: the same four rows of every array. -/
theorem sum_idx5 : ∀ t : Fin grid5.N, win5_1.index t 0 < 13 ∧ (win5_0.index t 0 = win5_1.index t 0 ∧ win5_0.index t 1 = 0 ∧ win5_0.index t 2 = 0)
    ∧ (win5_1.index t 1 = 0 ∧ win5_1.index t 2 = 0)
    ∧ (win5_2.index t 0 = win5_1.index t 0 ∧ win5_2.index t 1 = 0 ∧ win5_2.index t 2 = 0)
    ∧ (win5_3.index t 0 = 0 ∧ win5_3.index t 1 = 0)
    ∧ (win5_4.index t 0 = win5_1.index t 0 ∧ win5_4.index t 1 = 0 ∧ win5_4.index t 2 = 0) := by
  decide +kernel

/-- The first call's blocks, entry by entry. -/
theorem blk5 (V : Valuation τ sig (Elt Ideal)) (t : Fin cfg5.N) (j : Fin 200) (i : Fin 52) (r : Fin 4)
    (hj : j.val = win5_1.index t 0 * 4 + r.val) (hi : i.val = win5_1.index t 0 * 4 + r.val) :
    (∀ (d : Fin 64) (b : Fin 1024), (blkOf cfg5 V 0 t : S4x64x1024.Idx → EReal) (ix3 r d b) = V (dr main_v0) (ix3 j d b))
    ∧ (∀ (b : Fin 1024) (k : Fin 128), (blkOf cfg5 V 1 t : S4x1024x128.Idx → EReal) (ix3 r b k) = V (dr main_v9) (ix3 i b k))
    ∧ (∀ (f : Fin 16) (b : Fin 1024), (blkOf cfg5 V 2 t : S4x16x1024.Idx → EReal) (ix3 r f b) = V (dr main_v1) (ix3 j f b))
    ∧ (∀ (d : Fin 64) (f : Fin 16), (blkOf cfg5 V 3 t : S64x16.Idx → EReal) (ix2 d f) = V (dr main_arg4) (ix2 d f)) := by
  obtain ⟨hlt, ⟨a0, a1, a2⟩, ⟨b1, b2⟩, ⟨c0, c1, c2⟩, ⟨d0, d1⟩, ⟨e0, e1, e2⟩⟩ := sum_idx5 t
  refine ⟨fun d b => ?_, fun b k => ?_, fun f b => ?_, fun d f => ?_⟩
  · refine congrArg (V (dr main_v0)) (funext fun a => Fin.ext (?_ : ((((cfg5.win 0).blk t).view.emb (ix3 r d b)) a).val = _))
    match a with
    | ⟨0, _⟩ => blk_simp [a0]; omega
    | ⟨1, _⟩ => blk_simp [a1]
    | ⟨2, _⟩ => blk_simp [a2]
  · refine congrArg (V (dr main_v9)) (funext fun a => Fin.ext (?_ : ((((cfg5.win 1).blk t).view.emb (ix3 r b k)) a).val = _))
    match a with
    | ⟨0, _⟩ => blk_simp; omega
    | ⟨1, _⟩ => blk_simp [b1]
    | ⟨2, _⟩ => blk_simp [b2]
  · refine congrArg (V (dr main_v1)) (funext fun a => Fin.ext (?_ : ((((cfg5.win 2).blk t).view.emb (ix3 r f b)) a).val = _))
    match a with
    | ⟨0, _⟩ => blk_simp [c0]; omega
    | ⟨1, _⟩ => blk_simp [c1]
    | ⟨2, _⟩ => blk_simp [c2]
  · refine congrArg (V (dr main_arg4)) (funext fun a => Fin.ext (?_ : ((((cfg5.win 3).blk t).view.emb (ix2 d f)) a).val = _))
    match a with
    | ⟨0, _⟩ => blk_simp [d0]
    | ⟨1, _⟩ => blk_simp [d1]

/-- The first sum's call. -/
theorem sum5 (V : Valuation τ sig (Elt Ideal)) (c : Dev nD) (x : S200x64x1024.Idx) :
    Left 0 52 (V (dr main_v0)) (V (dr main_v9)) (V (dr main_v1)) (V (dr main_arg4)) (V (dr main_v19)) x ((dat5 V c).arrAt 4 cfg5.N x) := by
  refine (dat5 V c).arrAt_forall_of_coversWhere 4 (Left 0 52 (V (dr main_v0)) (V (dr main_v9)) (V (dr main_v1)) (V (dr main_arg4)) (V (dr main_v19)))
    (fun β => β ⟨0, by decide⟩ < 13) (by decide +kernel) (fun t hf y => ?_) (fun j hj => ?_) x (Memref.isWhole_whole _)
  · have hy0 : (y 0).val < 4 := (y 0).isLt
    obtain ⟨hlt, -, -, -, -, ⟨e0, e1, e2⟩⟩ := sum_idx5 t
    have p0 : ((((cfg5.win 4).blk t).view.emb y) 0).val = win5_1.index t 0 * 4 + (y 0).val := by blk_simp [e0]
    have p1 : (y 1).val = ((((cfg5.win 4).blk t).view.emb y) 1).val := by blk_simp [e1]
    have p2 : (y 2).val = ((((cfg5.win 4).blk t).view.emb y) 2).val := by blk_simp [e2]
    generalize ((cfg5.win 4).blk t).view.emb y = x' at p0 p1 p2
    refine ⟨fun i hi => ?_, fun h => absurd h ?_⟩
    · obtain ⟨q0, q1, q2, q3⟩ := blk5 V t (x' 0) i (y 0) p0 (by omega)
      blk_simp
      dsimp only [dat5]
      exact comb_total y p1.symm p2.symm (q0 _ _) (q1 _ _) (fun f => q2 f _) (fun f => q3 _ f)
    · omega
  · blk_simp [Pipeline.Window.cell_apply] at hj
    exact ⟨fun i hi => absurd (show (j 0).val = 0 + i.val from hi) (by omega), fun _ => rfl⟩

/-- Where the second sum's windows stand at a grid point: 52 rows on in the whole arrays, the gathered rows from their own start. -/
theorem sum_idx6 : ∀ t : Fin grid6.N, win6_1.index t 0 < 13 ∧ (win6_0.index t 0 = 13 + win6_1.index t 0 ∧ win6_0.index t 1 = 0 ∧ win6_0.index t 2 = 0)
    ∧ (win6_1.index t 1 = 0 ∧ win6_1.index t 2 = 0)
    ∧ (win6_2.index t 0 = 13 + win6_1.index t 0 ∧ win6_2.index t 1 = 0 ∧ win6_2.index t 2 = 0)
    ∧ (win6_3.index t 0 = 0 ∧ win6_3.index t 1 = 0)
    ∧ (win6_4.index t 0 = 13 + win6_1.index t 0 ∧ win6_4.index t 1 = 0 ∧ win6_4.index t 2 = 0) := by
  decide +kernel

/-- The second call's blocks, entry by entry. -/
theorem blk6 (V : Valuation τ sig (Elt Ideal)) (t : Fin cfg6.N) (j : Fin 200) (i : Fin 52) (r : Fin 4)
    (hj : j.val = (13 + win6_1.index t 0) * 4 + r.val) (hi : i.val = win6_1.index t 0 * 4 + r.val) :
    (∀ (d : Fin 64) (b : Fin 1024), (blkOf cfg6 V 0 t : S4x64x1024.Idx → EReal) (ix3 r d b) = V (dr main_v0) (ix3 j d b))
    ∧ (∀ (b : Fin 1024) (k : Fin 128), (blkOf cfg6 V 1 t : S4x1024x128.Idx → EReal) (ix3 r b k) = V (dr main_v12) (ix3 i b k))
    ∧ (∀ (f : Fin 16) (b : Fin 1024), (blkOf cfg6 V 2 t : S4x16x1024.Idx → EReal) (ix3 r f b) = V (dr main_v1) (ix3 j f b))
    ∧ (∀ (d : Fin 64) (f : Fin 16), (blkOf cfg6 V 3 t : S64x16.Idx → EReal) (ix2 d f) = V (dr main_arg4) (ix2 d f)) := by
  obtain ⟨hlt, ⟨a0, a1, a2⟩, ⟨b1, b2⟩, ⟨c0, c1, c2⟩, ⟨d0, d1⟩, ⟨e0, e1, e2⟩⟩ := sum_idx6 t
  refine ⟨fun d b => ?_, fun b k => ?_, fun f b => ?_, fun d f => ?_⟩
  · refine congrArg (V (dr main_v0)) (funext fun a => Fin.ext (?_ : ((((cfg6.win 0).blk t).view.emb (ix3 r d b)) a).val = _))
    match a with
    | ⟨0, _⟩ => blk_simp [a0]; omega
    | ⟨1, _⟩ => blk_simp [a1]
    | ⟨2, _⟩ => blk_simp [a2]
  · refine congrArg (V (dr main_v12)) (funext fun a => Fin.ext (?_ : ((((cfg6.win 1).blk t).view.emb (ix3 r b k)) a).val = _))
    match a with
    | ⟨0, _⟩ => blk_simp; omega
    | ⟨1, _⟩ => blk_simp [b1]
    | ⟨2, _⟩ => blk_simp [b2]
  · refine congrArg (V (dr main_v1)) (funext fun a => Fin.ext (?_ : ((((cfg6.win 2).blk t).view.emb (ix3 r f b)) a).val = _))
    match a with
    | ⟨0, _⟩ => blk_simp [c0]; omega
    | ⟨1, _⟩ => blk_simp [c1]
    | ⟨2, _⟩ => blk_simp [c2]
  · refine congrArg (V (dr main_arg4)) (funext fun a => Fin.ext (?_ : ((((cfg6.win 3).blk t).view.emb (ix2 d f)) a).val = _))
    match a with
    | ⟨0, _⟩ => blk_simp [d0]
    | ⟨1, _⟩ => blk_simp [d1]

/-- The second sum's call. -/
theorem sum6 (V : Valuation τ sig (Elt Ideal)) (c : Dev nD) (x : S200x64x1024.Idx) :
    Left 52 52 (V (dr main_v0)) (V (dr main_v12)) (V (dr main_v1)) (V (dr main_arg4)) (V (dr main_v20)) x ((dat6 V c).arrAt 4 cfg6.N x) := by
  refine (dat6 V c).arrAt_forall_of_coversWhere 4 (Left 52 52 (V (dr main_v0)) (V (dr main_v12)) (V (dr main_v1)) (V (dr main_arg4)) (V (dr main_v20)))
    (fun β => 13 ≤ β ⟨0, by decide⟩ ∧ β ⟨0, by decide⟩ < 26) (by decide +kernel) (fun t hf y => ?_) (fun j hj => ?_) x (Memref.isWhole_whole _)
  · have hy0 : (y 0).val < 4 := (y 0).isLt
    obtain ⟨hlt, -, -, -, -, ⟨e0, e1, e2⟩⟩ := sum_idx6 t
    have p0 : ((((cfg6.win 4).blk t).view.emb y) 0).val = (13 + win6_1.index t 0) * 4 + (y 0).val := by blk_simp [e0]
    have p1 : (y 1).val = ((((cfg6.win 4).blk t).view.emb y) 1).val := by blk_simp [e1]
    have p2 : (y 2).val = ((((cfg6.win 4).blk t).view.emb y) 2).val := by blk_simp [e2]
    generalize ((cfg6.win 4).blk t).view.emb y = x' at p0 p1 p2
    refine ⟨fun i hi => ?_, fun h => absurd h ?_⟩
    · obtain ⟨q0, q1, q2, q3⟩ := blk6 V t (x' 0) i (y 0) p0 (by omega)
      blk_simp
      dsimp only [dat6]
      exact comb_total y p1.symm p2.symm (q0 _ _) (q1 _ _) (fun f => q2 f _) (fun f => q3 _ f)
    · omega
  · blk_simp [Pipeline.Window.cell_apply] at hj
    exact ⟨fun i hi => absurd (show (j 0).val = 52 + i.val from hi) (by omega), fun _ => rfl⟩

/-- Where the third sum's windows stand at a grid point: 104 rows on in the whole arrays, the gathered rows from their own start. -/
theorem sum_idx7 : ∀ t : Fin grid7.N, win7_1.index t 0 < 13 ∧ (win7_0.index t 0 = 26 + win7_1.index t 0 ∧ win7_0.index t 1 = 0 ∧ win7_0.index t 2 = 0)
    ∧ (win7_1.index t 1 = 0 ∧ win7_1.index t 2 = 0)
    ∧ (win7_2.index t 0 = 26 + win7_1.index t 0 ∧ win7_2.index t 1 = 0 ∧ win7_2.index t 2 = 0)
    ∧ (win7_3.index t 0 = 0 ∧ win7_3.index t 1 = 0)
    ∧ (win7_4.index t 0 = 26 + win7_1.index t 0 ∧ win7_4.index t 1 = 0 ∧ win7_4.index t 2 = 0) := by
  decide +kernel

/-- The third call's blocks, entry by entry. -/
theorem blk7 (V : Valuation τ sig (Elt Ideal)) (t : Fin cfg7.N) (j : Fin 200) (i : Fin 52) (r : Fin 4)
    (hj : j.val = (26 + win7_1.index t 0) * 4 + r.val) (hi : i.val = win7_1.index t 0 * 4 + r.val) :
    (∀ (d : Fin 64) (b : Fin 1024), (blkOf cfg7 V 0 t : S4x64x1024.Idx → EReal) (ix3 r d b) = V (dr main_v0) (ix3 j d b))
    ∧ (∀ (b : Fin 1024) (k : Fin 128), (blkOf cfg7 V 1 t : S4x1024x128.Idx → EReal) (ix3 r b k) = V (dr main_v15) (ix3 i b k))
    ∧ (∀ (f : Fin 16) (b : Fin 1024), (blkOf cfg7 V 2 t : S4x16x1024.Idx → EReal) (ix3 r f b) = V (dr main_v1) (ix3 j f b))
    ∧ (∀ (d : Fin 64) (f : Fin 16), (blkOf cfg7 V 3 t : S64x16.Idx → EReal) (ix2 d f) = V (dr main_arg4) (ix2 d f)) := by
  obtain ⟨hlt, ⟨a0, a1, a2⟩, ⟨b1, b2⟩, ⟨c0, c1, c2⟩, ⟨d0, d1⟩, ⟨e0, e1, e2⟩⟩ := sum_idx7 t
  refine ⟨fun d b => ?_, fun b k => ?_, fun f b => ?_, fun d f => ?_⟩
  · refine congrArg (V (dr main_v0)) (funext fun a => Fin.ext (?_ : ((((cfg7.win 0).blk t).view.emb (ix3 r d b)) a).val = _))
    match a with
    | ⟨0, _⟩ => blk_simp [a0]; omega
    | ⟨1, _⟩ => blk_simp [a1]
    | ⟨2, _⟩ => blk_simp [a2]
  · refine congrArg (V (dr main_v15)) (funext fun a => Fin.ext (?_ : ((((cfg7.win 1).blk t).view.emb (ix3 r b k)) a).val = _))
    match a with
    | ⟨0, _⟩ => blk_simp; omega
    | ⟨1, _⟩ => blk_simp [b1]
    | ⟨2, _⟩ => blk_simp [b2]
  · refine congrArg (V (dr main_v1)) (funext fun a => Fin.ext (?_ : ((((cfg7.win 2).blk t).view.emb (ix3 r f b)) a).val = _))
    match a with
    | ⟨0, _⟩ => blk_simp [c0]; omega
    | ⟨1, _⟩ => blk_simp [c1]
    | ⟨2, _⟩ => blk_simp [c2]
  · refine congrArg (V (dr main_arg4)) (funext fun a => Fin.ext (?_ : ((((cfg7.win 3).blk t).view.emb (ix2 d f)) a).val = _))
    match a with
    | ⟨0, _⟩ => blk_simp [d0]
    | ⟨1, _⟩ => blk_simp [d1]

/-- The third sum's call. -/
theorem sum7 (V : Valuation τ sig (Elt Ideal)) (c : Dev nD) (x : S200x64x1024.Idx) :
    Left 104 52 (V (dr main_v0)) (V (dr main_v15)) (V (dr main_v1)) (V (dr main_arg4)) (V (dr main_v21)) x ((dat7 V c).arrAt 4 cfg7.N x) := by
  refine (dat7 V c).arrAt_forall_of_coversWhere 4 (Left 104 52 (V (dr main_v0)) (V (dr main_v15)) (V (dr main_v1)) (V (dr main_arg4)) (V (dr main_v21)))
    (fun β => 26 ≤ β ⟨0, by decide⟩ ∧ β ⟨0, by decide⟩ < 39) (by decide +kernel) (fun t hf y => ?_) (fun j hj => ?_) x (Memref.isWhole_whole _)
  · have hy0 : (y 0).val < 4 := (y 0).isLt
    obtain ⟨hlt, -, -, -, -, ⟨e0, e1, e2⟩⟩ := sum_idx7 t
    have p0 : ((((cfg7.win 4).blk t).view.emb y) 0).val = (26 + win7_1.index t 0) * 4 + (y 0).val := by blk_simp [e0]
    have p1 : (y 1).val = ((((cfg7.win 4).blk t).view.emb y) 1).val := by blk_simp [e1]
    have p2 : (y 2).val = ((((cfg7.win 4).blk t).view.emb y) 2).val := by blk_simp [e2]
    generalize ((cfg7.win 4).blk t).view.emb y = x' at p0 p1 p2
    refine ⟨fun i hi => ?_, fun h => absurd h ?_⟩
    · obtain ⟨q0, q1, q2, q3⟩ := blk7 V t (x' 0) i (y 0) p0 (by omega)
      blk_simp
      dsimp only [dat7]
      exact comb_total y p1.symm p2.symm (q0 _ _) (q1 _ _) (fun f => q2 f _) (fun f => q3 _ f)
    · omega
  · blk_simp [Pipeline.Window.cell_apply] at hj
    exact ⟨fun i hi => absurd (show (j 0).val = 104 + i.val from hi) (by omega), fun _ => rfl⟩

/-- Where the fourth sum's windows stand at a grid point: 156 rows on in the whole arrays, the gathered rows from their own start. -/
theorem sum_idx8 : ∀ t : Fin grid8.N, win8_1.index t 0 < 11 ∧ (win8_0.index t 0 = 39 + win8_1.index t 0 ∧ win8_0.index t 1 = 0 ∧ win8_0.index t 2 = 0)
    ∧ (win8_1.index t 1 = 0 ∧ win8_1.index t 2 = 0)
    ∧ (win8_2.index t 0 = 39 + win8_1.index t 0 ∧ win8_2.index t 1 = 0 ∧ win8_2.index t 2 = 0)
    ∧ (win8_3.index t 0 = 0 ∧ win8_3.index t 1 = 0)
    ∧ (win8_4.index t 0 = 39 + win8_1.index t 0 ∧ win8_4.index t 1 = 0 ∧ win8_4.index t 2 = 0) := by
  decide +kernel

/-- The fourth call's blocks, entry by entry. -/
theorem blk8 (V : Valuation τ sig (Elt Ideal)) (t : Fin cfg8.N) (j : Fin 200) (i : Fin 44) (r : Fin 4)
    (hj : j.val = (39 + win8_1.index t 0) * 4 + r.val) (hi : i.val = win8_1.index t 0 * 4 + r.val) :
    (∀ (d : Fin 64) (b : Fin 1024), (blkOf cfg8 V 0 t : S4x64x1024.Idx → EReal) (ix3 r d b) = V (dr main_v0) (ix3 j d b))
    ∧ (∀ (b : Fin 1024) (k : Fin 128), (blkOf cfg8 V 1 t : S4x1024x128.Idx → EReal) (ix3 r b k) = V (dr main_v18) (ix3 i b k))
    ∧ (∀ (f : Fin 16) (b : Fin 1024), (blkOf cfg8 V 2 t : S4x16x1024.Idx → EReal) (ix3 r f b) = V (dr main_v1) (ix3 j f b))
    ∧ (∀ (d : Fin 64) (f : Fin 16), (blkOf cfg8 V 3 t : S64x16.Idx → EReal) (ix2 d f) = V (dr main_arg4) (ix2 d f)) := by
  obtain ⟨hlt, ⟨a0, a1, a2⟩, ⟨b1, b2⟩, ⟨c0, c1, c2⟩, ⟨d0, d1⟩, ⟨e0, e1, e2⟩⟩ := sum_idx8 t
  refine ⟨fun d b => ?_, fun b k => ?_, fun f b => ?_, fun d f => ?_⟩
  · refine congrArg (V (dr main_v0)) (funext fun a => Fin.ext (?_ : ((((cfg8.win 0).blk t).view.emb (ix3 r d b)) a).val = _))
    match a with
    | ⟨0, _⟩ => blk_simp [a0]; omega
    | ⟨1, _⟩ => blk_simp [a1]
    | ⟨2, _⟩ => blk_simp [a2]
  · refine congrArg (V (dr main_v18)) (funext fun a => Fin.ext (?_ : ((((cfg8.win 1).blk t).view.emb (ix3 r b k)) a).val = _))
    match a with
    | ⟨0, _⟩ => blk_simp; omega
    | ⟨1, _⟩ => blk_simp [b1]
    | ⟨2, _⟩ => blk_simp [b2]
  · refine congrArg (V (dr main_v1)) (funext fun a => Fin.ext (?_ : ((((cfg8.win 2).blk t).view.emb (ix3 r f b)) a).val = _))
    match a with
    | ⟨0, _⟩ => blk_simp [c0]; omega
    | ⟨1, _⟩ => blk_simp [c1]
    | ⟨2, _⟩ => blk_simp [c2]
  · refine congrArg (V (dr main_arg4)) (funext fun a => Fin.ext (?_ : ((((cfg8.win 3).blk t).view.emb (ix2 d f)) a).val = _))
    match a with
    | ⟨0, _⟩ => blk_simp [d0]
    | ⟨1, _⟩ => blk_simp [d1]

/-- The fourth sum's call. -/
theorem sum8 (V : Valuation τ sig (Elt Ideal)) (c : Dev nD) (x : S200x64x1024.Idx) :
    Left 156 44 (V (dr main_v0)) (V (dr main_v18)) (V (dr main_v1)) (V (dr main_arg4)) (V (dr main_v22)) x ((dat8 V c).arrAt 4 cfg8.N x) := by
  refine (dat8 V c).arrAt_forall_of_coversWhere 4 (Left 156 44 (V (dr main_v0)) (V (dr main_v18)) (V (dr main_v1)) (V (dr main_arg4)) (V (dr main_v22)))
    (fun β => 39 ≤ β ⟨0, by decide⟩ ∧ β ⟨0, by decide⟩ < 50) (by decide +kernel) (fun t hf y => ?_) (fun j hj => ?_) x (Memref.isWhole_whole _)
  · have hy0 : (y 0).val < 4 := (y 0).isLt
    obtain ⟨hlt, -, -, -, -, ⟨e0, e1, e2⟩⟩ := sum_idx8 t
    have p0 : ((((cfg8.win 4).blk t).view.emb y) 0).val = (39 + win8_1.index t 0) * 4 + (y 0).val := by blk_simp [e0]
    have p1 : (y 1).val = ((((cfg8.win 4).blk t).view.emb y) 1).val := by blk_simp [e1]
    have p2 : (y 2).val = ((((cfg8.win 4).blk t).view.emb y) 2).val := by blk_simp [e2]
    generalize ((cfg8.win 4).blk t).view.emb y = x' at p0 p1 p2
    refine ⟨fun i hi => ?_, fun h => absurd h ?_⟩
    · obtain ⟨q0, q1, q2, q3⟩ := blk8 V t (x' 0) i (y 0) p0 (by omega)
      blk_simp
      dsimp only [dat8]
      exact comb_total y p1.symm p2.symm (q0 _ _) (q1 _ _) (fun f => q2 f _) (fun f => q3 _ f)
    · omega
  · blk_simp [Pipeline.Window.cell_apply] at hj
    exact ⟨fun i hi => absurd (show (j 0).val = 156 + i.val from hi) (by omega), fun _ => rfl⟩

end Cert.Proof
-- ==== Proof.Value.lean ====
/- The kernel's result over the extended reals: every entry is the token's, plus its embedding row's, plus its projection's. -/
module

public import proofs.«01_k».proof.Proof.Table
public import proofs.«01_k».proof.Proof.Totals

@[expose] public section

set_option maxRecDepth 16384

noncomputable section

namespace Cert.Proof

open Cert.KernelIdeal Cert.KernelIdeal.Gen

open Idealize.ShloMosaic Idealize.ShloMosaic.TcCoe
open Idealize.ShloMosaic.Tactic

attribute [local irreducible] A1 A2 A3 A5 A7 A9 A11 A12 A13 A14 A15 A16 A17 A18 A19

/-- An entry of the embedding row that a word names. -/
def picked (E : S100000x64.Idx → EReal) (w : BitVec 32) (d : Fin 64) : EReal :=
  E (ix2 (⟨w.toNat % 100000, Nat.mod_lt _ (by decide)⟩ : Fin 100000) d)

/-- One entry of the problem's result: row `b`, position `j`, column `d`. -/
def want (X : S1024x200x64.Idx → EReal) (I : S1024x200.Idx → BitVec 32) (Q : S1024x200x16.Idx → EReal) (E : S100000x64.Idx → EReal)
    (M : S64x16.Idx → EReal) (b : Fin 1024) (j : Fin 200) (d : Fin 64) : EReal :=
  X (ix3 b j d) + picked E (I (ix2 b j)) d + ∑ f : Fin 16, M (ix2 d f) * Q (ix3 b j f)

/-- The row numbers, laid out in one row, position by position. -/
theorem word_entry (Y : S1024x200.Idx → BitVec 32) (p : Fin 204800) (b : Fin 1024) (j : Fin 200) (h : p.val = j.val * 1024 + b.val) :
    shapeCast S1x204800 (transpose S200x1024 [1, 0] Y transposes_S1024x200_S200x1024_1_0) shapeCasts_S200x1024_S1x204800 (ix2 0 p) = Y (ix2 b j) := by
  pointwise
  exact congrArg Y (congrArg₂ ix2 (Fin.ext (by show p.val % 1024 = b.val; omega)) (Fin.ext (by show p.val / 1024 = j.val; omega)))

/-- The gathered rows of 52 positions, or of 44, at an entry. -/
theorem fold52 (R : S53248x128.Idx → EReal) (i : Fin 52) (b : Fin 1024) (k : Fin 128) :
    shapeCast S52x1024x128 R shapeCasts_S53248x128_S52x1024x128 (ix3 i b k) = R (ix2 (⟨i.val * 1024 + b.val, by omega⟩ : Fin 53248) k) := by
  pointwise
theorem fold44 (R : S45056x128.Idx → EReal) (i : Fin 44) (b : Fin 1024) (k : Fin 128) :
    shapeCast S44x1024x128 R shapeCasts_S45056x128_S44x1024x128 (ix3 i b k) = R (ix2 (⟨i.val * 1024 + b.val, by omega⟩ : Fin 45056) k) := by
  pointwise

/-- A gathered entry whose row number is the word of position `j` in row `b`: the entry of that word's embedding row. -/
theorem rows_entry (W : Valuation τ sig (Elt Ideal)) (hW : ∀ j, (W (dr main_arg1) j : BitVec 32).toNat < 100000) {n : ℕ} (ids : (SI n).Idx → BitVec 32) (q : Fin n)
    (b : Fin 1024) (j : Fin 200) (d : Fin 64) (h : ids (ix2 0 q) = W (dr main_arg1) (ix2 b j)) :
    rowsOf (F := Ideal) (A2 W (dr main_v6)) ids (ix2 q (d.castLE (by decide) : Fin 128)) = picked (W (dr main_arg3)) (W (dr main_arg1) (ix2 b j)) d := by
  have e : ids (at2 (0 : Fin 1) q) = W (dr main_arg1) (ix2 b j) := (congrArg ids (at2_ext rfl rfl).symm).trans h
  have hb : (W (dr main_arg1) (ix2 b j) : BitVec 32).toNat < 100000 := hW _
  refine (congrArg (A2 W (dr main_v6)) (at2_ext (a := 100096) (b := 128) rfl rfl).symm).trans ((table_read W _ (d.castLE (by decide) : Fin 128) ?_ d.isLt).trans ?_)
  · show (ids (at2 (0 : Fin 1) q)).toNat % 100096 < 100000
    rw [e]; omega
  · refine congrArg (W (dr main_arg3)) (congrArg₂ ix2 (Fin.ext ?_) (Fin.ext rfl))
    show (ids (at2 (0 : Fin 1) q)).toNat % 100096 = (W (dr main_arg1) (ix2 b j) : BitVec 32).toNat % 100000
    rw [e]; omega

/-- The words of one gather: its slice of the row of words, `o` positions on. -/
theorem slice_word (W : Valuation τ sig (Elt Ideal)) {n o : ℕ} (hs : S1x204800.Slices ![0, o] (SI n)) (q : Fin n) (b : Fin 1024) (j : Fin 200)
    (h : o + q.val = j.val * 1024 + b.val) :
    extractStridedSlice (SI n) ![0, o] (A1 W (dr main_v3) : S1x204800.Idx → BitVec 32) hs (ix2 0 q) = W (dr main_arg1) (ix2 b j) := by
  rw [ids_row]
  refine (extractStridedSlice_apply _ _ _ _ (ix2 0 (⟨j.val * 1024 + b.val, by omega⟩ : Fin 204800)) (fun a => ?_)).trans (word_entry _ _ b j rfl)
  match a with
  | ⟨0, _⟩ => rfl
  | ⟨1, _⟩ => exact h.symm

/-- The four gathers' results: an entry of the embedding row of each position's word. -/
theorem gathered0 (W : Valuation τ sig (Elt Ideal)) (hW : ∀ j, (W (dr main_arg1) j : BitVec 32).toNat < 100000) (i : Fin 52) (j : Fin 200) (b : Fin 1024) (d : Fin 64)
    (h : j.val = 0 + i.val) :
    A11 W (dr main_v9) (ix3 i b (d.castLE (by decide) : Fin 128)) = picked (W (dr main_arg3)) (W (dr main_arg1) (ix2 b j)) d := by
  rw [rows0_eq, fold52]
  refine rows_entry W hW _ _ b j d ?_
  rw [ids0_eq]
  exact slice_word W (n := 53248) _ _ b j (by dsimp only; omega)
theorem gathered1 (W : Valuation τ sig (Elt Ideal)) (hW : ∀ j, (W (dr main_arg1) j : BitVec 32).toNat < 100000) (i : Fin 52) (j : Fin 200) (b : Fin 1024) (d : Fin 64)
    (h : j.val = 52 + i.val) :
    A11 W (dr main_v12) (ix3 i b (d.castLE (by decide) : Fin 128)) = picked (W (dr main_arg3)) (W (dr main_arg1) (ix2 b j)) d := by
  rw [rows1_eq, fold52]
  refine rows_entry W hW _ _ b j d ?_
  rw [ids1_eq]
  exact slice_word W (n := 53248) _ _ b j (by dsimp only; omega)
theorem gathered2 (W : Valuation τ sig (Elt Ideal)) (hW : ∀ j, (W (dr main_arg1) j : BitVec 32).toNat < 100000) (i : Fin 52) (j : Fin 200) (b : Fin 1024) (d : Fin 64)
    (h : j.val = 104 + i.val) :
    A11 W (dr main_v15) (ix3 i b (d.castLE (by decide) : Fin 128)) = picked (W (dr main_arg3)) (W (dr main_arg1) (ix2 b j)) d := by
  rw [rows2_eq, fold52]
  refine rows_entry W hW _ _ b j d ?_
  rw [ids2_eq]
  exact slice_word W (n := 53248) _ _ b j (by dsimp only; omega)
theorem gathered3 (W : Valuation τ sig (Elt Ideal)) (hW : ∀ j, (W (dr main_arg1) j : BitVec 32).toNat < 100000) (i : Fin 44) (j : Fin 200) (b : Fin 1024) (d : Fin 64)
    (h : j.val = 156 + i.val) :
    A11 W (dr main_v18) (ix3 i b (d.castLE (by decide) : Fin 128)) = picked (W (dr main_arg3)) (W (dr main_arg1) (ix2 b j)) d := by
  rw [rows3_eq, fold44]
  refine rows_entry W hW _ _ b j d ?_
  rw [ids3_eq]
  exact slice_word W (n := 45056) _ _ b j (by dsimp only; omega)

/-- The problem's entry over a valuation's arguments. -/
abbrev wantOf (W : Valuation τ sig (Elt Ideal)) (b : Fin 1024) (j : Fin 200) (d : Fin 64) : EReal :=
  want (W (dr main_arg0)) (W (dr main_arg1)) (W (dr main_arg2)) (W (dr main_arg3)) (W (dr main_arg4)) b j d

/-- A call's entry is the problem's, when its gathered row is the word's embedding row. -/
theorem total_want (W : Valuation τ sig (Elt Ideal)) {n : ℕ} (P : (⟨3, ![n, 1024, 128]⟩ : Shape).Idx → EReal) (j : Fin 200) (i : Fin n) (d : Fin 64) (b : Fin 1024)
    (hP : P (ix3 i b (d.castLE (by decide) : Fin 128)) = picked (W (dr main_arg3)) (W (dr main_arg1) (ix2 b j)) d) :
    total (A11 W (dr main_v0)) P (A11 W (dr main_v1)) (A11 W (dr main_arg4)) j i d b = wantOf W b j d := by
  rw [keep11 W (b := main_v0) (by decide), keep11 W (b := main_v1) (by decide), keep11 W (b := main_arg4) (by decide), keep2 W (b := main_v0) (by decide), keep2 W (b := main_v1) (by decide), keep2 W (b := main_arg4) (by decide), keep1 W (b := main_arg4) (by decide), tok_eq, topo_eq]
  unfold total
  rw [hP]
  unfold wantOf want
  pointwise

/-- A buffer that no sum's call and no operation between them writes holds at each of the calls what it held before the first. -/
theorem keep_mid (W : Valuation τ sig (Elt Ideal)) {b : Ref sig .tc} (h : b ∉ [main_v19, main_v20, main_v21, main_v22]) :
    A13 W (dr b) = A11 W (dr b) ∧ A15 W (dr b) = A11 W (dr b) ∧ A17 W (dr b) = A11 W (dr b) := by
  simp only [List.mem_cons, List.not_mem_nil, or_false, not_or] at h
  obtain ⟨h19, h20, h21, h22⟩ := h
  have e13 : A13 W (dr b) = A11 W (dr b) := by rw [A13, op_keeps opC1 rfl h20, keep12 W h19]
  have e15 : A15 W (dr b) = A11 W (dr b) := by rw [A15, op_keeps opC2 rfl h21, keep14 W h20, e13]
  exact ⟨e13, e15, by rw [A17, op_keeps opC3 rfl h22, keep16 W h21, e15]⟩

/-- Each later sum's call starts from the result of the one before. -/
theorem copy13 (W : Valuation τ sig (Elt Ideal)) : A13 W (dr main_v20) = A12 W (dr main_v19) := by
  unfold A13; exact StableHlo.unary_result _ _ _ _ _ _
theorem copy15 (W : Valuation τ sig (Elt Ideal)) : A15 W (dr main_v21) = A14 W (dr main_v20) := by
  unfold A15; exact StableHlo.unary_result _ _ _ _ _ _
theorem copy17 (W : Valuation τ sig (Elt Ideal)) : A17 W (dr main_v22) = A16 W (dr main_v21) := by
  unfold A17; exact StableHlo.unary_result _ _ _ _ _ _

/-- What each sum's call leaves. -/
theorem left12 (W : Valuation τ sig (Elt Ideal)) (x : S200x64x1024.Idx) :
    Left 0 52 (A11 W (dr main_v0)) (A11 W (dr main_v9)) (A11 W (dr main_v1)) (A11 W (dr main_arg4)) (A11 W (dr main_v19)) x (A12 W (dr main_v19) x) := by
  unfold A12
  rw [show Pipeline.afterRegion (dats (fun _ => A11 W) 1 0) (A11 W) (dr main_v19) = (dat5 (A11 W) 0).arrAt 4 cfg5.N from
    Pipeline.afterRegion_arr (dat5 (A11 W) 0) (A11 W) winFacts5.arr_inj 4]
  exact sum5 (A11 W) 0 x
theorem left14 (W : Valuation τ sig (Elt Ideal)) (x : S200x64x1024.Idx) :
    Left 52 52 (A11 W (dr main_v0)) (A11 W (dr main_v12)) (A11 W (dr main_v1)) (A11 W (dr main_arg4)) (A12 W (dr main_v19)) x (A14 W (dr main_v20) x) := by
  rw [← copy13, ← (keep_mid W (b := main_v0) (by decide)).1, ← (keep_mid W (b := main_v12) (by decide)).1, ← (keep_mid W (b := main_v1) (by decide)).1,
    ← (keep_mid W (b := main_arg4) (by decide)).1]
  unfold A14
  rw [show Pipeline.afterRegion (dats (fun _ => A13 W) 2 0) (A13 W) (dr main_v20) = (dat6 (A13 W) 0).arrAt 4 cfg6.N from
    Pipeline.afterRegion_arr (dat6 (A13 W) 0) (A13 W) winFacts6.arr_inj 4]
  exact sum6 (A13 W) 0 x
theorem left16 (W : Valuation τ sig (Elt Ideal)) (x : S200x64x1024.Idx) :
    Left 104 52 (A11 W (dr main_v0)) (A11 W (dr main_v15)) (A11 W (dr main_v1)) (A11 W (dr main_arg4)) (A14 W (dr main_v20)) x (A16 W (dr main_v21) x) := by
  rw [← copy15, ← (keep_mid W (b := main_v0) (by decide)).2.1, ← (keep_mid W (b := main_v15) (by decide)).2.1, ← (keep_mid W (b := main_v1) (by decide)).2.1,
    ← (keep_mid W (b := main_arg4) (by decide)).2.1]
  unfold A16
  rw [show Pipeline.afterRegion (dats (fun _ => A15 W) 3 0) (A15 W) (dr main_v21) = (dat7 (A15 W) 0).arrAt 4 cfg7.N from
    Pipeline.afterRegion_arr (dat7 (A15 W) 0) (A15 W) winFacts7.arr_inj 4]
  exact sum7 (A15 W) 0 x
theorem left18 (W : Valuation τ sig (Elt Ideal)) (x : S200x64x1024.Idx) :
    Left 156 44 (A11 W (dr main_v0)) (A11 W (dr main_v18)) (A11 W (dr main_v1)) (A11 W (dr main_arg4)) (A16 W (dr main_v21)) x (A18 W (dr main_v22) x) := by
  rw [← copy17, ← (keep_mid W (b := main_v0) (by decide)).2.2, ← (keep_mid W (b := main_v18) (by decide)).2.2, ← (keep_mid W (b := main_v1) (by decide)).2.2,
    ← (keep_mid W (b := main_arg4) (by decide)).2.2]
  unfold A18
  rw [show Pipeline.afterRegion (dats (fun _ => A17 W) 4 0) (A17 W) (dr main_v22) = (dat8 (A17 W) 0).arrAt 4 cfg8.N from
    Pipeline.afterRegion_arr (dat8 (A17 W) 0) (A17 W) winFacts8.arr_inj 4]
  exact sum8 (A17 W) 0 x

/-- After the four sums every row is in place: the call that owns the row wrote it, and no later call touched it. -/
theorem sums_entry (W : Valuation τ sig (Elt Ideal)) (hW : ∀ j, (W (dr main_arg1) j : BitVec 32).toNat < 100000) (j : Fin 200) (d : Fin 64) (b : Fin 1024) :
    A18 W (dr main_v22) (ix3 j d b) = wantOf W b j d := by
  have l12 := left12 W (ix3 j d b)
  have l14 := left14 W (ix3 j d b)
  have l16 := left16 W (ix3 j d b)
  have l18 := left18 W (ix3 j d b)
  have hj := j.isLt
  by_cases h3 : 156 ≤ j.val
  · have e : j.val = 156 + (j.val - 156) := by omega
    exact (l18.1 ⟨j.val - 156, by omega⟩ e).trans (total_want W _ j _ d b (gathered3 W hW _ j b d e))
  refine (l18.2 (Or.inl (show j.val < 156 by omega))).trans ?_
  by_cases h2 : 104 ≤ j.val
  · have e : j.val = 104 + (j.val - 104) := by omega
    exact (l16.1 ⟨j.val - 104, by omega⟩ e).trans (total_want W _ j _ d b (gathered2 W hW _ j b d e))
  refine (l16.2 (Or.inl (show j.val < 104 by omega))).trans ?_
  by_cases h1 : 52 ≤ j.val
  · have e : j.val = 52 + (j.val - 52) := by omega
    exact (l14.1 ⟨j.val - 52, by omega⟩ e).trans (total_want W _ j _ d b (gathered1 W hW _ j b d e))
  refine (l14.2 (Or.inl (show j.val < 52 by omega))).trans ?_
  have e : j.val = 0 + j.val := by omega
  exact (l12.1 ⟨j.val, by omega⟩ e).trans (total_want W _ j _ d b (gathered0 W hW _ j b d e))

/-- The kernel's result. -/
theorem out_entry (W : Valuation τ sig (Elt Ideal)) (hW : ∀ j, (W (dr main_arg1) j : BitVec 32).toNat < 100000) (b : Fin 1024) (j : Fin 200) (d : Fin 64) :
    A19 W (dr main_v23) (ix3 b j d) = wantOf W b j d := by
  refine Eq.trans ?_ (sums_entry W hW j d b)
  rw [show A19 W (dr main_v23) = transpose S1024x200x64 [2, 0, 1] (A18 W (dr main_v22)) transposes_S200x64x1024_S1024x200x64_2_0_1 by
    unfold A19; exact StableHlo.unary_result _ _ _ _ _ _]
  pointwise

end Cert.Proof
-- ==== Proof.Refer.lean ====
/- The reference's result over the extended reals, read at one index. -/
module

public import proofs.«01_k».proof.Proof.Value
public import proofs.«01_k».proof.Proof.Gen.ReferenceIdeal.Run
public import Idealize.ShloMosaic.Lib.ReduceAll

@[expose] public section

set_option maxRecDepth 16384

noncomputable section

namespace Cert.Proof

open Cert.ReferenceIdeal Cert.ReferenceIdeal.Gen

open Idealize.ShloMosaic Idealize.ShloMosaic.TcCoe
open Idealize.ShloMosaic.Tactic

/-- The row each token's lookup starts at: the token's word, a negative one counted from the table's end. -/
def starts (I : S1024x200.Idx → BitVec 32) : S1024x200x1.Idx → BitVec 32 :=
  broadcastInDim S1024x200x1 ![0, 1] bcast_S1024x200_S1024x200x1_0_1 (select (cmpi .slt I (broadcastInDim S1024x200 ![] bcast_S_S1024x200 (constantI S_ 32 0#32))) (addi I (broadcastInDim S1024x200 ![] bcast_S_S1024x200 (constantI S_ 32 100000#32))) I)

/-- Whether each lookup's start lies inside the table. -/
def inside (I : S1024x200.Idx → BitVec 32) : S1024x200x1.Idx → BitVec 1 :=
  andi (cmpi .sge (starts I) (broadcastInDim S1024x200x1 ![] bcast_S_S1024x200x1 (constantI S_ 32 0#32))) (cmpi .sle (starts I) (broadcastInDim S1024x200x1 ![0, 1, 2] bcast_S1x1x1_S1024x200x1_0_1_2 (broadcastInDim S1x1x1 ![2] bcast_S1_S1x1x1_2 (constantI S1 32 99999#32))))

/-- The reference's result, by its arguments. -/
def refOut (X : FVec Ideal S1024x200x64 .f32) (I : S1024x200.Idx → BitVec 32) (Q : FVec Ideal S1024x200x16 .f32) (E : FVec Ideal S100000x64 .f32)
    (M : FVec Ideal S64x16 .f32) : FVec Ideal S1024x200x64 .f32 :=
  addf X (addf (select (broadcastInDim S1024x200x64 ![0, 1] bcast_S1024x200_S1024x200x64_0_1 (Host.reduce IntOp.andi (inside I) (constantI S_ 1 1#1) reducesTo_S1024x200x1_S1024x200_d2 h_S_)) (Host.gather gather_S100000x64_S1024x200x1_S1024x200x64_2_0_n_n_0_2_164 E (starts I)) (broadcastInDim S1024x200x64 ![] bcast_S_S1024x200x64 (constant S_ .f32 0x7FC00000#32))) (Host.dotGeneral dot_S1024x200x16_S64x16_S1024x200x64_2_1_01_0_n_n none Q M))

/-- A word below the table's size is not negative, and reads the same signed. -/
theorem word_signed (w : BitVec 32) (h : w.toNat < 100000) : w.toInt = w.toNat := by
  rw [BitVec.toInt_eq_toNat_cond, if_pos (by omega)]

/-- A word below the table's size starts its lookup at itself. -/
theorem starts_entry (I : S1024x200.Idx → BitVec 32) (h : ∀ j, (I j).toNat < 100000) (b : Fin 1024) (j : Fin 200) (z : Fin 1) :
    starts I (ix3 b j z) = I (ix2 b j) := by
  pointwise [starts]
  have hb := word_signed _ (h (ix2 b j))
  have hn : IntOp.cmpi .slt (I (ix2 b j)) 0#32 ≠ 1#1 := by
    rw [Ne, IntOp.cmpi_slt, hb]
    exact not_lt.mpr (Int.natCast_nonneg _)
  exact if_neg hn

/-- And lies inside. -/
theorem inside_entry (I : S1024x200.Idx → BitVec 32) (h : ∀ j, (I j).toNat < 100000) (x : S1024x200x1.Idx) : inside I x = 1#1 := by
  idx_vars x
  have e := starts_entry I h
  pointwise [inside, e]
  have hx := h (ix2 x0 x1)
  have hb := word_signed _ hx
  refine IntOp.andi_eq_one.mpr ⟨IntOp.cmpi_sge.mpr ?_, IntOp.cmpi_sle.mpr ?_⟩
  · rw [hb]
    exact Int.natCast_nonneg _
  · rw [hb]
    show ((I (ix2 x0 x1)).toNat : Int) ≤ 99999
    omega

/-- A lookup inside the table reads the word's row. -/
theorem lookup_entry (I : S1024x200.Idx → BitVec 32) (h : ∀ j, (I j).toNat < 100000) (E : S100000x64.Idx → EReal) (b : Fin 1024) (j : Fin 200) (d : Fin 64) :
    Host.gather gather_S100000x64_S1024x200x1_S1024x200x64_2_0_n_n_0_2_164 E (starts I) (ix3 b j d) = picked E (I (ix2 b j)) d := by
  unfold Host.gather picked
  refine congrArg E (funext fun a => Fin.ext ?_)
  have hb := h (ix2 b j)
  show GatherDims.start _ (ix3 b j d) (starts I) a + GatherDims.batchCoord _ (ix3 b j d) a + GatherDims.offCoord _ (ix3 b j d) a = _
  rw [GatherDims.batchCoord_eq_zero _ _ _ List.not_mem_nil, Nat.add_zero]
  match a with
  | ⟨0, p⟩ =>
    rw [GatherDims.offCoord_eq_zero _ _ _ (fun k => ((GatherDims.mem_sKept _ _).mp k).1 (List.mem_singleton.mpr rfl)), Nat.add_zero]
    unfold GatherDims.start
    rw [dif_pos (show (⟨0, p⟩ : Fin S100000x64.rank) ∈ (gather_S100000x64_S1024x200x1_S1024x200x64_2_0_n_n_0_2_164).startIndexMap from List.mem_singleton.mpr rfl)]
    refine (congrArg (fun i => min (starts I i).toInt.toNat 99999) (funext fun q => ?_ : _ = ix3 b j (0 : Fin 1))).trans ?_
    · match q with
      | ⟨0, _⟩ => rfl
      | ⟨1, _⟩ => rfl
      | ⟨2, _⟩ => rfl
    · show min (starts I (ix3 b j 0)).toInt.toNat 99999 = (I (ix2 b j)).toNat % 100000
      rw [starts_entry I h, word_signed _ hb]
      omega
  | ⟨1, p⟩ =>
    unfold GatherDims.start
    rw [dif_neg (show _ ∉ (gather_S100000x64_S1024x200x1_S1024x200x64_2_0_n_n_0_2_164).startIndexMap from fun k => absurd (congrArg Fin.val (List.mem_singleton.mp k)) Nat.one_ne_zero), Nat.zero_add]
    unfold GatherDims.offCoord
    rw [dif_pos (show (⟨1, p⟩ : Fin S100000x64.rank) ∈ (gather_S100000x64_S1024x200x1_S1024x200x64_2_0_n_n_0_2_164).sKept from (GatherDims.mem_sKept _ _).mpr ⟨fun k => absurd (congrArg Fin.val (List.mem_singleton.mp k)) Nat.one_ne_zero, List.not_mem_nil⟩)]
    rfl

/-- The reference's entry is the problem's. -/
theorem refOut_entry (X : FVec Ideal S1024x200x64 .f32) (I : S1024x200.Idx → BitVec 32) (Q : FVec Ideal S1024x200x16 .f32) (E : FVec Ideal S100000x64 .f32)
    (M : FVec Ideal S64x16 .f32) (h : ∀ j, (I j).toNat < 100000) (b : Fin 1024) (j : Fin 200) (d : Fin 64) :
    refOut X I Q E M (ix3 b j d) = want X I Q E M b j d := by
  have hdot : Host.dotGeneral (F := Ideal) (φ₁ := .f32) (φ₂ := .f32) dot_S1024x200x16_S64x16_S1024x200x64_2_1_01_0_n_n none Q M (ix3 b j d) = ∑ f : Fin 16, M (ix2 d f) * Q (ix3 b j f) := by
    pointwise
    exact Finset.sum_congr rfl fun f _ => mul_comm _ _
  have hmask : ∀ y, Host.reduce IntOp.andi (inside I) (constantI S_ 1 1#1) reducesTo_S1024x200x1_S1024x200_d2 h_S_ y = 1#1 :=
    fun y => Host.reduce_andi_one _ _ _ _ y rfl (inside_entry I h)
  have hrow := lookup_entry I h E b j d
  unfold refOut want
  rw [add_assoc, ← hdot, ← hrow]
  generalize Host.dotGeneral (F := Ideal) (φ₁ := .f32) (φ₂ := .f32) dot_S1024x200x16_S64x16_S1024x200x64_2_1_01_0_n_n none Q M = P
  generalize Host.gather gather_S100000x64_S1024x200x1_S1024x200x64_2_0_n_n_0_2_164 E (starts I) = R
  generalize Host.reduce IntOp.andi (inside I) (constantI S_ 1 1#1) reducesTo_S1024x200x1_S1024x200_d2 h_S_ = K at hmask ⊢
  pointwise [hmask]

end Cert.Proof
-- ==== Proof.Algebraic.lean ====
/- The idealised program and the reference end with the same result. -/
module

public import proofs.«01_k».proof.Defs
public import proofs.«01_k».proof.Proof.Run
public import proofs.«01_k».proof.Proof.Refer

@[expose] public section

set_option maxRecDepth 16384

noncomputable section

namespace Cert.Proof

open Cert.KernelIdeal Cert.KernelIdeal.Gen

open Idealize.ShloMosaic Idealize.ShloMosaic.TcCoe
open Idealize.SL.Sem

/-- The reference's result, of the same arguments, is the buffer the run ends with. -/
theorem result_eq (W : Valuation τ sig (Elt Ideal)) (hW : ∀ j, (W (dr main_arg1) j : BitVec 32).toNat < 100000) :
    (refOut (W (dr main_arg0)) (W (dr main_arg1)) (W (dr main_arg2)) (W (dr main_arg3)) (W (dr main_arg4)) : S1024x200x64.Idx → EReal) = A19 W (dr main_v23) := by
  funext y
  rw [eq_ix3 y]
  exact (refOut_entry _ _ _ _ _ hW _ _ _).trans (out_entry W hW _ _ _).symm

/-- From memories that agree on the arguments, the idealised program and the reference end with equal results. -/
theorem algebraic : Cert.algebraic_KernelIdeal_ReferenceIdeal := fun m g m' g' hpre hagree => by
  have hb : ∀ (d : Dev nD) j, (V0 m d (dr main_arg1) j : BitVec 32).toNat < 100000 := fun d j => ids_of_pre _ _ _ _ _ (hpre d) j
  refine ⟨fun c => A19 (V0 m c) (dr main_v23), (θ_run Cert.KernelIdeal.defs _ _).mono (fun r h => h.1) (run_result m g hb), (θ_run Cert.ReferenceIdeal.defs _ _).mono (fun r h c => ⟨(h c).1.trans ?_, (h c).2⟩)
    (Cert.ReferenceIdeal.Value.run (F := Ideal) m' g')⟩
  obtain ⟨e0, e1, e2, e3, e4⟩ := hagree c
  refine Eq.trans ?_ (result_eq (V0 m c) (hb c))
  rw [e0, e1, e2, e3, e4]
  rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Gen.Pre_ids_in_range
public import Idealize.ShloMosaic.Adequacy
public import Idealize.ShloMosaic.Init

@[expose] public section

noncomputable section

namespace Cert.Proof

open Idealize.ShloMosaic Idealize.SL.Sem Cert.Kernel

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem claim : Cert.Claim := ⟨Cert.Kernel.Gen.facts, Cert.KernelIdeal.Gen.facts, Cert.ReferenceIdeal.Gen.facts, Cert.Pre_ids_in_range.Gen.facts,
  frame_kernel, frame_ideal, frame_reference, trivial, algebraic⟩

end Cert.Proof

end
